-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_over_8" .f32 0x3E38AA3B#32 (((1 / 8) * (Real.log 2)⁻¹ : ℝ) : EReal)

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_normal : Cert.Pre_scales_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
-- ==== Pre_scales_normal.lean ====
abbrev S2x32768x1024 : Shape := ⟨3, ![2, 32768, 1024]⟩
abbrev S2x16x32768 : Shape := ⟨3, ![2, 16, 32768]⟩
abbrev S2x4x32768x64 : Shape := ⟨4, ![2, 4, 32768, 64]⟩
abbrev S2x4x32768 : Shape := ⟨3, ![2, 4, 32768]⟩
abbrev S2x256x32768 : Shape := ⟨3, ![2, 256, 32768]⟩
abbrev S2x4x64 : Shape := ⟨3, ![2, 4, 64]⟩
abbrev S_ : Shape := ⟨0, ![]⟩

class Facts : Prop where
  bcast_S_S2x16x32768 : S_.BroadcastsInDim S2x16x32768 (![] : Fin 0 → Fin S2x16x32768.rank)

variable [Facts]

def fn {F : FTy → Type} [FloatOps F] (main_arg0 : FVec F S2x32768x1024 .fp8e4m3) (main_arg1 : FVec F S2x16x32768 .f32) (main_arg2 : FVec F S2x4x32768x64 .fp8e4m3) (main_arg3 : FVec F S2x4x32768 .f32) (main_arg4 : FVec F S2x256x32768 .fp8e4m3) (main_arg5 : FVec F S2x4x64 .f32) : IVec S2x16x32768 1 :=
  let main_cst : FVec F S_ .f32 := constant S_ .f32 0x03000000#32
  let main_v0 : FVec F S2x16x32768 .f32 := broadcastInDim S2x16x32768 ![] bcast_S_S2x16x32768 main_cst
  let main_v1 : IVec S2x16x32768 1 := cmpf .oge main_arg1 main_v0
  let main_cst_0 : FVec F S_ .f32 := constant S_ .f32 0x7F800000#32
  let main_v2 : FVec F S2x16x32768 .f32 := broadcastInDim S2x16x32768 ![] bcast_S_S2x16x32768 main_cst_0
  let main_v3 : IVec S2x16x32768 1 := cmpf .olt main_arg1 main_v2
  let main_v4 : IVec S2x16x32768 1 := andi main_v1 main_v3
  main_v4
-- ==== Kernel.lean ====
abbrev S2x32768x1024 : Shape := ⟨3, ![2, 32768, 1024]⟩
abbrev S2x16x32768 : Shape := ⟨3, ![2, 16, 32768]⟩
abbrev S2x4x32768x64 : Shape := ⟨4, ![2, 4, 32768, 64]⟩
abbrev S2x4x32768 : Shape := ⟨3, ![2, 4, 32768]⟩
abbrev S2x256x32768 : Shape := ⟨3, ![2, 256, 32768]⟩
abbrev S2x4x64 : Shape := ⟨3, ![2, 4, 64]⟩
abbrev S2x4x32768x1 : Shape := ⟨4, ![2, 4, 32768, 1]⟩
abbrev S2x4x32768x128 : Shape := ⟨4, ![2, 4, 32768, 128]⟩
abbrev S8x64x1 : Shape := ⟨3, ![8, 64, 1]⟩
abbrev S8x64x128 : Shape := ⟨3, ![8, 64, 128]⟩
abbrev S8x32768x64 : Shape := ⟨3, ![8, 32768, 64]⟩
abbrev S8x32768x128 : Shape := ⟨3, ![8, 32768, 128]⟩
abbrev S8x64x32768 : Shape := ⟨3, ![8, 64, 32768]⟩
abbrev S2x4x4x32768 : Shape := ⟨4, ![2, 4, 4, 32768]⟩
abbrev S1x1024x256 : Shape := ⟨3, ![1, 1024, 256]⟩
abbrev S1x1x4x1024 : Shape := ⟨4, ![1, 1, 4, 1024]⟩
abbrev S1x64x128 : Shape := ⟨3, ![1, 64, 128]⟩
abbrev S32768x256 : Shape := ⟨2, ![32768, 256]⟩
abbrev S32768x128 : Shape := ⟨2, ![32768, 128]⟩
abbrev S32768x64 : Shape := ⟨2, ![32768, 64]⟩
abbrev S64x32768 : Shape := ⟨2, ![64, 32768]⟩
abbrev S1024x256 : Shape := ⟨2, ![1024, 256]⟩
abbrev S16x256x64 : Shape := ⟨3, ![16, 256, 64]⟩
abbrev S16x8x256 : Shape := ⟨3, ![16, 8, 256]⟩
abbrev S8x256 : Shape := ⟨2, ![8, 256]⟩
abbrev S16x64x256 : Shape := ⟨3, ![16, 64, 256]⟩
abbrev S3 : Shape := ⟨1, ![3]⟩
abbrev S128x256 : Shape := ⟨2, ![128, 256]⟩
abbrev S1 : Shape := ⟨1, ![1]⟩
abbrev S_ : Shape := ⟨0, ![]⟩
abbrev S1x32768x64 : Shape := ⟨3, ![1, 32768, 64]⟩
abbrev S1x32768x128 : Shape := ⟨3, ![1, 32768, 128]⟩
abbrev S1x64x32768 : Shape := ⟨3, ![1, 64, 32768]⟩
abbrev S1x256x64 : Shape := ⟨3, ![1, 256, 64]⟩
abbrev S256x64 : Shape := ⟨2, ![256, 64]⟩
abbrev S1x1x1x256 : Shape := ⟨4, ![1, 1, 1, 256]⟩
abbrev S1x256 : Shape := ⟨2, ![1, 256]⟩
abbrev S1x8x256 : Shape := ⟨3, ![1, 8, 256]⟩
abbrev S64x256 : Shape := ⟨2, ![64, 256]⟩
abbrev S128x64 : Shape := ⟨2, ![128, 64]⟩
abbrev S128x128 : Shape := ⟨2, ![128, 128]⟩
abbrev S64x1024 : Shape := ⟨2, ![64, 1024]⟩
abbrev S1x64x256 : Shape := ⟨3, ![1, 64, 256]⟩
abbrev S256 : Shape := ⟨1, ![256]⟩
abbrev S64x128 : Shape := ⟨2, ![64, 128]⟩
abbrev S256x256 : Shape := ⟨2, ![256, 256]⟩
abbrev S1x256x256 : Shape := ⟨3, ![1, 256, 256]⟩

abbrev nBuf : Space → Nat
  | .hbm => 15
  | .vmem => 19
  | .smem => 0
  | _ => 0

abbrev bufTy : (tb : Table) → Fin (tcTables nBuf tb) → BufTy
  | .hbm, ⟨0, _⟩ => ⟨S2x32768x1024, .fp8e4m3⟩
  | .hbm, ⟨1, _⟩ => ⟨S2x16x32768, .f32⟩
  | .hbm, ⟨2, _⟩ => ⟨S2x4x32768x64, .fp8e4m3⟩
  | .hbm, ⟨3, _⟩ => ⟨S2x4x32768, .f32⟩
  | .hbm, ⟨4, _⟩ => ⟨S2x256x32768, .fp8e4m3⟩
  | .hbm, ⟨5, _⟩ => ⟨S2x4x64, .f32⟩
  | .hbm, ⟨6, _⟩ => ⟨S2x4x32768x1, .f32⟩
  | .hbm, ⟨7, _⟩ => ⟨S2x4x32768x128, .f32⟩
  | .hbm, ⟨8, _⟩ => ⟨S8x64x1, .f32⟩
  | .hbm, ⟨9, _⟩ => ⟨S8x64x128, .f32⟩
  | .hbm, ⟨10, _⟩ => ⟨S8x32768x64, .fp8e4m3⟩
  | .hbm, ⟨11, _⟩ => ⟨S8x32768x128, .f32⟩
  | .hbm, ⟨12, _⟩ => ⟨S8x64x32768, .fp8e4m3⟩
  | .hbm, ⟨13, _⟩ => ⟨S2x4x4x32768, .f32⟩
  | .hbm, ⟨14, _⟩ => ⟨S2x32768x1024, .bf16⟩
  | .local _ .vmem, ⟨0, _⟩ => ⟨S1x1024x256, .fp8e4m3⟩
  | .local _ .vmem, ⟨1, _⟩ => ⟨S1x1024x256, .fp8e4m3⟩
  | .local _ .vmem, ⟨2, _⟩ => ⟨S1x1x4x1024, .f32⟩
  | .local _ .vmem, ⟨3, _⟩ => ⟨S1x1x4x1024, .f32⟩
  | .local _ .vmem, ⟨4, _⟩ => ⟨S1x64x128, .f32⟩
  | .local _ .vmem, ⟨5, _⟩ => ⟨S1x64x128, .f32⟩
  | .local _ .vmem, ⟨6, _⟩ => ⟨S1x1024x256, .bf16⟩
  | .local _ .vmem, ⟨7, _⟩ => ⟨S1x1024x256, .bf16⟩
  | .local _ .vmem, ⟨8, _⟩ => ⟨S32768x256, .f32⟩
  | .local _ .vmem, ⟨9, _⟩ => ⟨S32768x128, .f32⟩
  | .local _ .vmem, ⟨10, _⟩ => ⟨S32768x64, .fp8e4m3⟩
  | .local _ .vmem, ⟨11, _⟩ => ⟨S64x32768, .fp8e4m3⟩
  | .local _ .vmem, ⟨12, _⟩ => ⟨S1024x256, .fp8e4m3⟩
  | .local _ .vmem, ⟨13, _⟩ => ⟨S16x256x64, .fp8e4m3⟩
  | .local _ .vmem, ⟨14, _⟩ => ⟨S16x8x256, .f32⟩
  | .local _ .vmem, ⟨15, _⟩ => ⟨S8x256, .f32⟩
  | .local _ .vmem, ⟨16, _⟩ => ⟨S8x256, .f32⟩
  | .local _ .vmem, ⟨17, _⟩ => ⟨S16x64x256, .f32⟩
  | .local _ .vmem, ⟨18, _⟩ => ⟨S16x8x256, .f32⟩
  | _, _ => ⟨S2x32768x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 33], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_245 : BitVec 32 := 0#32
  let c256_i32 : BitVec 32 := 256#32
  let v291 : BitVec 32 := Scalar.addi c0_i32_245 c256_i32
  let c1_i32_246 : BitVec 32 := 1#32
  ⟨c0_i32_245, v291, c1_i32_246⟩
def k0_mult1 (k0_t1 : Fin k0_t1_loop.trips) : BitVec 32 :=
  let c0_i32_249 : BitVec 32 := 0#32
  let c0_i32_245 : BitVec 32 := 0#32
  let c1_i32_246 : BitVec 32 := 1#32
  let arg21 : BitVec 32 := Scf.iv c0_i32_245 c1_i32_246 k0_t1
  let c1_i32_248 : BitVec 32 := 1#32
  let v292 : BitVec 32 := Scalar.muli arg21 c1_i32_248
  let v293 : BitVec 32 := Scalar.addi c0_i32_249 v292
  let c128_i32 : BitVec 32 := 128#32
  let v295 : BitVec 32 := Scalar.muli v293 c128_i32
  v295
def k0_off1 (k0_t1 : Fin k0_t1_loop.trips) : Fin 2 → Nat :=
  let c0_i32_249 : BitVec 32 := 0#32
  let c0_i32_245 : BitVec 32 := 0#32
  let c1_i32_246 : BitVec 32 := 1#32
  let arg21 : BitVec 32 := Scf.iv c0_i32_245 c1_i32_246 k0_t1
  let c1_i32_248 : BitVec 32 := 1#32
  let v292 : BitVec 32 := Scalar.muli arg21 c1_i32_248
  let v293 : BitVec 32 := Scalar.addi c0_i32_249 v292
  let c128_i32 : BitVec 32 := 128#32
  let v295 : BitVec 32 := Scalar.muli v293 c128_i32
  let v296 : BitVec 32 := v295
  let v297 : Index := Scalar.indexCast v296
  let c0_251 : Index := 0#32
  ![v297.toNat, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off2 (i : grid0.Coords) : Fin 3 → Nat :=
  let arg0 : BitVec 32 := BitVec.ofNat 32 (i 0).val
  let c0_i32_232 : BitVec 32 := 0#32
  let c0_i32_233 : BitVec 32 := 0#32
  ![arg0.toNat, 0, 0]
def k0_off3 (i : grid0.Coords) : Fin 3 → Nat :=
  let arg0 : BitVec 32 := BitVec.ofNat 32 (i 0).val
  let c0_i32_235 : BitVec 32 := 0#32
  let c0_i32_236 : BitVec 32 := 0#32
  ![arg0.toNat, 0, 0]
def k0_off4 (i : grid0.Coords) : Fin 3 → Nat :=
  let arg0 : BitVec 32 := BitVec.ofNat 32 (i 0).val
  let c0_i32_237 : BitVec 32 := 0#32
  let c0_i32_238 : BitVec 32 := 0#32
  ![arg0.toNat, 0, 0]
@[reducible] def k0_t2_loop (i : grid0.Coords) : Scf.Loop 32 :=
  let c0_i32_227 : BitVec 32 := 0#32
  let arg1 : BitVec 32 := BitVec.ofNat 32 (i 1).val
  let c32_i32 : BitVec 32 := 32#32
  let v264 : BitVec 1 := Scalar.cmpi .eq arg1 c32_i32
  let c1_i32 : BitVec 32 := 1#32
  let c16_i32 : BitVec 32 := 16#32
  let v265 : BitVec 32 := Scalar.select v264 c1_i32 c16_i32
  let c0_i32_221 : BitVec 32 := 0#32
  let v266 : BitVec 32 := Scalar.subi v265 c0_i32_221
  let c1_i32_222 : BitVec 32 := 1#32
  let c1_i32_223 : BitVec 32 := 1#32
  let v267 : BitVec 32 := Scalar.subi c1_i32_222 c1_i32_223
  let v268 : BitVec 32 := Scalar.addi v266 v267
  let c1_i32_224 : BitVec 32 := 1#32
  let v269 : BitVec 32 := Scalar.divsi v268 c1_i32_224
  let v270 : BitVec 32 := Scalar.subi v269 c0_i32_227
  let c1_i32_228 : BitVec 32 := 1#32
  let v272 : BitVec 32 := Scalar.divsi v270 c1_i32_228
  let v273 : BitVec 32 := Scalar.muli v272 c1_i32_228
  let v274 : BitVec 32 := Scalar.addi c0_i32_227 v273
  let c1_i32_229 : BitVec 32 := 1#32
  ⟨c0_i32_227, v274, c1_i32_229⟩
def k0_off5 (i : grid0.Coords) (k0_t2 : Fin (k0_t2_loop i).trips) : Fin 3 → Nat :=
  let c0_i32_226 : BitVec 32 := 0#32
  let c0_i32_227 : BitVec 32 := 0#32
  let c1_i32_229 : BitVec 32 := 1#32
  let arg21 : BitVec 32 := Scf.iv c0_i32_227 c1_i32_229 k0_t2
  let c1_i32_225 : BitVec 32 := 1#32
  let v275 : BitVec 32 := Scalar.muli arg21 c1_i32_225
  let v276 : BitVec 32 := Scalar.addi c0_i32_226 v275
  let v277 : Index := Scalar.indexCast v276
  let c0_231 : Index := 0#32
  let c0_232 : Index := 0#32
  ![v277.toNat, 0, 0]
@[reducible] def k0_t3_loop : Scf.Loop 32 :=
  let c0_i32_240 : BitVec 32 := 0#32
  let c32_i32_241 : BitVec 32 := 32#32
  let v285 : BitVec 32 := Scalar.addi c0_i32_240 c32_i32_241
  let c1_i32_242 : BitVec 32 := 1#32
  ⟨c0_i32_240, v285, c1_i32_242⟩
def k0_mult2 (k0_t3 : Fin k0_t3_loop.trips) : BitVec 32 :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let c0_i32_261 : BitVec 32 := 0#32
  let v322 : BitVec 32 := Scalar.addi v321 c0_i32_261
  v322
def k0_off6 (k0_t3 : Fin k0_t3_loop.trips) (c0_i32_261 : BitVec 32) : Fin 2 → Nat :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let v322 : BitVec 32 := Scalar.addi v321 c0_i32_261
  let v323 : BitVec 32 := v322
  let v324 : Index := Scalar.indexCast v323
  let c0_262 : Index := 0#32
  ![v324.toNat, 0]
def k0_off7 (k0_t3 : Fin k0_t3_loop.trips) (c0_i32_261 : BitVec 32) : Fin 2 → Nat :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let v322 : BitVec 32 := Scalar.addi v321 c0_i32_261
  let v323 : BitVec 32 := v322
  let v341 : Index := Scalar.indexCast v323
  let c0_266 : Index := 0#32
  ![v341.toNat, 0]
def k0_off8 (k0_t3 : Fin k0_t3_loop.trips) (c0_i32_261 : BitVec 32) : Fin 2 → Nat :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let v322 : BitVec 32 := Scalar.addi v321 c0_i32_261
  let v323 : BitVec 32 := v322
  let v344 : Index := Scalar.indexCast v323
  let c0_268 : Index := 0#32
  ![v344.toNat, 0]
def k0_mult3 (k0_t3 : Fin k0_t3_loop.trips) : BitVec 32 :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let c128_i32 : BitVec 32 := 128#32
  let v355 : BitVec 32 := Scalar.addi v321 c128_i32
  v355
def k0_mult4 (k0_t3 : Fin k0_t3_loop.trips) : BitVec 32 :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let c256_i32 : BitVec 32 := 256#32
  let v388 : BitVec 32 := Scalar.addi v321 c256_i32
  v388
def k0_mult5 (k0_t3 : Fin k0_t3_loop.trips) : BitVec 32 :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let c384_i32 : BitVec 32 := 384#32
  let v421 : BitVec 32 := Scalar.addi v321 c384_i32
  v421
def k0_mult6 (k0_t3 : Fin k0_t3_loop.trips) : BitVec 32 :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let c512_i32 : BitVec 32 := 512#32
  let v454 : BitVec 32 := Scalar.addi v321 c512_i32
  v454
def k0_mult7 (k0_t3 : Fin k0_t3_loop.trips) : BitVec 32 :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let c640_i32 : BitVec 32 := 640#32
  let v487 : BitVec 32 := Scalar.addi v321 c640_i32
  v487
def k0_mult8 (k0_t3 : Fin k0_t3_loop.trips) : BitVec 32 :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let c768_i32 : BitVec 32 := 768#32
  let v520 : BitVec 32 := Scalar.addi v321 c768_i32
  v520
def k0_mult9 (k0_t3 : Fin k0_t3_loop.trips) : BitVec 32 :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let c896_i32 : BitVec 32 := 896#32
  let v553 : BitVec 32 := Scalar.addi v321 c896_i32
  v553
def k0_mult10 (k0_t3 : Fin k0_t3_loop.trips) : BitVec 32 :=
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  v321
def k0_off9 (k0_t3 : Fin k0_t3_loop.trips) : Fin 2 → Nat :=
  let c0_331 : Index := 0#32
  let c0_i32_240 : BitVec 32 := 0#32
  let c1_i32_242 : BitVec 32 := 1#32
  let arg22 : BitVec 32 := Scf.iv c0_i32_240 c1_i32_242 k0_t3
  let c1024_i32 : BitVec 32 := 1024#32
  let v321 : BitVec 32 := Scalar.muli arg22 c1024_i32
  let v586 : BitVec 32 := v321
  let v587 : Index := Scalar.indexCast v586
  ![0, v587.toNat]
def k0_off10 (i : grid0.Coords) (k0_t2 : Fin (k0_t2_loop i).trips) : Fin 3 → Nat :=
  let c0_i32_226 : BitVec 32 := 0#32
  let c0_i32_227 : BitVec 32 := 0#32
  let c1_i32_229 : BitVec 32 := 1#32
  let arg21 : BitVec 32 := Scf.iv c0_i32_227 c1_i32_229 k0_t2
  let c1_i32_225 : BitVec 32 := 1#32
  let v275 : BitVec 32 := Scalar.muli arg21 c1_i32_225
  let v276 : BitVec 32 := Scalar.addi c0_i32_226 v275
  let c0_i32_244 : BitVec 32 := 0#32
  let v287 : BitVec 1 := Scalar.cmpi .eq v276 c0_i32_244
  let c15_i32 : BitVec 32 := 15#32
  let c1_i32_245 : BitVec 32 := 1#32
  let v288 : BitVec 32 := Scalar.subi v276 c1_i32_245
  let v289 : BitVec 32 := Scalar.select v287 c15_i32 v288
  let v290 : Index := Scalar.indexCast v289
  let c0_246 : Index := 0#32
  let c0_247 : Index := 0#32
  ![v290.toNat, 0, 0]
def k0_off11 (i : grid0.Coords) (k0_t2 : Fin (k0_t2_loop i).trips) : Fin 3 → Nat :=
  let c0_i32_226 : BitVec 32 := 0#32
  let c0_i32_227 : BitVec 32 := 0#32
  let c1_i32_229 : BitVec 32 := 1#32
  let arg21 : BitVec 32 := Scf.iv c0_i32_227 c1_i32_229 k0_t2
  let c1_i32_225 : BitVec 32 := 1#32
  let v275 : BitVec 32 := Scalar.muli arg21 c1_i32_225
  let v276 : BitVec 32 := Scalar.addi c0_i32_226 v275
  let c0_i32_244 : BitVec 32 := 0#32
  let v287 : BitVec 1 := Scalar.cmpi .eq v276 c0_i32_244
  let c15_i32 : BitVec 32 := 15#32
  let c1_i32_245 : BitVec 32 := 1#32
  let v288 : BitVec 32 := Scalar.subi v276 c1_i32_245
  let v289 : BitVec 32 := Scalar.select v287 c15_i32 v288
  let v294 : Index := Scalar.indexCast v289
  let c0_248 : Index := 0#32
  let c0_249 : Index := 0#32
  ![v294.toNat, 0, 0]
def k0_off12 (i : grid0.Coords) (k0_t2 : Fin (k0_t2_loop i).trips) : Fin 3 → Nat :=
  let c0_i32_226 : BitVec 32 := 0#32
  let c0_i32_227 : BitVec 32 := 0#32
  let c1_i32_229 : BitVec 32 := 1#32
  let arg21 : BitVec 32 := Scf.iv c0_i32_227 c1_i32_229 k0_t2
  let c1_i32_225 : BitVec 32 := 1#32
  let v275 : BitVec 32 := Scalar.muli arg21 c1_i32_225
  let v276 : BitVec 32 := Scalar.addi c0_i32_226 v275
  let v298 : Index := Scalar.indexCast v276
  let c0_250 : Index := 0#32
  let c0_251 : Index := 0#32
  ![v298.toNat, 0, 0]
@[reducible] def k0_t4_loop (i : grid0.Coords) : Scf.Loop 32 :=
  let c0_i32_227 : BitVec 32 := 0#32
  let arg1 : BitVec 32 := BitVec.ofNat 32 (i 1).val
  let c32_i32 : BitVec 32 := 32#32
  let v264 : BitVec 1 := Scalar.cmpi .eq arg1 c32_i32
  let c1_i32 : BitVec 32 := 1#32
  let c16_i32 : BitVec 32 := 16#32
  let v265 : BitVec 32 := Scalar.select v264 c1_i32 c16_i32
  let c0_i32_221 : BitVec 32 := 0#32
  let v266 : BitVec 32 := Scalar.subi v265 c0_i32_221
  let c1_i32_222 : BitVec 32 := 1#32
  let c1_i32_223 : BitVec 32 := 1#32
  let v267 : BitVec 32 := Scalar.subi c1_i32_222 c1_i32_223
  let v268 : BitVec 32 := Scalar.addi v266 v267
  let c1_i32_224 : BitVec 32 := 1#32
  let v269 : BitVec 32 := Scalar.divsi v268 c1_i32_224
  let v270 : BitVec 32 := Scalar.subi v269 c0_i32_227
  let c1_i32_228 : BitVec 32 := 1#32
  let v272 : BitVec 32 := Scalar.divsi v270 c1_i32_228
  let v273 : BitVec 32 := Scalar.muli v272 c1_i32_228
  let v274 : BitVec 32 := Scalar.addi c0_i32_227 v273
  let v271 : BitVec 32 := Scalar.addi c0_i32_227 v270
  let c1_i32_230 : BitVec 32 := 1#32
  ⟨v274, v271, c1_i32_230⟩
def k0_off13 (i : grid0.Coords) (k0_t4 : Fin (k0_t4_loop i).trips) : Fin 3 → Nat :=
  let c0_i32_226 : BitVec 32 := 0#32
  let c0_i32_227 : BitVec 32 := 0#32
  let arg1 : BitVec 32 := BitVec.ofNat 32 (i 1).val
  let c32_i32 : BitVec 32 := 32#32
  let v264 : BitVec 1 := Scalar.cmpi .eq arg1 c32_i32
  let c1_i32 : BitVec 32 := 1#32
  let c16_i32 : BitVec 32 := 16#32
  let v265 : BitVec 32 := Scalar.select v264 c1_i32 c16_i32
  let c0_i32_221 : BitVec 32 := 0#32
  let v266 : BitVec 32 := Scalar.subi v265 c0_i32_221
  let c1_i32_222 : BitVec 32 := 1#32
  let c1_i32_223 : BitVec 32 := 1#32
  let v267 : BitVec 32 := Scalar.subi c1_i32_222 c1_i32_223
  let v268 : BitVec 32 := Scalar.addi v266 v267
  let c1_i32_224 : BitVec 32 := 1#32
  let v269 : BitVec 32 := Scalar.divsi v268 c1_i32_224
  let v270 : BitVec 32 := Scalar.subi v269 c0_i32_227
  let c1_i32_228 : BitVec 32 := 1#32
  let v272 : BitVec 32 := Scalar.divsi v270 c1_i32_228
  let v273 : BitVec 32 := Scalar.muli v272 c1_i32_228
  let v274 : BitVec 32 := Scalar.addi c0_i32_227 v273
  let c1_i32_230 : BitVec 32 := 1#32
  let arg21 : BitVec 32 := Scf.iv v274 c1_i32_230 k0_t4
  let c1_i32_225 : BitVec 32 := 1#32
  let v275 : BitVec 32 := Scalar.muli arg21 c1_i32_225
  let v276 : BitVec 32 := Scalar.addi c0_i32_226 v275
  let v277 : Index := Scalar.indexCast v276
  let c0_231 : Index := 0#32
  let c0_232 : Index := 0#32
  ![v277.toNat, 0, 0]
@[reducible] def k0_t5_loop : Scf.Loop 32 :=
  let c0_i32_240 : BitVec 32 := 0#32
  let c32_i32_241 : BitVec 32 := 32#32
  let v285 : BitVec 32 := Scalar.addi c0_i32_240 c32_i32_241
  let c1_i32_242 : BitVec 32 := 1#32
  ⟨c0_i32_240, v285, c1_i32_242⟩
def k0_mult11 (k0_t5 : Fin k0_t5_loop.trips) : BitVec 32 :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let c0_i32_261 : BitVec 32 := 0#32
  let v322 : BitVec 32 := Scalar.addi v321 c0_i32_261
  v322
def k0_off14 (k0_t5 : Fin k0_t5_loop.trips) (c0_i32_261 : BitVec 32) : Fin 2 → Nat :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let v322 : BitVec 32 := Scalar.addi v321 c0_i32_261
  let v323 : BitVec 32 := v322
  let v324 : Index := Scalar.indexCast v323
  let c0_262 : Index := 0#32
  ![v324.toNat, 0]
def k0_off15 (k0_t5 : Fin k0_t5_loop.trips) (c0_i32_261 : BitVec 32) : Fin 2 → Nat :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let v322 : BitVec 32 := Scalar.addi v321 c0_i32_261
  let v323 : BitVec 32 := v322
  let v341 : Index := Scalar.indexCast v323
  let c0_266 : Index := 0#32
  ![v341.toNat, 0]
def k0_off16 (k0_t5 : Fin k0_t5_loop.trips) (c0_i32_261 : BitVec 32) : Fin 2 → Nat :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let v322 : BitVec 32 := Scalar.addi v321 c0_i32_261
  let v323 : BitVec 32 := v322
  let v344 : Index := Scalar.indexCast v323
  let c0_268 : Index := 0#32
  ![v344.toNat, 0]
def k0_mult12 (k0_t5 : Fin k0_t5_loop.trips) : BitVec 32 :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let c128_i32 : BitVec 32 := 128#32
  let v355 : BitVec 32 := Scalar.addi v321 c128_i32
  v355
def k0_mult13 (k0_t5 : Fin k0_t5_loop.trips) : BitVec 32 :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let c256_i32 : BitVec 32 := 256#32
  let v388 : BitVec 32 := Scalar.addi v321 c256_i32
  v388
def k0_mult14 (k0_t5 : Fin k0_t5_loop.trips) : BitVec 32 :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let c384_i32 : BitVec 32 := 384#32
  let v421 : BitVec 32 := Scalar.addi v321 c384_i32
  v421
def k0_mult15 (k0_t5 : Fin k0_t5_loop.trips) : BitVec 32 :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let c512_i32 : BitVec 32 := 512#32
  let v454 : BitVec 32 := Scalar.addi v321 c512_i32
  v454
def k0_mult16 (k0_t5 : Fin k0_t5_loop.trips) : BitVec 32 :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let c640_i32 : BitVec 32 := 640#32
  let v487 : BitVec 32 := Scalar.addi v321 c640_i32
  v487
def k0_mult17 (k0_t5 : Fin k0_t5_loop.trips) : BitVec 32 :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let c768_i32 : BitVec 32 := 768#32
  let v520 : BitVec 32 := Scalar.addi v321 c768_i32
  v520
def k0_mult18 (k0_t5 : Fin k0_t5_loop.trips) : BitVec 32 :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let c896_i32 : BitVec 32 := 896#32
  let v553 : BitVec 32 := Scalar.addi v321 c896_i32
  v553
def k0_mult19 (k0_t5 : Fin k0_t5_loop.trips) : BitVec 32 :=
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  v321
def k0_off17 (k0_t5 : Fin k0_t5_loop.trips) : Fin 2 → Nat :=
  let c0_331 : Index := 0#32
  let c0_i32_240 : BitVec 32 := 0#32
  let c1_i32_242 : BitVec 32 := 1#32
  let arg22 : BitVec 32 := Scf.iv c0_i32_240 c1_i32_242 k0_t5
  let c1024_i32 : BitVec 32 := 1024#32
  let v321 : BitVec 32 := Scalar.muli arg22 c1024_i32
  let v586 : BitVec 32 := v321
  let v587 : Index := Scalar.indexCast v586
  ![0, v587.toNat]
def k0_off18 (i : grid0.Coords) (k0_t4 : Fin (k0_t4_loop i).trips) : Fin 3 → Nat :=
  let c0_i32_226 : BitVec 32 := 0#32
  let c0_i32_227 : BitVec 32 := 0#32
  let arg1 : BitVec 32 := BitVec.ofNat 32 (i 1).val
  let c32_i32 : BitVec 32 := 32#32
  let v264 : BitVec 1 := Scalar.cmpi .eq arg1 c32_i32
  let c1_i32 : BitVec 32 := 1#32
  let c16_i32 : BitVec 32 := 16#32
  let v265 : BitVec 32 := Scalar.select v264 c1_i32 c16_i32
  let c0_i32_221 : BitVec 32 := 0#32
  let v266 : BitVec 32 := Scalar.subi v265 c0_i32_221
  let c1_i32_222 : BitVec 32 := 1#32
  let c1_i32_223 : BitVec 32 := 1#32
  let v267 : BitVec 32 := Scalar.subi c1_i32_222 c1_i32_223
  let v268 : BitVec 32 := Scalar.addi v266 v267
  let c1_i32_224 : BitVec 32 := 1#32
  let v269 : BitVec 32 := Scalar.divsi v268 c1_i32_224
  let v270 : BitVec 32 := Scalar.subi v269 c0_i32_227
  let c1_i32_228 : BitVec 32 := 1#32
  let v272 : BitVec 32 := Scalar.divsi v270 c1_i32_228
  let v273 : BitVec 32 := Scalar.muli v272 c1_i32_228
  let v274 : BitVec 32 := Scalar.addi c0_i32_227 v273
  let c1_i32_230 : BitVec 32 := 1#32
  let arg21 : BitVec 32 := Scf.iv v274 c1_i32_230 k0_t4
  let c1_i32_225 : BitVec 32 := 1#32
  let v275 : BitVec 32 := Scalar.muli arg21 c1_i32_225
  let v276 : BitVec 32 := Scalar.addi c0_i32_226 v275
  let c0_i32_244 : BitVec 32 := 0#32
  let v287 : BitVec 1 := Scalar.cmpi .eq v276 c0_i32_244
  let c15_i32 : BitVec 32 := 15#32
  let c1_i32_245 : BitVec 32 := 1#32
  let v288 : BitVec 32 := Scalar.subi v276 c1_i32_245
  let v289 : BitVec 32 := Scalar.select v287 c15_i32 v288
  let v290 : Index := Scalar.indexCast v289
  let c0_246 : Index := 0#32
  let c0_247 : Index := 0#32
  ![v290.toNat, 0, 0]
def k0_off19 (i : grid0.Coords) (k0_t4 : Fin (k0_t4_loop i).trips) : Fin 3 → Nat :=
  let c0_i32_226 : BitVec 32 := 0#32
  let c0_i32_227 : BitVec 32 := 0#32
  let arg1 : BitVec 32 := BitVec.ofNat 32 (i 1).val
  let c32_i32 : BitVec 32 := 32#32
  let v264 : BitVec 1 := Scalar.cmpi .eq arg1 c32_i32
  let c1_i32 : BitVec 32 := 1#32
  let c16_i32 : BitVec 32 := 16#32
  let v265 : BitVec 32 := Scalar.select v264 c1_i32 c16_i32
  let c0_i32_221 : BitVec 32 := 0#32
  let v266 : BitVec 32 := Scalar.subi v265 c0_i32_221
  let c1_i32_222 : BitVec 32 := 1#32
  let c1_i32_223 : BitVec 32 := 1#32
  let v267 : BitVec 32 := Scalar.subi c1_i32_222 c1_i32_223
  let v268 : BitVec 32 := Scalar.addi v266 v267
  let c1_i32_224 : BitVec 32 := 1#32
  let v269 : BitVec 32 := Scalar.divsi v268 c1_i32_224
  let v270 : BitVec 32 := Scalar.subi v269 c0_i32_227
  let c1_i32_228 : BitVec 32 := 1#32
  let v272 : BitVec 32 := Scalar.divsi v270 c1_i32_228
  let v273 : BitVec 32 := Scalar.muli v272 c1_i32_228
  let v274 : BitVec 32 := Scalar.addi c0_i32_227 v273
  let c1_i32_230 : BitVec 32 := 1#32
  let arg21 : BitVec 32 := Scf.iv v274 c1_i32_230 k0_t4
  let c1_i32_225 : BitVec 32 := 1#32
  let v275 : BitVec 32 := Scalar.muli arg21 c1_i32_225
  let v276 : BitVec 32 := Scalar.addi c0_i32_226 v275
  let c0_i32_244 : BitVec 32 := 0#32
  let v287 : BitVec 1 := Scalar.cmpi .eq v276 c0_i32_244
  let c15_i32 : BitVec 32 := 15#32
  let c1_i32_245 : BitVec 32 := 1#32
  let v288 : BitVec 32 := Scalar.subi v276 c1_i32_245
  let v289 : BitVec 32 := Scalar.select v287 c15_i32 v288
  let v294 : Index := Scalar.indexCast v289
  let c0_248 : Index := 0#32
  let c0_249 : Index := 0#32
  ![v294.toNat, 0, 0]
def k0_off20 (i : grid0.Coords) (k0_t4 : Fin (k0_t4_loop i).trips) : Fin 3 → Nat :=
  let c0_i32_226 : BitVec 32 := 0#32
  let c0_i32_227 : BitVec 32 := 0#32
  let arg1 : BitVec 32 := BitVec.ofNat 32 (i 1).val
  let c32_i32 : BitVec 32 := 32#32
  let v264 : BitVec 1 := Scalar.cmpi .eq arg1 c32_i32
  let c1_i32 : BitVec 32 := 1#32
  let c16_i32 : BitVec 32 := 16#32
  let v265 : BitVec 32 := Scalar.select v264 c1_i32 c16_i32
  let c0_i32_221 : BitVec 32 := 0#32
  let v266 : BitVec 32 := Scalar.subi v265 c0_i32_221
  let c1_i32_222 : BitVec 32 := 1#32
  let c1_i32_223 : BitVec 32 := 1#32
  let v267 : BitVec 32 := Scalar.subi c1_i32_222 c1_i32_223
  let v268 : BitVec 32 := Scalar.addi v266 v267
  let c1_i32_224 : BitVec 32 := 1#32
  let v269 : BitVec 32 := Scalar.divsi v268 c1_i32_224
  let v270 : BitVec 32 := Scalar.subi v269 c0_i32_227
  let c1_i32_228 : BitVec 32 := 1#32
  let v272 : BitVec 32 := Scalar.divsi v270 c1_i32_228
  let v273 : BitVec 32 := Scalar.muli v272 c1_i32_228
  let v274 : BitVec 32 := Scalar.addi c0_i32_227 v273
  let c1_i32_230 : BitVec 32 := 1#32
  let arg21 : BitVec 32 := Scf.iv v274 c1_i32_230 k0_t4
  let c1_i32_225 : BitVec 32 := 1#32
  let v275 : BitVec 32 := Scalar.muli arg21 c1_i32_225
  let v276 : BitVec 32 := Scalar.addi c0_i32_226 v275
  let v298 : Index := Scalar.indexCast v276
  let c0_250 : Index := 0#32
  let c0_251 : Index := 0#32
  ![v298.toNat, 0, 0]
def k0_cond3 (i : grid0.Coords) (k0_t2 : Fin (k0_t2_loop i).trips) : BitVec 1 :=
  let c0_i32_226 : BitVec 32 := 0#32
  let c0_i32_227 : BitVec 32 := 0#32
  let c1_i32_229 : BitVec 32 := 1#32
  let arg21 : BitVec 32 := Scf.iv c0_i32_227 c1_i32_229 k0_t2
  let c1_i32_225 : BitVec 32 := 1#32
  let v275 : BitVec 32 := Scalar.muli arg21 c1_i32_225
  let v276 : BitVec 32 := Scalar.addi c0_i32_226 v275
  let c0_i32_259 : BitVec 32 := 0#32
  let v318 : BitVec 1 := Scalar.cmpi .eq v276 c0_i32_259
  let v319 : BitVec 32 := Scalar.extui v318
  let c0_i32_260 : BitVec 32 := 0#32
  let v320 : BitVec 1 := Scalar.cmpi .ne v319 c0_i32_260
  v320

def k0_cond4 (i : grid0.Coords) (k0_t4 : Fin (k0_t4_loop i).trips) : BitVec 1 :=
  let c0_i32_226 : BitVec 32 := 0#32
  let c0_i32_227 : BitVec 32 := 0#32
  let arg1 : BitVec 32 := BitVec.ofNat 32 (i 1).val
  let c32_i32 : BitVec 32 := 32#32
  let v264 : BitVec 1 := Scalar.cmpi .eq arg1 c32_i32
  let c1_i32 : BitVec 32 := 1#32
  let c16_i32 : BitVec 32 := 16#32
  let v265 : BitVec 32 := Scalar.select v264 c1_i32 c16_i32
  let c0_i32_221 : BitVec 32 := 0#32
  let v266 : BitVec 32 := Scalar.subi v265 c0_i32_221
  let c1_i32_222 : BitVec 32 := 1#32
  let c1_i32_223 : BitVec 32 := 1#32
  let v267 : BitVec 32 := Scalar.subi c1_i32_222 c1_i32_223
  let v268 : BitVec 32 := Scalar.addi v266 v267
  let c1_i32_224 : BitVec 32 := 1#32
  let v269 : BitVec 32 := Scalar.divsi v268 c1_i32_224
  let v270 : BitVec 32 := Scalar.subi v269 c0_i32_227
  let c1_i32_228 : BitVec 32 := 1#32
  let v272 : BitVec 32 := Scalar.divsi v270 c1_i32_228
  let v273 : BitVec 32 := Scalar.muli v272 c1_i32_228
  let v274 : BitVec 32 := Scalar.addi c0_i32_227 v273
  let c1_i32_230 : BitVec 32 := 1#32
  let arg21 : BitVec 32 := Scf.iv v274 c1_i32_230 k0_t4
  let c1_i32_225 : BitVec 32 := 1#32
  let v275 : BitVec 32 := Scalar.muli arg21 c1_i32_225
  let v276 : BitVec 32 := Scalar.addi c0_i32_226 v275
  let c0_i32_259 : BitVec 32 := 0#32
  let v318 : BitVec 1 := Scalar.cmpi .eq v276 c0_i32_259
  let v319 : BitVec 32 := Scalar.extui v318
  let c0_i32_260 : BitVec 32 := 0#32
  let v320 : BitVec 1 := Scalar.cmpi .ne v319 c0_i32_260
  v320

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c31_i32 : BitVec 32 := 31#32
  let v17 : BitVec 32 := Scalar.minsi arg1 c31_i32
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v16.toNat, v17.toNat, v27.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c31_i32 : BitVec 32 := 31#32
  let v27 : BitVec 32 := Scalar.minsi arg1 c31_i32
  let c0_i32_10 : BitVec 32 := 0#32
  let c0_i32_11 : BitVec 32 := 0#32
  ![v16.toNat, v26.toNat, c0_i32_10.toNat, v27.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi arg1 c1_i32_4
  let c0_i32_5 : BitVec 32 := 0#32
  let v18 : BitVec 32 := Scalar.maxsi v17 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v16.toNat, v18.toNat, v28.toNat]

abbrev stage0_0 : Fin 2 → Memref sig .tc .vmem S1x1024x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "log2e_over_8" => some (((1 / 8) * (Real.log 2)⁻¹ : ℝ) : EReal)
  | _ => none
-- ==== ReferenceIdeal.lean ====
abbrev S2x32768x1024 : Shape := ⟨3, ![2, 32768, 1024]⟩
abbrev S2x16x32768 : Shape := ⟨3, ![2, 16, 32768]⟩
abbrev S2x4x32768x64 : Shape := ⟨4, ![2, 4, 32768, 64]⟩
abbrev S2x4x32768 : Shape := ⟨3, ![2, 4, 32768]⟩
abbrev S2x256x32768 : Shape := ⟨3, ![2, 256, 32768]⟩
abbrev S2x4x64 : Shape := ⟨3, ![2, 4, 64]⟩
abbrev S2x32768x4x4x64 : Shape := ⟨5, ![2, 32768, 4, 4, 64]⟩
abbrev S2x4x64x32768 : Shape := ⟨4, ![2, 4, 64, 32768]⟩
abbrev S2x4x4x32768 : Shape := ⟨4, ![2, 4, 4, 32768]⟩
abbrev S2x4x32768x32768x4 : Shape := ⟨5, ![2, 4, 32768, 32768, 4]⟩
abbrev S2x4x4x32768x32768 : Shape := ⟨5, ![2, 4, 4, 32768, 32768]⟩
abbrev S_ : Shape := ⟨0, ![]⟩
abbrev S2x4x4x32768x1 : Shape := ⟨5, ![2, 4, 4, 32768, 1]⟩
abbrev S2x4x1x1x32768 : Shape := ⟨5, ![2, 4, 1, 1, 32768]⟩
abbrev S2x4x64x4x32768 : Shape := ⟨5, ![2, 4, 64, 4, 32768]⟩
abbrev S2x1x4x1x64 : Shape := ⟨5, ![2, 1, 4, 1, 64]⟩
abbrev S2x32768x4x4 : Shape := ⟨4, ![2, 32768, 4, 4]⟩
abbrev S2x32768x4x4x1 : Shape := ⟨5, ![2, 32768, 4, 4, 1]⟩

abbrev nBuf : Space → Nat
  | .hbm => 54
  | .vmem => 6
  | .smem => 0
  | _ => 0

abbrev bufTy : (tb : Table) → Fin (tcTables nBuf tb) → BufTy
  | .hbm, ⟨0, _⟩ => ⟨S2x32768x1024, .fp8e4m3⟩
  | .hbm, ⟨1, _⟩ => ⟨S2x16x32768, .f32⟩
  | .hbm, ⟨2, _⟩ => ⟨S2x4x32768x64, .fp8e4m3⟩
  | .hbm, ⟨3, _⟩ => ⟨S2x4x32768, .f32⟩
  | .hbm, ⟨4, _⟩ => ⟨S2x256x32768, .fp8e4m3⟩
  | .hbm, ⟨5, _⟩ => ⟨S2x4x64, .f32⟩
  | .hbm, ⟨6, _⟩ => ⟨S2x32768x1024, .f32⟩
  | .hbm, ⟨7, _⟩ => ⟨S2x4x32768x64, .f32⟩
  | .hbm, ⟨8, _⟩ => ⟨S2x256x32768, .f32⟩
  | .hbm, ⟨9, _⟩ => ⟨S2x32768x4x4x64, .f32⟩
  | .hbm, ⟨10, _⟩ => ⟨S2x4x64x32768, .f32⟩
  | .hbm, ⟨11, _⟩ => ⟨S2x4x4x32768, .f32⟩
  | .hbm, ⟨12, _⟩ => ⟨S2x4x32768x32768x4, .f32⟩
  | .hbm, ⟨13, _⟩ => ⟨S2x4x4x32768x32768, .f32⟩
  | .hbm, ⟨14, _⟩ => ⟨S_, .f32⟩
  | .hbm, ⟨15, _⟩ => ⟨S2x4x4x32768, .f32⟩
  | .hbm, ⟨16, _⟩ => ⟨S2x4x4x32768, .f32⟩
  | .hbm, ⟨17, _⟩ => ⟨S2x4x4x32768x1, .f32⟩
  | .hbm, ⟨18, _⟩ => ⟨S2x4x4x32768x32768, .f32⟩
  | .hbm, ⟨19, _⟩ => ⟨S2x4x4x32768x32768, .f32⟩
  | .hbm, ⟨20, _⟩ => ⟨S2x4x1x1x32768, .f32⟩
  | .hbm, ⟨21, _⟩ => ⟨S2x4x4x32768x32768, .f32⟩
  | .hbm, ⟨22, _⟩ => ⟨S2x4x4x32768x32768, .f32⟩
  | .hbm, ⟨23, _⟩ => ⟨S_, .f32⟩
  | .hbm, ⟨24, _⟩ => ⟨S2x4x4x32768, .f32⟩
  | .hbm, ⟨25, _⟩ => ⟨S2x4x4x32768x1, .f32⟩
  | .hbm, ⟨26, _⟩ => ⟨S2x4x4x32768x32768, .f32⟩
  | .hbm, ⟨27, _⟩ => ⟨S2x4x4x32768x32768, .f32⟩
  | .hbm, ⟨28, _⟩ => ⟨S2x4x4x32768x32768, .f32⟩
  | .hbm, ⟨29, _⟩ => ⟨S_, .f32⟩
  | .hbm, ⟨30, _⟩ => ⟨S2x4x4x32768, .f32⟩
  | .hbm, ⟨31, _⟩ => ⟨S_, .f32⟩
  | .hbm, ⟨32, _⟩ => ⟨S2x4x4x32768x32768, .f32⟩
  | .hbm, ⟨33, _⟩ => ⟨S2x4x4x32768x32768, .f32⟩
  | .hbm, ⟨34, _⟩ => ⟨S_, .f32⟩
  | .hbm, ⟨35, _⟩ => ⟨S2x4x4x32768x32768, .f32⟩
  | .hbm, ⟨36, _⟩ => ⟨S2x4x4x32768x32768, .f32⟩
  | .hbm, ⟨37, _⟩ => ⟨S_, .f32⟩
  | .hbm, ⟨38, _⟩ => ⟨S2x4x4x32768x32768, .f32⟩
  | .hbm, ⟨39, _⟩ => ⟨S2x4x4x32768x32768, .f32⟩
  | .hbm, ⟨40, _⟩ => ⟨S2x4x64x4x32768, .f32⟩
  | .hbm, ⟨41, _⟩ => ⟨S2x32768x4x4x64, .f32⟩
  | .hbm, ⟨42, _⟩ => ⟨S2x1x4x1x64, .f32⟩
  | .hbm, ⟨43, _⟩ => ⟨S2x32768x4x4x64, .f32⟩
  | .hbm, ⟨44, _⟩ => ⟨S2x32768x4x4x64, .f32⟩
  | .hbm, ⟨45, _⟩ => ⟨S2x32768x4x4, .f32⟩
  | .hbm, ⟨46, _⟩ => ⟨S_, .f32⟩
  | .hbm, ⟨47, _⟩ => ⟨S2x32768x4x4, .f32⟩
  | .hbm, ⟨48, _⟩ => ⟨S2x32768x4x4, .f32⟩
  | .hbm, ⟨49, _⟩ => ⟨S2x32768x4x4x1, .f32⟩
  | .hbm, ⟨50, _⟩ => ⟨S2x32768x4x4x64, .f32⟩
  | .hbm, ⟨51, _⟩ => ⟨S2x32768x4x4x64, .f32⟩
  | .hbm, ⟨52, _⟩ => ⟨S2x32768x1024, .f32⟩
  | .hbm, ⟨53, _⟩ => ⟨S2x32768x1024, .bf16⟩
  | .local _ .vmem, ⟨0, _⟩ => ⟨S2x32768x1024, .fp8e4m3⟩
  | .local _ .vmem, ⟨1, _⟩ => ⟨S2x4x32768x64, .fp8e4m3⟩
  | .local _ .vmem, ⟨2, _⟩ => ⟨S2x256x32768, .fp8e4m3⟩
  | .local _ .vmem, ⟨3, _⟩ => ⟨S2x32768x1024, .f32⟩
  | .local _ .vmem, ⟨4, _⟩ => ⟨S2x4x32768x64, .f32⟩
  | .local _ .vmem, ⟨5, _⟩ => ⟨S2x256x32768, .f32⟩
  | _, _ => ⟨S2x32768x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x32768x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x32768x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32768x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x32768x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x32768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelGeom.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.Pipeline.FrameBody
public import Idealize.ShloMosaic.Lib.Tactic
public import Idealize.ShloMosaic.Lib.LoopRemainder

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-! ## Loop bounds and offsets in closed form -/

/-- The query loop makes one trip at a head's last point, sixteen at the others. -/
theorem t2_trips (i : grid0.Coords) : (k0_t2_loop i).trips = if (i 1).val = 32 then 1 else 16 := by
  have h : ∀ n : Fin 33, (k0_t2_loop (Function.update (fun a => ⟨0, by revert a; decide⟩) 1 n)).trips = if n.val = 32 then 1 else 16 := by decide +kernel
  have := h (i 1)
  simp only [k0_t2_loop, Function.update_self] at this ⊢
  exact this

theorem t2_lt (i : grid0.Coords) (k : Fin (k0_t2_loop i).trips) : k.val < 16 := by
  refine Nat.lt_of_lt_of_le k.isLt ?_
  rw [t2_trips]
  split <;> omega

theorem off5_eq (i : grid0.Coords) (k : Fin (k0_t2_loop i).trips) : k0_off5 i k = ![k.val, 0, 0] := by
  have h : ∀ n : Fin 16, (Scalar.indexCast (Scalar.addi 0#32 (Scalar.muli (Scf.iv 0#32 1#32 n.val) 1#32))).toNat = n.val := by decide +kernel
  have := h ⟨k.val, t2_lt i k⟩
  unfold k0_off5
  exact congrArg (fun x : ℕ => (![x, 0, 0] : Fin 3 → ℕ)) this

theorem off12_eq (i : grid0.Coords) (k : Fin (k0_t2_loop i).trips) : k0_off12 i k = ![k.val, 0, 0] := off5_eq i k

/-- The block whose weights trip `k` takes: the one before it, block 15 for trip 0. -/
def prevBlk (k : ℕ) : ℕ := if k = 0 then 15 else k - 1

theorem off10_eq (i : grid0.Coords) (k : Fin (k0_t2_loop i).trips) : k0_off10 i k = ![if k.val = 0 then 15 else k.val - 1, 0, 0] := by
  have h : ∀ n : Fin 16, (Scalar.indexCast (Scalar.select (Scalar.cmpi .eq (Scalar.addi 0#32 (Scalar.muli (Scf.iv 0#32 1#32 n.val) 1#32)) 0#32) 15#32
      (Scalar.subi (Scalar.addi 0#32 (Scalar.muli (Scf.iv 0#32 1#32 n.val) 1#32)) 1#32))).toNat = if n.val = 0 then 15 else n.val - 1 := by decide +kernel
  have := h ⟨k.val, t2_lt i k⟩
  unfold k0_off10
  exact congrArg (fun x : ℕ => (![x, 0, 0] : Fin 3 → ℕ)) this

theorem off11_eq (i : grid0.Coords) (k : Fin (k0_t2_loop i).trips) : k0_off11 i k = ![if k.val = 0 then 15 else k.val - 1, 0, 0] := off10_eq i k

theorem cond3_eq (i : grid0.Coords) (k : Fin (k0_t2_loop i).trips) : Iff (k0_cond3 i k = 1#1) (k.val = 0) := by
  have h : ∀ n : Fin 16, Iff (Scalar.cmpi .ne (Scalar.extui (Scalar.cmpi .eq (Scalar.addi 0#32 (Scalar.muli (Scf.iv 0#32 1#32 n.val) 1#32)) 0#32) : BitVec 32) 0#32 = 1#1) (n.val = 0) := by decide +kernel
  have := h ⟨k.val, t2_lt i k⟩
  unfold k0_cond3
  exact this

instance closedOff5 (i : grid0.Coords) (k : Fin (k0_t2_loop i).trips) : ClosedOff (k0_off5 i k) := ⟨![k.val, 0, 0], off5_eq i k⟩
instance closedOff10 (i : grid0.Coords) (k : Fin (k0_t2_loop i).trips) : ClosedOff (k0_off10 i k) := ⟨![if k.val = 0 then 15 else k.val - 1, 0, 0], off10_eq i k⟩
instance closedOff11 (i : grid0.Coords) (k : Fin (k0_t2_loop i).trips) : ClosedOff (k0_off11 i k) := ⟨![if k.val = 0 then 15 else k.val - 1, 0, 0], off11_eq i k⟩
instance closedOff12 (i : grid0.Coords) (k : Fin (k0_t2_loop i).trips) : ClosedOff (k0_off12 i k) := ⟨![k.val, 0, 0], off12_eq i k⟩

end Cert.Kernel.Hand

end
-- ==== Proof.KernelLoops.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import proofs.«01_k».proof.Proof.KernelGeom
public import Idealize.ShloMosaic.Lib.Pipeline.FrameBody
public import Idealize.ShloMosaic.Lib.Tactic
public import Idealize.ShloMosaic.Lib.LoopRemainder

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-! ## The operands -/

/-- The kernel's scratch buffers. -/
abbrev sM9 : Memref sig .tc .vmem S32768x256 .f32 := Memref.whole cc0_scratch0
abbrev sM10 : Memref sig .tc .vmem S32768x128 .f32 := Memref.whole cc0_scratch1
abbrev sM11 : Memref sig .tc .vmem S32768x64 .fp8e4m3 := Memref.whole cc0_scratch2
abbrev sM12 : Memref sig .tc .vmem S64x32768 .fp8e4m3 := Memref.whole cc0_scratch3
abbrev sM13 : Memref sig .tc .vmem S1024x256 .fp8e4m3 := Memref.whole cc0_scratch4
abbrev sM14 : Memref sig .tc .vmem S16x256x64 .fp8e4m3 := Memref.whole cc0_scratch5
abbrev sM15 : Memref sig .tc .vmem S16x8x256 .f32 := Memref.whole cc0_scratch6
abbrev sM16 : Memref sig .tc .vmem S8x256 .f32 := Memref.whole cc0_scratch7
abbrev sM17 : Memref sig .tc .vmem S8x256 .f32 := Memref.whole cc0_scratch8
abbrev sM18 : Memref sig .tc .vmem S16x64x256 .f32 := Memref.whole cc0_scratch9
abbrev sM19 : Memref sig .tc .vmem S16x8x256 .f32 := Memref.whole cc0_scratch10
/-- The operands left in HBM: the key codes, the repeated key scales, the transposed value codes. -/
abbrev hM2 : Memref sig .tc .hbm S8x32768x64 .fp8e4m3 := Memref.whole main_v4
abbrev hM3 : Memref sig .tc .hbm S8x32768x128 .f32 := Memref.whole main_v5
abbrev hM4 : Memref sig .tc .hbm S8x64x32768 .fp8e4m3 := Memref.whole main_v6

/-- The contents of a memref's buffer. -/
abbrev MBuf (c : Dev nD) {sp : Space} {S : Shape} {e : EltTy} (M : Memref sig .tc sp S e) : Type := Buf (Elt F) (M.view.loc (c : Thread nD τ))
/-- A memref's elements owned at given contents of its buffer. -/
abbrev mpt (c : Dev nD) {sp : Space} {S : Shape} {e : EltTy} (M : Memref sig .tc sp S e) (f : MBuf (F := F) c M) : sProp 𝕄 :=
  M.view.loc (c : Thread nD τ) ↦[M.view.set]{fullShare} f
/-- A buffer owned whole at given contents. -/
abbrev hpt (c : Dev nD) {sp : Space} {S : Shape} {e : EltTy} (M : Memref sig .tc sp S e) (f : MBuf (F := F) c M) : sProp 𝕄 :=
  M.view.loc (c : Thread nD τ) ↦{fullShare} f
/-- A memref's elements owned at some contents. -/
abbrev own (c : Dev nD) {sp : Space} {S : Shape} {e : EltTy} (M : Memref sig .tc sp S e) : sProp 𝕄 :=
  iprop(∃ f, mpt (F := F) c M f)

section L1
variable (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)

set_option warn.classDefReducibility false in
/-- The loop that clears the scores, the buffer at some contents. -/
@[sl_loop] def loopInv1 (k0_h1 : k0_cond1 i = 1#1) :
    LoopInvTy_k0_t1 (F := F) Unit ℕ (Pipeline.UD sig nD τ) ℕ Variants.none c none Set.univ i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11 k0_h1 where
  inv _ _ := iprop(own c sM9)
  step k acc := by
    have hk : k.val < 256 := Nat.lt_of_lt_of_le k.isLt k0_t1_abs.2.1
    unfold k0_t1_body
    iintro ⟨%f9, H9⟩
    sl_exec
    sl_step
    sl_close
end L1

section L3
variable (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)
  (k0_t2 : Fin (k0_t2_loop i).trips) (v278 : Vec F S1x256x64 .fp8e4m3) (v280 : Vec F S8x256 .f32) (v281 : Vec F S8x256 .f32)

set_option maxHeartbeats 4000000 in
set_option warn.classDefReducibility false in
/-- The loop over the key tiles, every buffer at some contents. -/
@[sl_loop] def loopInv3 (init : FVec F S8x256 .f32 × FVec F S8x256 .f32 × FVec F S64x256 .f32) :
    LoopInvTy_k0_t3 (F := F) Unit ℕ (Pipeline.UD sig nD τ) ℕ Variants.none c none Set.univ i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11 1#32 0#32 0#32 1#32 k0_t2 v278 v280 v281 init where
  inv _ _ := iprop(own c sM10 ∗ own c sM11 ∗ own c sM12 ∗ own c sM9 ∗ own c sM13)
  step k acc := by
    have hk : k.val < 32 := Nat.lt_of_lt_of_le k.isLt k0_t3_abs.2.1
    unfold k0_t3_body
    iintro ⟨⟨%f10, H10⟩, ⟨%f11, H11⟩, ⟨%f12, H12⟩, ⟨%f9, H9⟩, ⟨%f13, H13⟩⟩
    sl_exec
    sl_step
    sl_close
end L3

section L2
variable (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)

set_option maxHeartbeats 4000000 in
set_option warn.classDefReducibility false in
/-- The loop over the staged query blocks, every buffer at some contents. -/
@[sl_loop] def loopInv2 (f7 : MBuf (F := F) c arg7) :
    LoopInvTy_k0_t2 (F := F) Unit ℕ (Pipeline.UD sig nD τ) ℕ Variants.none c none Set.univ i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11 where
  inv _ _ := iprop(mpt c arg7 f7 ∗ own c arg8 ∗ own c sM9 ∗ own c sM10 ∗ own c sM11 ∗ own c sM12 ∗ own c sM13 ∗ own c sM14 ∗ own c sM15 ∗ own c sM16 ∗ own c sM17 ∗ own c sM18 ∗ own c sM19)
  step k acc := by
    have hk := t2_lt i k
    unfold k0_t2_body
    iintro ⟨H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
    by_cases hc : k0_cond3 i k = 1#1
    · sl_exec
      sl_step
      sl_close
    · sl_exec
      sl_step
      sl_close
end L2

end Cert.Kernel.Hand

end
-- ==== Proof.KernelBody.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import proofs.«01_k».proof.Proof.KernelLoops
public import Idealize.ShloMosaic.Lib.Pipeline.DatRel
public import Idealize.ShloMosaic.Lib.Pipeline.FrameBody
public import Idealize.ShloMosaic.Lib.Tactic
public import Idealize.ShloMosaic.Lib.LoopRemainder

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-! ## The body run -/

set_option maxHeartbeats 8000000 in
/-- The body at a point, from the three staged inputs, the output's staging buffer and the scratch buffers at some
    contents, the three transfer cells at zero and the operands left in HBM: it runs to the same, the inputs and the
    operands in HBM unchanged. -/
theorem bodyRun (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)
    (f5 : MBuf (F := F) c arg5) (f6 : MBuf (F := F) c arg6) (f7 : MBuf (F := F) c arg7)
    (g2 : MBuf (F := F) c hM2) (g3 : MBuf (F := F) c hM3) (g4 : MBuf (F := F) c hM4) (W : Waits sig Unit) (K : PUnit → sProp 𝕄) :
    iprop(mpt c arg5 f5 ∗ mpt c arg6 f6 ∗ mpt c arg7 f7 ∗ own c arg8 ∗ own c sM9 ∗ own c sM10 ∗ own c sM11 ∗ own c sM12 ∗ own c sM13 ∗ own c sM14 ∗ own c sM15 ∗ own c sM16 ∗ own c sM17 ∗ own c sM18 ∗ own c sM19
        ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ owes (c : Thread nD τ) 0 W
        ∗ (iprop(mpt c arg5 f5 ∗ mpt c arg6 f6 ∗ mpt c arg7 f7 ∗ own c arg8 ∗ own c sM9 ∗ own c sM10 ∗ own c sM11 ∗ own c sM12 ∗ own c sM13 ∗ own c sM14 ∗ own c sM15 ∗ own c sM16 ∗ own c sM17 ∗ own c sM18 ∗ own c sM19
            ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ (∃ W', owes (c : Thread nD τ) 0 W')) -∗ K ⟨⟩))
      ⊢ wp frame (wpE (defs₀ (F := F)) Variants.none (c : Thread nD τ) none) Set.univ
          (cc0_attention i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11) K := by
  simp only [cc0_attention_eq_skeleton]; unfold cc0_attention_skel
  iintro ⟨H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, Hq0, Hq1, Hq2, Hh2, Hh3, Hh4, HW, Hk⟩
  by_cases h1 : k0_cond1 i = 1#1 <;> by_cases h2 : k0_cond2 i = 1#1
  all_goals
    sl_exec
    sl_step
    iapply Hk
    sl_close

end Cert.Kernel.Hand

end
-- ==== Proof.KernelFrame.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import proofs.«01_k».proof.Proof.KernelBody
public import Idealize.ShloMosaic.Lib.Pipeline.FrameBody
public import Idealize.ShloMosaic.Lib.Tactic
public import Idealize.ShloMosaic.Lib.LoopRemainder

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The launch -/

/-- The body's three transfer cells. -/
abbrev osem0 : Fin 3 → SemLoc sig := fun j => (![SemLoc.dma 8, SemLoc.dma 9, SemLoc.dma 10] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2] (by decide) (by decide)]; rfl

/-- The operands left in HBM that the body's transfers read. -/
def H0 : Finset (Ref sig .tc) := {main_v4, main_v5, main_v6}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop(hpt c hM2 (Gen.V m c main_v4) ∗ hpt c hM3 (Gen.V m c main_v5) ∗ hpt c hM4 (Gen.V m c main_v6)) := by
  rw [BI.bigSep_eq_bigSepL_of_eq [main_v4, main_v5, main_v6] (by decide) (by decide)]; rfl

theorem own_whole {k : Ref sig .tc} (c : Dev nD) :
    (iprop(∃ f : Buf (Elt F) ((c : Thread nD τ).loc k), ((c : Thread nD τ).loc k) ↦{fullShare} f) : sProp 𝕄)
      = iprop(∃ f : Buf (Elt F) ((c : Thread nD τ).loc k), ((c : Thread nD τ).loc k) ↦[View.set (Memref.whole k).view]{fullShare} f) := by
  simp only [Memref.view_whole, View.set_whole]

/-- The invariant between points, spelled out. -/
theorem PhiD0_eq (c : Dev nD) :
    (Pipeline.ΦD osem0 spec0 H0 (Gen.V m) c : sProp 𝕄)
      = iprop(iprop(own c sM9 ∗ own c sM10 ∗ own c sM11 ∗ own c sM12 ∗ own c sM13 ∗ own c sM14 ∗ own c sM15 ∗ own c sM16 ∗ own c sM17 ∗ own c sM18 ∗ own c sM19)
          ∗ (∃ r, prngReg c r)
          ∗ iprop(semVal ((c : Thread nD τ), SemLoc.dma 8) 0 ∗ semVal ((c : Thread nD τ), SemLoc.dma 9) 0 ∗ semVal ((c : Thread nD τ), SemLoc.dma 10) 0)
          ∗ iprop(hpt c hM2 (Gen.V m c main_v4) ∗ hpt c hM3 (Gen.V m c main_v5) ∗ hpt c hM4 (Gen.V m c main_v6))) := by
  rw [Pipeline.ΦD_eq, scopedRest0_eq, ownSems00_eq, hbmPts0_eq]
  simp only [own_whole]; try rfl

/-- @main up to the region. -/
theorem hmainD (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

theorem defs₀_row (t : Fin cfg0.N) :
    defs₀ (F := F) .tc cfg0.body (cfg0.bodyArgs t (cfg0.slots t)) = bodyAt0 t := by
  unfold defs₀; rw [Defs.onTc_tc]

/-- The staged inputs hold their blocks when the body is entered, for any proof data that leave them in place. -/
theorem before_0 {c : Dev nD} (dat : Dat τ (Elt F) Unit ℕ (Pipeline.UD sig nD τ) ℕ cfg0 c) (hA : dat.A 0 = Gen.V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = Gen.V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = Gen.V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Only the output window is not held to exact contents. -/
def fgt0 : Fin 4 → Bool := ![false, false, false, true]

/-! ## The proof data of the frame -/

/-- The arrays as the region finds them, the inputs' staging buffers at their blocks, nothing owed, full shares. -/
def datF (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦD osem0 spec0 H0 (Gen.V m) c
  q _ := fullShare
  owed _ := 0

def bodyPre (c : Dev nD) (t : Fin cfg0.N) : sProp 𝕄 :=
  iprop((datF m c).Φ t.castSucc ∗ (datF m c).owesAt () t.castSucc
    ∗ (∃ d, owns (c : Thread nD τ) (st0_0 t) fullShare ((datF m c).before 0 t d))
    ∗ (∃ d, owns (c : Thread nD τ) (st0_1 t) fullShare ((datF m c).before 1 t d))
    ∗ (∃ d, owns (c : Thread nD τ) (st0_2 t) fullShare ((datF m c).before 2 t d))
    ∗ (∃ Y, ⌜((datF m c).toRRel fgt0 fun _ _ _ => True).Finds 3 t Y⌝ ∗ owns (c : Thread nD τ) (st0_3 t) fullShare Y))
def bodyPost (c : Dev nD) (t : Fin cfg0.N) : sProp 𝕄 :=
  iprop((datF m c).Φ t.succ ∗ (datF m c).owesAt () t.succ
    ∗ owns (c : Thread nD τ) (st0_0 t) fullShare ((datF m c).after 0 t)
    ∗ owns (c : Thread nD τ) (st0_1 t) fullShare ((datF m c).after 1 t)
    ∗ owns (c : Thread nD τ) (st0_2 t) fullShare ((datF m c).after 2 t)
    ∗ (∃ X, ⌜True⌝ ∗ owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (datF m c).Φ t.succ = (datF m c).Φ t.castSucc from rfl]
  rw [show (datF m c).Φ t.castSucc = Pipeline.ΦD osem0 spec0 H0 (Gen.V m) c from rfl, PhiD0_eq]
  unfold Dat.owesAt Pipeline.owesWithin
  rw [show (datF m c).owed t.castSucc = 0 from rfl, show (datF m c).owed t.succ = 0 from rfl]
  simp only [before_0 m (datF m c) rfl (fun _ => rfl), before_1 m (datF m c) rfl (fun _ => rfl), before_2 m (datF m c) rfl (fun _ => rfl)]
  rw [show (datF m c).after 0 t = iblk m c 0 t from rfl, show (datF m c).after 1 t = iblk m c 1 t from rfl, show (datF m c).after 2 t = iblk m c 2 t from rfl]
  unfold owns
  iintro ⟨⟨⟨H9, H10, H11, H12, H13, H14, H15, H16, H17, H18, H19⟩, Hg, ⟨Hq0, Hq1, Hq2⟩, ⟨Hh2, Hh3, Hh4⟩⟩, ⟨%W, -, HW⟩, ⟨%d0, %f5, %e5, H5⟩, ⟨%d1, %f6, %e6, H6⟩, ⟨%d2, %f7, %e7, H7⟩, ⟨%Y, -, %f8, -, H8⟩⟩
  iapply (bodyRun c (grid0.coords t) _ _ _ _ _ _ _ _ f5 f6 f7 _ _ _ W _)
  isplitl [H5]; · iexact H5
  isplitl [H6]; · iexact H6
  isplitl [H7]; · iexact H7
  isplitl [H8]; · iexists f8; iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [Hq0]; · iexact Hq0
  isplitl [Hq1]; · iexact Hq1
  isplitl [Hq2]; · iexact Hq2
  isplitl [Hh2]; · iexact Hh2
  isplitl [Hh3]; · iexact Hh3
  isplitl [Hh4]; · iexact Hh4
  isplitl [HW]; · iexact HW
  iintro ⟨H5, H6, H7, ⟨%f8', H8⟩, H9, H10, H11, H12, H13, H14, H15, H16, H17, H18, H19, Hq0, Hq1, Hq2, Hh2, Hh3, Hh4, ⟨%W', HW⟩⟩
  isplitl [H9 H10 H11 H12 H13 H14 H15 H16 H17 H18 H19 Hg Hq0 Hq1 Hq2 Hh2 Hh3 Hh4]
  · isplitl [H9 H10 H11 H12 H13 H14 H15 H16 H17 H18 H19]
    · isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    isplitl [Hg]; · iexact Hg
    isplitl [Hq0 Hq1 Hq2]
    · isplitl [Hq0]; · iexact Hq0
      isplitl [Hq1]; · iexact Hq1
      iexact Hq2
    isplitl [Hh2]; · iexact Hh2
    isplitl [Hh3]; · iexact Hh3
    iexact Hh4
  isplitl [HW]
  · iexists W'; isplitr; · ipureintro; exact fun _ _ => Or.inl trivial
    iexact HW
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  iexists _; isplitr; · ipureintro; trivial
  iexists f8'; isplitr; · ipureintro; rfl
  iexact H8

theorem body_obligation (c : Dev nD) :
    Pipeline.BodyObligationRel (datF (F := F) m c) (defs₀ (F := F)) Variants.none () Set.univ fgt0 (fun _ _ _ => True) := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.RDat.FramePost cfg0 (fun c => (datF (F := F) m c).toRRel fgt0 fun _ _ _ => True) (Gen.V m) r ∧ r.2.sem = fun _ => 0) :=
  Pipeline.RDat.θ_run_frame_dma (Q' := _) cfgs (0 : Fin 1) launch0 osem0 defs₀ Variants.none (fun c => (datF (F := F) m c).toRRel fgt0 fun _ _ _ => True)
    ownSemFacts0 H0 H0_sub m ρ main
    (hbody := fun c => (body_obligation m c).toRRel) (hshare := fun c => (datF m c).share_full fun _ => rfl)
    (howed := fun _ _ => rfl) (V := Gen.V m) (hmain := hmainD m Variants.none) (hA := fun _ _ => rfl)
    (hin := fun _ => .rfl) (hout := fun _ => .rfl)

/-- The argument arrays as the run leaves them, for any relational data over the region-entry contents. -/
theorem args_of (rdat : (c : Dev nD) → Pipeline.RDat τ (Elt F) Unit ℕ (Pipeline.UD sig nD τ) ℕ cfg0 c)
    (hA : ∀ c, (rdat c).A 0 = Gen.V m c (Pipeline.arrRef spec0 0)) (r : PUnit × MemSt nD τ sig (Elt F))
    (h : Pipeline.RDat.FramePost cfg0 rdat (Gen.V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((congrFun (Pipeline.RDat.ArrAt_in (rdat c) 0 rfl _) _).mp ((h c).1 0)).trans ((hA c).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- THE FRAME at any arithmetic: the program terminates without a fault, its argument arrays end unchanged and every
    semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m _ (fun _ => rfl) r h.1, h.2⟩) (run_main m ρ)

end Cert.Kernel.Hand

end
-- ==== Proof.KernelIdealGeom.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-! ## Loop bounds and offsets in closed form -/

/-- The query loop makes one trip at a head's last point, sixteen at the others. -/
theorem t2_trips (i : grid0.Coords) : (k0_t2_loop i).trips = if (i 1).val = 32 then 1 else 16 := by
  have h : ∀ n : Fin 33, (k0_t2_loop (Function.update (fun a => ⟨0, by revert a; decide⟩) 1 n)).trips = if n.val = 32 then 1 else 16 := by decide +kernel
  have := h (i 1)
  simp only [k0_t2_loop, Function.update_self] at this ⊢
  exact this

theorem t2_lt (i : grid0.Coords) (k : Fin (k0_t2_loop i).trips) : k.val < 16 := by
  refine Nat.lt_of_lt_of_le k.isLt ?_
  rw [t2_trips]
  split <;> omega

theorem off5_eq (i : grid0.Coords) (k : Fin (k0_t2_loop i).trips) : k0_off5 i k = ![k.val, 0, 0] := by
  have h : ∀ n : Fin 16, (Scalar.indexCast (Scalar.addi 0#32 (Scalar.muli (Scf.iv 0#32 1#32 n.val) 1#32))).toNat = n.val := by decide +kernel
  have := h ⟨k.val, t2_lt i k⟩
  unfold k0_off5
  exact congrArg (fun x : ℕ => (![x, 0, 0] : Fin 3 → ℕ)) this

theorem off12_eq (i : grid0.Coords) (k : Fin (k0_t2_loop i).trips) : k0_off12 i k = ![k.val, 0, 0] := off5_eq i k

/-- The block whose weights trip `k` takes: the one before it, block 15 for trip 0. -/
def prevBlk (k : ℕ) : ℕ := if k = 0 then 15 else k - 1

theorem off10_eq (i : grid0.Coords) (k : Fin (k0_t2_loop i).trips) : k0_off10 i k = ![if k.val = 0 then 15 else k.val - 1, 0, 0] := by
  have h : ∀ n : Fin 16, (Scalar.indexCast (Scalar.select (Scalar.cmpi .eq (Scalar.addi 0#32 (Scalar.muli (Scf.iv 0#32 1#32 n.val) 1#32)) 0#32) 15#32
      (Scalar.subi (Scalar.addi 0#32 (Scalar.muli (Scf.iv 0#32 1#32 n.val) 1#32)) 1#32))).toNat = if n.val = 0 then 15 else n.val - 1 := by decide +kernel
  have := h ⟨k.val, t2_lt i k⟩
  unfold k0_off10
  exact congrArg (fun x : ℕ => (![x, 0, 0] : Fin 3 → ℕ)) this

theorem off11_eq (i : grid0.Coords) (k : Fin (k0_t2_loop i).trips) : k0_off11 i k = ![if k.val = 0 then 15 else k.val - 1, 0, 0] := off10_eq i k

theorem cond3_eq (i : grid0.Coords) (k : Fin (k0_t2_loop i).trips) : Iff (k0_cond3 i k = 1#1) (k.val = 0) := by
  have h : ∀ n : Fin 16, Iff (Scalar.cmpi .ne (Scalar.extui (Scalar.cmpi .eq (Scalar.addi 0#32 (Scalar.muli (Scf.iv 0#32 1#32 n.val) 1#32)) 0#32) : BitVec 32) 0#32 = 1#1) (n.val = 0) := by decide +kernel
  have := h ⟨k.val, t2_lt i k⟩
  unfold k0_cond3
  exact this

instance closedOff5 (i : grid0.Coords) (k : Fin (k0_t2_loop i).trips) : ClosedOff (k0_off5 i k) := ⟨![k.val, 0, 0], off5_eq i k⟩
instance closedOff10 (i : grid0.Coords) (k : Fin (k0_t2_loop i).trips) : ClosedOff (k0_off10 i k) := ⟨![if k.val = 0 then 15 else k.val - 1, 0, 0], off10_eq i k⟩
instance closedOff11 (i : grid0.Coords) (k : Fin (k0_t2_loop i).trips) : ClosedOff (k0_off11 i k) := ⟨![if k.val = 0 then 15 else k.val - 1, 0, 0], off11_eq i k⟩
instance closedOff12 (i : grid0.Coords) (k : Fin (k0_t2_loop i).trips) : ClosedOff (k0_off12 i k) := ⟨![k.val, 0, 0], off12_eq i k⟩

end Cert.KernelIdeal.Hand

end
-- ==== Proof.ValGeom.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.KernelIdealGeom
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

/-! ## The operands -/

/-- The kernel's scratch buffers. -/
abbrev sM9 : Memref sig .tc .vmem S32768x256 .f32 := Memref.whole cc0_scratch0
abbrev sM10 : Memref sig .tc .vmem S32768x128 .f32 := Memref.whole cc0_scratch1
abbrev sM11 : Memref sig .tc .vmem S32768x64 .fp8e4m3 := Memref.whole cc0_scratch2
abbrev sM12 : Memref sig .tc .vmem S64x32768 .fp8e4m3 := Memref.whole cc0_scratch3
abbrev sM13 : Memref sig .tc .vmem S1024x256 .fp8e4m3 := Memref.whole cc0_scratch4
abbrev sM14 : Memref sig .tc .vmem S16x256x64 .fp8e4m3 := Memref.whole cc0_scratch5
abbrev sM15 : Memref sig .tc .vmem S16x8x256 .f32 := Memref.whole cc0_scratch6
abbrev sM16 : Memref sig .tc .vmem S8x256 .f32 := Memref.whole cc0_scratch7
abbrev sM17 : Memref sig .tc .vmem S8x256 .f32 := Memref.whole cc0_scratch8
abbrev sM18 : Memref sig .tc .vmem S16x64x256 .f32 := Memref.whole cc0_scratch9
abbrev sM19 : Memref sig .tc .vmem S16x8x256 .f32 := Memref.whole cc0_scratch10
/-- The operands left in HBM: the key codes, the repeated key scales, the transposed value codes. -/
abbrev hM2 : Memref sig .tc .hbm S8x32768x64 .fp8e4m3 := Memref.whole main_v4
abbrev hM3 : Memref sig .tc .hbm S8x32768x128 .f32 := Memref.whole main_v5
abbrev hM4 : Memref sig .tc .hbm S8x64x32768 .fp8e4m3 := Memref.whole main_v6

/-- The contents of a memref's buffer. -/
abbrev MBuf (c : Dev nD) {sp : Space} {S : Shape} {e : EltTy} (M : Memref sig .tc sp S e) : Type := Buf (Elt Ideal) (M.view.loc (c : Thread nD τ))
/-- A memref's elements owned at given contents of its buffer. -/
abbrev mpt (c : Dev nD) {sp : Space} {S : Shape} {e : EltTy} (M : Memref sig .tc sp S e) (f : MBuf c M) : sProp 𝕄 :=
  M.view.loc (c : Thread nD τ) ↦[M.view.set]{fullShare} f
/-- A buffer owned whole at given contents. -/
abbrev hpt (c : Dev nD) {sp : Space} {S : Shape} {e : EltTy} (M : Memref sig .tc sp S e) (f : MBuf c M) : sProp 𝕄 :=
  M.view.loc (c : Thread nD τ) ↦{fullShare} f
/-- A memref's elements owned at some contents. -/
abbrev own (c : Dev nD) {sp : Space} {S : Shape} {e : EltTy} (M : Memref sig .tc sp S e) : sProp 𝕄 :=
  iprop(∃ f, mpt c M f)

end Cert.KernelIdeal.Val

end
-- ==== Proof.ValChunk.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValGeom
public import Idealize.ShloMosaic.Lib.Pointwise
public import Idealize.ShloMosaic.Lib.WritesUnit
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the kernel's vector expressions are at an index, over the extended reals, and what one chunk of 128 keys adds to
the running sums, maxima and products. -/

theorem pay6_at (M C : FVec Ideal S8x256 .f32) (V : FVec Ideal S128x256 .f32) (j : Fin 16) (a : Fin 8) (b : Fin 256) :
    k0_pay6 (F := Ideal) M C V (ix3 j a b) = Ideal.exp2 ((V (ix2 (⟨j.val * 8 + a.val, by omega⟩ : Fin 128) b) - M (ix2 a b)) * C (ix2 a b)) := by
  pointwise [k0_pay6]
  rfl

theorem pay7_at (M C A : FVec Ideal S8x256 .f32) (V : FVec Ideal S128x256 .f32) (a : Fin 8) (b : Fin 256) :
    k0_pay7 (F := Ideal) M C A V (ix2 a b) = A (ix2 a b) + ∑ j : Fin 16, k0_pay6 (F := Ideal) M C V (ix3 j a b) := by
  pointwise [k0_pay7]

theorem pay8_at (M C : FVec Ideal S8x256 .f32) (V : FVec Ideal S128x256 .f32) (r : Fin 128) (b : Fin 256) :
    k0_pay8 (F := Ideal) M C V (ix2 r b) = Ideal.exp2 ((V (ix2 r b) - M (ix2 (⟨r.val % 8, by omega⟩ : Fin 8) b)) * C (ix2 (⟨r.val % 8, by omega⟩ : Fin 8) b)) := by
  have h : k0_pay8 (F := Ideal) M C V (ix2 r b) = k0_pay6 (F := Ideal) M C V (ix3 (⟨r.val / 8, by omega⟩ : Fin 16) (⟨r.val % 8, by omega⟩ : Fin 8) b) := by
    pointwise [k0_pay8]
  rw [h, pay6_at]
  have e : (⟨(⟨r.val / 8, by omega⟩ : Fin 16).val * 8 + (⟨r.val % 8, by omega⟩ : Fin 8).val, by simp only; omega⟩ : Fin 128) = r := Fin.ext (by simp only; omega)
  rw [e]

theorem pay10_at (q : FVec Ideal S256x64 .fp8e4m3) (K : FVec Ideal S128x64 .fp8e4m3) (A : FVec Ideal S128x128 .f32) (r : Fin 128) (b : Fin 256) :
    k0_pay10 (F := Ideal) q K A (ix2 r b) = (∑ d : Fin 64, K (ix2 r d) * q (ix2 b d)) * A (ix2 r (⟨b.val % 128, by omega⟩ : Fin 128)) := by
  pointwise [k0_pay10, k0_pay9]
  congr 1
  split
  · rename_i h
    exact congrArg (fun z => A (ix2 r z)) (Fin.ext (by simp only; omega))
  · rename_i h
    exact congrArg (fun z => A (ix2 r z)) (Fin.ext (by simp only; omega))

theorem ofBits_negInf : Ideal.ofBits .f32 0xFF800000#32 = ⊥ := by simp [Ideal.ofBits, Ideal.ieee]

theorem pay11_le (q : FVec Ideal S256x64 .fp8e4m3) (X : FVec Ideal S8x256 .f32) (K : FVec Ideal S128x64 .fp8e4m3) (A : FVec Ideal S128x128 .f32) (a : Fin 8) (b : Fin 256) (y : EReal) :
    Iff (k0_pay11 (F := Ideal) q X K A (ix2 a b) ≤ y) (X (ix2 a b) ≤ y ∧ ∀ j : Fin 16, k0_pay10 (F := Ideal) q K A (ix2 (⟨j.val * 8 + a.val, by omega⟩ : Fin 128) b) ≤ y) := by
  have h : k0_pay11 (F := Ideal) q X K A (ix2 a b) = max (X (ix2 a b)) (Finset.univ.fold max ⊥ fun j : Fin 16 => k0_pay10 (F := Ideal) q K A (ix2 (⟨j.val * 8 + a.val, by omega⟩ : Fin 128) b)) := by
    pointwise [k0_pay11, k0_pay10, ofBits_negInf]
  rw [h, max_le_iff, Finset.fold_max_le]
  exact ⟨fun h => ⟨h.1, fun j => h.2.2 j (Finset.mem_univ _)⟩, fun h => ⟨h.1, bot_le, fun j _ => h.2 j⟩⟩

theorem pay91_at (O : FVec Ideal S64x256 .f32) (V : FVec Ideal S64x1024 .fp8e4m3) (W : FVec Ideal S1024x256 .fp8e4m3) (d : Fin 64) (b : Fin 256) :
    k0_pay91 (F := Ideal) O V W (ix2 d b) = O (ix2 d b) + ∑ r : Fin 1024, V (ix2 d r) * W (ix2 r b) := by
  pointwise [k0_pay91]

/-! ## Keys by number -/

/-- The key numbered `n`, counted around. -/
def row (n : ℕ) : Fin 32768 := ⟨n % 32768, by omega⟩

theorem row_val (r : Fin 32768) : row r.val = r := Fin.ext (Nat.mod_eq_of_lt r.isLt)

/-- The score of key `r` against query `b` of the block: the codes' product times the key's scale. -/
def scF (f11 : FVec Ideal S32768x64 .fp8e4m3) (f10 : FVec Ideal S32768x128 .f32) (q : FVec Ideal S256x64 .fp8e4m3) (r : Fin 32768) (b : Fin 256) : EReal :=
  (∑ d : Fin 64, f11 (ix2 r d) * q (ix2 b d)) * f10 (ix2 r (⟨b.val % 128, by omega⟩ : Fin 128))

/-- The weight of key `r` for query `b`, from scores `u`, shifts `M` and factors `C`. -/
def pwF (M C : FVec Ideal S8x256 .f32) (u : FVec Ideal S32768x256 .f32) (r : Fin 32768) (b : Fin 256) : EReal :=
  Ideal.exp2 ((u (ix2 r b) - M (ix2 (⟨r.val % 8, by omega⟩ : Fin 8) b)) * C (ix2 (⟨r.val % 8, by omega⟩ : Fin 8) b))

/-- A sum over the first `m + k` numbers is that over the first `m` and the next `k`. -/
theorem sum_step (g : ℕ → EReal) (m k : ℕ) : ∑ j ∈ Finset.range (m + k), g j = ∑ j ∈ Finset.range m, g j + ∑ j : Fin k, g (m + j.val) := by
  rw [Finset.sum_range_add, ← Fin.sum_univ_eq_sum_range (fun j => g (m + j))]

/-- One chunk adds its sixteen weights of each sublane to the running sum. -/
theorem chunkL (M C A : FVec Ideal S8x256 .f32) (u : FVec Ideal S32768x256 .f32) (V : FVec Ideal S128x256 .f32) (m : ℕ) (hm : m + 16 ≤ 4096)
    (hV : ∀ (r : Fin 128) (b : Fin 256), V (ix2 r b) = u (ix2 (row (8 * m + r.val)) b)) (a : Fin 8) (b : Fin 256)
    (hA : A (ix2 a b) = ∑ j ∈ Finset.range m, pwF M C u (row (8 * j + a.val)) b) :
    k0_pay7 (F := Ideal) M C A V (ix2 a b) = ∑ j ∈ Finset.range (m + 16), pwF M C u (row (8 * j + a.val)) b := by
  rw [pay7_at, hA, sum_step]
  refine congrArg (_ + ·) (Finset.sum_congr rfl fun j _ => ?_)
  rw [pay6_at, hV, pwF]
  have e1 : row (8 * m + (⟨j.val * 8 + a.val, by omega⟩ : Fin 128).val) = row (8 * (m + j.val) + a.val) := congrArg row (by simp only; omega)
  have e2 : (⟨(row (8 * (m + j.val) + a.val)).val % 8, by omega⟩ : Fin 8) = a := Fin.ext (by simp only [row]; omega)
  rw [e1, e2]

/-- One chunk bounds the running maximum by its sixteen scores of each sublane. -/
theorem chunkM (f11 : FVec Ideal S32768x64 .fp8e4m3) (f10 : FVec Ideal S32768x128 .f32) (q : FVec Ideal S256x64 .fp8e4m3) (X : FVec Ideal S8x256 .f32)
    (K : FVec Ideal S128x64 .fp8e4m3) (A : FVec Ideal S128x128 .f32) (m : ℕ) (hm : m + 16 ≤ 4096)
    (hK : ∀ (r : Fin 128) (d : Fin 64), K (ix2 r d) = f11 (ix2 (row (8 * m + r.val)) d))
    (hA : ∀ (r : Fin 128) (d : Fin 128), A (ix2 r d) = f10 (ix2 (row (8 * m + r.val)) d)) (a : Fin 8) (b : Fin 256) (y : EReal)
    (hX : Iff (X (ix2 a b) ≤ y) (∀ j < m, scF f11 f10 q (row (8 * j + a.val)) b ≤ y)) :
    Iff (k0_pay11 (F := Ideal) q X K A (ix2 a b) ≤ y) (∀ j < m + 16, scF f11 f10 q (row (8 * j + a.val)) b ≤ y) := by
  have hs : ∀ j : Fin 16, k0_pay10 (F := Ideal) q K A (ix2 (⟨j.val * 8 + a.val, by omega⟩ : Fin 128) b) = scF f11 f10 q (row (8 * (m + j.val) + a.val)) b := by
    intro j
    rw [pay10_at, hA, scF]
    have e1 : row (8 * m + (⟨j.val * 8 + a.val, by omega⟩ : Fin 128).val) = row (8 * (m + j.val) + a.val) := congrArg row (by simp only; omega)
    rw [e1]
    congr 1
    exact Finset.sum_congr rfl fun d _ => by rw [hK, e1]
  rw [pay11_le, hX]
  constructor
  · rintro ⟨h1, h2⟩ j hj
    rcases Nat.lt_or_ge j m with h | h
    · exact h1 j h
    · have := h2 ⟨j - m, by omega⟩
      rw [hs] at this
      have e : m + (j - m) = j := by omega
      simpa only [e] using this
  · intro h
    refine ⟨fun j hj => h j (by omega), fun j => ?_⟩
    rw [hs]
    exact h _ (by omega)

/-- One tile of 1024 keys adds its products of values and weights. -/
theorem tileO (M C : FVec Ideal S8x256 .f32) (u : FVec Ideal S32768x256 .f32) (f12 : FVec Ideal S64x32768 .fp8e4m3) (O : FVec Ideal S64x256 .f32)
    (V : FVec Ideal S64x1024 .fp8e4m3) (W : FVec Ideal S1024x256 .fp8e4m3) (n : ℕ) (hn : n + 1024 ≤ 32768)
    (hV : ∀ (d : Fin 64) (r : Fin 1024), V (ix2 d r) = f12 (ix2 d (row (n + r.val))))
    (hW : ∀ (r : Fin 1024) (b : Fin 256), W (ix2 r b) = pwF M C u (row (n + r.val)) b) (d : Fin 64) (b : Fin 256)
    (hO : O (ix2 d b) = ∑ r ∈ Finset.range n, f12 (ix2 d (row r)) * pwF M C u (row r) b) :
    k0_pay91 (F := Ideal) O V W (ix2 d b) = ∑ r ∈ Finset.range (n + 1024), f12 (ix2 d (row r)) * pwF M C u (row r) b := by
  rw [pay91_at, hO, sum_step]
  exact congrArg (_ + ·) (Finset.sum_congr rfl fun r _ => by rw [hV, hW])

/-- The chunk's weights as stored for the product. -/
theorem chunkW (M C : FVec Ideal S8x256 .f32) (u : FVec Ideal S32768x256 .f32) (V : FVec Ideal S128x256 .f32) (m : ℕ) (hm : m + 16 ≤ 4096)
    (hV : ∀ (r : Fin 128) (b : Fin 256), V (ix2 r b) = u (ix2 (row (8 * m + r.val)) b)) (r : Fin 128) (b : Fin 256) :
    k0_pay8 (F := Ideal) M C V (ix2 r b) = pwF M C u (row (8 * m + r.val)) b := by
  rw [pay8_at, hV, pwF]
  have e2 : (⟨(row (8 * m + r.val)).val % 8, by omega⟩ : Fin 8) = ⟨r.val % 8, by omega⟩ := Fin.ext (by simp only [row]; omega)
  rw [e2]

/-- The chunk's scores as stored for the next block. -/
theorem chunkS (f11 : FVec Ideal S32768x64 .fp8e4m3) (f10 : FVec Ideal S32768x128 .f32) (q : FVec Ideal S256x64 .fp8e4m3)
    (K : FVec Ideal S128x64 .fp8e4m3) (A : FVec Ideal S128x128 .f32) (m : ℕ) (hm : m + 16 ≤ 4096)
    (hK : ∀ (r : Fin 128) (d : Fin 64), K (ix2 r d) = f11 (ix2 (row (8 * m + r.val)) d))
    (hA : ∀ (r : Fin 128) (d : Fin 128), A (ix2 r d) = f10 (ix2 (row (8 * m + r.val)) d)) (r : Fin 128) (b : Fin 256) :
    k0_pay10 (F := Ideal) q K A (ix2 r b) = scF f11 f10 q (row (8 * m + r.val)) b := by
  rw [pay10_at, hA, scF]
  congr 1
  exact Finset.sum_congr rfl fun d _ => by rw [hK]

end Cert.KernelIdeal.Val

end
-- ==== Proof.ValTile.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValGeom
public import proofs.«01_k».proof.Proof.ValChunk
public import Idealize.ShloMosaic.Lib.WritesUnit
public import Idealize.ShloMosaic.Lib.Pipeline.FrameBody
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

/-! ## The chunks of a tile, and what a tile of 1024 keys leaves -/

/-- The chunk of the previous block's scores. -/
def ldU (c : Dev nD) (k : Fin k0_t3_loop.trips) (h : Fin 8) (f : MBuf c sM9) : FVec Ideal S128x256 .f32 :=
  sM9.view.readAt (Elt Ideal) (Rect.unit (s := S32768x256) (k0_off6 k (BitVec.ofNat 32 (128 * h.val))) S128x256.size (k0_off6_inb k h)).toLoadRect f

theorem ldU_at (c : Dev nD) (k : Fin k0_t3_loop.trips) (hk : k.val < 32) (h : Fin 8) (f : MBuf c sM9) (r : Fin 128) (b : Fin 256) :
    ldU c k h f (ix2 r b) = (f : FVec Ideal S32768x256 .f32) (ix2 (row (8 * (128 * k.val + 16 * h.val) + r.val)) b) := by
  show (f : FVec Ideal S32768x256 .f32) ((Rect.unit (s := S32768x256) (k0_off6 k (BitVec.ofNat 32 (128 * h.val))) S128x256.size (k0_off6_inb k h)).toLoadRect.idx (ix2 r b)) = _
  refine congrArg (f : FVec Ideal S32768x256 .f32) (funext fun a => Fin.ext ?_)
  refine (show _ = k0_off6 k (BitVec.ofNat 32 (128 * h.val)) a + 1 * (ix2 r b a).val from rfl).trans ?_
  rw [k0_off6_eq k h]
  fin_cases a
  · show 1024 * k.val + 128 * h.val + 1 * r.val = (8 * (128 * k.val + 16 * h.val) + r.val) % 32768
    omega
  · show 0 + 1 * b.val = b.val
    omega

/-- The chunk of the key codes. -/
def ldK (c : Dev nD) (k : Fin k0_t3_loop.trips) (h : Fin 8) (f : MBuf c sM11) : FVec Ideal S128x64 .fp8e4m3 :=
  sM11.view.readAt (Elt Ideal) (Rect.unit (s := S32768x64) (k0_off7 k (BitVec.ofNat 32 (128 * h.val))) S128x64.size (k0_off7_inb k h)).toLoadRect f

theorem ldK_at (c : Dev nD) (k : Fin k0_t3_loop.trips) (hk : k.val < 32) (h : Fin 8) (f : MBuf c sM11) (r : Fin 128) (b : Fin 64) :
    ldK c k h f (ix2 r b) = (f : FVec Ideal S32768x64 .fp8e4m3) (ix2 (row (8 * (128 * k.val + 16 * h.val) + r.val)) b) := by
  show (f : FVec Ideal S32768x64 .fp8e4m3) ((Rect.unit (s := S32768x64) (k0_off7 k (BitVec.ofNat 32 (128 * h.val))) S128x64.size (k0_off7_inb k h)).toLoadRect.idx (ix2 r b)) = _
  refine congrArg (f : FVec Ideal S32768x64 .fp8e4m3) (funext fun a => Fin.ext ?_)
  refine (show _ = k0_off7 k (BitVec.ofNat 32 (128 * h.val)) a + 1 * (ix2 r b a).val from rfl).trans ?_
  rw [k0_off7_eq k h]
  fin_cases a
  · show 1024 * k.val + 128 * h.val + 1 * r.val = (8 * (128 * k.val + 16 * h.val) + r.val) % 32768
    omega
  · show 0 + 1 * b.val = b.val
    omega

/-- The chunk of the repeated key scales. -/
def ldA (c : Dev nD) (k : Fin k0_t3_loop.trips) (h : Fin 8) (f : MBuf c sM10) : FVec Ideal S128x128 .f32 :=
  sM10.view.readAt (Elt Ideal) (Rect.unit (s := S32768x128) (k0_off8 k (BitVec.ofNat 32 (128 * h.val))) S128x128.size (k0_off8_inb k h)).toLoadRect f

theorem ldA_at (c : Dev nD) (k : Fin k0_t3_loop.trips) (hk : k.val < 32) (h : Fin 8) (f : MBuf c sM10) (r : Fin 128) (b : Fin 128) :
    ldA c k h f (ix2 r b) = (f : FVec Ideal S32768x128 .f32) (ix2 (row (8 * (128 * k.val + 16 * h.val) + r.val)) b) := by
  show (f : FVec Ideal S32768x128 .f32) ((Rect.unit (s := S32768x128) (k0_off8 k (BitVec.ofNat 32 (128 * h.val))) S128x128.size (k0_off8_inb k h)).toLoadRect.idx (ix2 r b)) = _
  refine congrArg (f : FVec Ideal S32768x128 .f32) (funext fun a => Fin.ext ?_)
  refine (show _ = k0_off8 k (BitVec.ofNat 32 (128 * h.val)) a + 1 * (ix2 r b a).val from rfl).trans ?_
  rw [k0_off8_eq k h]
  fin_cases a
  · show 1024 * k.val + 128 * h.val + 1 * r.val = (8 * (128 * k.val + 16 * h.val) + r.val) % 32768
    omega
  · show 0 + 1 * b.val = b.val
    omega

/-- The tile of the transposed value codes. -/
def ldV (c : Dev nD) (k : Fin k0_t3_loop.trips) (f : MBuf c sM12) : FVec Ideal S64x1024 .fp8e4m3 :=
  sM12.view.readAt (Elt Ideal) (Rect.unit (s := S64x32768) (k0_off9 k) S64x1024.size (k0_off9_inb k)).toLoadRect f

theorem ldV_at (c : Dev nD) (k : Fin k0_t3_loop.trips) (hk : k.val < 32) (f : MBuf c sM12) (d : Fin 64) (r : Fin 1024) :
    ldV c k f (ix2 d r) = (f : FVec Ideal S64x32768 .fp8e4m3) (ix2 d (row (1024 * k.val + r.val))) := by
  show (f : FVec Ideal S64x32768 .fp8e4m3) ((Rect.unit (s := S64x32768) (k0_off9 k) S64x1024.size (k0_off9_inb k)).toLoadRect.idx (ix2 d r)) = _
  refine congrArg (f : FVec Ideal S64x32768 .fp8e4m3) (funext fun a => Fin.ext ?_)
  refine (show _ = k0_off9 k a + 1 * (ix2 d r a).val from rfl).trans ?_
  rw [k0_off9_eq k]
  fin_cases a
  · show 0 + 1 * d.val = d.val
    omega
  · show 1024 * k.val + 1 * r.val = (1024 * k.val + r.val) % 32768
    omega

/-- The tile's weights as the product reads them back: the eight chunks' weights, stored one below the other. -/
def ldP (c : Dev nD) (k : Fin k0_t3_loop.trips) (M C : FVec Ideal S8x256 .f32) (f9 : MBuf c sM9) : FVec Ideal S1024x256 .fp8e4m3 :=
  sM13.view.readCov (Val := Elt Ideal)
    [⟨Rect.unit ![896, 0] S128x256.size inb_S1024x256_S128x256_896_0, k0_pay8 (F := Ideal) M C (ldU c k 7 f9)⟩,
      ⟨Rect.unit ![768, 0] S128x256.size inb_S1024x256_S128x256_768_0, k0_pay8 (F := Ideal) M C (ldU c k 6 f9)⟩,
      ⟨Rect.unit ![640, 0] S128x256.size inb_S1024x256_S128x256_640_0, k0_pay8 (F := Ideal) M C (ldU c k 5 f9)⟩,
      ⟨Rect.unit ![512, 0] S128x256.size inb_S1024x256_S128x256_512_0, k0_pay8 (F := Ideal) M C (ldU c k 4 f9)⟩,
      ⟨Rect.unit ![384, 0] S128x256.size inb_S1024x256_S128x256_384_0, k0_pay8 (F := Ideal) M C (ldU c k 3 f9)⟩,
      ⟨Rect.unit ![256, 0] S128x256.size inb_S1024x256_S128x256_256_0, k0_pay8 (F := Ideal) M C (ldU c k 2 f9)⟩,
      ⟨Rect.unit ![128, 0] S128x256.size inb_S1024x256_S128x256_128_0, k0_pay8 (F := Ideal) M C (ldU c k 1 f9)⟩,
      ⟨Rect.unit ![0, 0] S128x256.size inb_S1024x256_S128x256_0_0, k0_pay8 (F := Ideal) M C (ldU c k 0 f9)⟩]
    (Rect.unit ![0, 0] S1024x256.size inb_S1024x256_S1024x256_0_0).toLoadRect

theorem ldP_at (c : Dev nD) (k : Fin k0_t3_loop.trips) (hk : k.val < 32) (M C : FVec Ideal S8x256 .f32) (f9 : MBuf c sM9) (u : FVec Ideal S32768x256 .f32)
    (hu : ∀ (h : Fin 8) (r : Fin 128) (b : Fin 256), ldU c k h f9 (ix2 r b) = u (ix2 (row (8 * (128 * k.val + 16 * h.val) + r.val)) b)) (r : Fin 1024) (b : Fin 256) :
    ldP c k M C f9 (ix2 r b) = pwF M C u (row (1024 * k.val + r.val)) b := by
  have hidx : (Rect.unit (s := S1024x256) ![0, 0] S1024x256.size inb_S1024x256_S1024x256_0_0).toLoadRect.idx (ix2 r b) = ix2 r b := by
    refine funext fun a => Fin.ext ?_
    refine (show _ = (![0, 0] : Fin 2 → ℕ) a + 1 * (ix2 r b a).val from rfl).trans ?_
    fin_cases a
    · show 0 + 1 * r.val = r.val
      omega
    · show 0 + 1 * b.val = b.val
      omega
  unfold ldP View.readCov
  rw [View.readAt_apply, hidx]
  rcases Nat.lt_or_ge r.val 896 with h7 | h7
  rotate_left
  · exact (View.read_writes_cons_rows_of_mem _ _ _ _ _ (ix2 r b) (ix2 (⟨r.val - 896, by omega⟩ : Fin 128) b) rfl (show r.val = 896 + (r.val - 896) by omega) rfl).trans ((chunkW M C u (ldU c k 7 f9) (128 * k.val + 16 * 7) (by omega) (fun r b => hu 7 r b) _ _).trans (congrArg (fun z => pwF M C u z b) (congrArg row (show 8 * (128 * k.val + 16 * 7) + (r.val - 896) = 1024 * k.val + r.val by omega))))
  refine (View.read_writes_cons_rows_of_not_mem _ _ _ _ _ (ix2 r b) (o := 896) (W := 128) rfl rfl (Or.inl h7)).trans ?_
  rcases Nat.lt_or_ge r.val 768 with h6 | h6
  rotate_left
  · exact (View.read_writes_cons_rows_of_mem _ _ _ _ _ (ix2 r b) (ix2 (⟨r.val - 768, by omega⟩ : Fin 128) b) rfl (show r.val = 768 + (r.val - 768) by omega) rfl).trans ((chunkW M C u (ldU c k 6 f9) (128 * k.val + 16 * 6) (by omega) (fun r b => hu 6 r b) _ _).trans (congrArg (fun z => pwF M C u z b) (congrArg row (show 8 * (128 * k.val + 16 * 6) + (r.val - 768) = 1024 * k.val + r.val by omega))))
  refine (View.read_writes_cons_rows_of_not_mem _ _ _ _ _ (ix2 r b) (o := 768) (W := 128) rfl rfl (Or.inl h6)).trans ?_
  rcases Nat.lt_or_ge r.val 640 with h5 | h5
  rotate_left
  · exact (View.read_writes_cons_rows_of_mem _ _ _ _ _ (ix2 r b) (ix2 (⟨r.val - 640, by omega⟩ : Fin 128) b) rfl (show r.val = 640 + (r.val - 640) by omega) rfl).trans ((chunkW M C u (ldU c k 5 f9) (128 * k.val + 16 * 5) (by omega) (fun r b => hu 5 r b) _ _).trans (congrArg (fun z => pwF M C u z b) (congrArg row (show 8 * (128 * k.val + 16 * 5) + (r.val - 640) = 1024 * k.val + r.val by omega))))
  refine (View.read_writes_cons_rows_of_not_mem _ _ _ _ _ (ix2 r b) (o := 640) (W := 128) rfl rfl (Or.inl h5)).trans ?_
  rcases Nat.lt_or_ge r.val 512 with h4 | h4
  rotate_left
  · exact (View.read_writes_cons_rows_of_mem _ _ _ _ _ (ix2 r b) (ix2 (⟨r.val - 512, by omega⟩ : Fin 128) b) rfl (show r.val = 512 + (r.val - 512) by omega) rfl).trans ((chunkW M C u (ldU c k 4 f9) (128 * k.val + 16 * 4) (by omega) (fun r b => hu 4 r b) _ _).trans (congrArg (fun z => pwF M C u z b) (congrArg row (show 8 * (128 * k.val + 16 * 4) + (r.val - 512) = 1024 * k.val + r.val by omega))))
  refine (View.read_writes_cons_rows_of_not_mem _ _ _ _ _ (ix2 r b) (o := 512) (W := 128) rfl rfl (Or.inl h4)).trans ?_
  rcases Nat.lt_or_ge r.val 384 with h3 | h3
  rotate_left
  · exact (View.read_writes_cons_rows_of_mem _ _ _ _ _ (ix2 r b) (ix2 (⟨r.val - 384, by omega⟩ : Fin 128) b) rfl (show r.val = 384 + (r.val - 384) by omega) rfl).trans ((chunkW M C u (ldU c k 3 f9) (128 * k.val + 16 * 3) (by omega) (fun r b => hu 3 r b) _ _).trans (congrArg (fun z => pwF M C u z b) (congrArg row (show 8 * (128 * k.val + 16 * 3) + (r.val - 384) = 1024 * k.val + r.val by omega))))
  refine (View.read_writes_cons_rows_of_not_mem _ _ _ _ _ (ix2 r b) (o := 384) (W := 128) rfl rfl (Or.inl h3)).trans ?_
  rcases Nat.lt_or_ge r.val 256 with h2 | h2
  rotate_left
  · exact (View.read_writes_cons_rows_of_mem _ _ _ _ _ (ix2 r b) (ix2 (⟨r.val - 256, by omega⟩ : Fin 128) b) rfl (show r.val = 256 + (r.val - 256) by omega) rfl).trans ((chunkW M C u (ldU c k 2 f9) (128 * k.val + 16 * 2) (by omega) (fun r b => hu 2 r b) _ _).trans (congrArg (fun z => pwF M C u z b) (congrArg row (show 8 * (128 * k.val + 16 * 2) + (r.val - 256) = 1024 * k.val + r.val by omega))))
  refine (View.read_writes_cons_rows_of_not_mem _ _ _ _ _ (ix2 r b) (o := 256) (W := 128) rfl rfl (Or.inl h2)).trans ?_
  rcases Nat.lt_or_ge r.val 128 with h1 | h1
  rotate_left
  · exact (View.read_writes_cons_rows_of_mem _ _ _ _ _ (ix2 r b) (ix2 (⟨r.val - 128, by omega⟩ : Fin 128) b) rfl (show r.val = 128 + (r.val - 128) by omega) rfl).trans ((chunkW M C u (ldU c k 1 f9) (128 * k.val + 16 * 1) (by omega) (fun r b => hu 1 r b) _ _).trans (congrArg (fun z => pwF M C u z b) (congrArg row (show 8 * (128 * k.val + 16 * 1) + (r.val - 128) = 1024 * k.val + r.val by omega))))
  refine (View.read_writes_cons_rows_of_not_mem _ _ _ _ _ (ix2 r b) (o := 128) (W := 128) rfl rfl (Or.inl h1)).trans ?_
  exact (View.read_writes_cons_rows_of_mem _ _ _ _ _ (ix2 r b) (ix2 (⟨r.val - 0, by omega⟩ : Fin 128) b) rfl (show r.val = 0 + (r.val - 0) by omega) rfl).trans ((chunkW M C u (ldU c k 0 f9) (128 * k.val + 16 * 0) (by omega) (fun r b => hu 0 r b) _ _).trans (congrArg (fun z => pwF M C u z b) (congrArg row (show 8 * (128 * k.val + 16 * 0) + (r.val - 0) = 1024 * k.val + r.val by omega))))

/-- The score buffer after a tile: the eight chunks' scores over what it held. -/
def stS (c : Dev nD) (k : Fin k0_t3_loop.trips) (q : FVec Ideal S256x64 .fp8e4m3) (f10 : MBuf c sM10) (f11 : MBuf c sM11) (f9 : MBuf c sM9) : MBuf c sM9 :=
  sM9.view.writes (Elt Ideal) f9
    [⟨Rect.unit (k0_off6 k (BitVec.ofNat 32 (128 * ((7 : Fin 8).val)))) S128x256.size (k0_off6_inb k 7), k0_pay10 (F := Ideal) q (ldK c k 7 f11) (ldA c k 7 f10)⟩,
      ⟨Rect.unit (k0_off6 k (BitVec.ofNat 32 (128 * ((6 : Fin 8).val)))) S128x256.size (k0_off6_inb k 6), k0_pay10 (F := Ideal) q (ldK c k 6 f11) (ldA c k 6 f10)⟩,
      ⟨Rect.unit (k0_off6 k (BitVec.ofNat 32 (128 * ((5 : Fin 8).val)))) S128x256.size (k0_off6_inb k 5), k0_pay10 (F := Ideal) q (ldK c k 5 f11) (ldA c k 5 f10)⟩,
      ⟨Rect.unit (k0_off6 k (BitVec.ofNat 32 (128 * ((4 : Fin 8).val)))) S128x256.size (k0_off6_inb k 4), k0_pay10 (F := Ideal) q (ldK c k 4 f11) (ldA c k 4 f10)⟩,
      ⟨Rect.unit (k0_off6 k (BitVec.ofNat 32 (128 * ((3 : Fin 8).val)))) S128x256.size (k0_off6_inb k 3), k0_pay10 (F := Ideal) q (ldK c k 3 f11) (ldA c k 3 f10)⟩,
      ⟨Rect.unit (k0_off6 k (BitVec.ofNat 32 (128 * ((2 : Fin 8).val)))) S128x256.size (k0_off6_inb k 2), k0_pay10 (F := Ideal) q (ldK c k 2 f11) (ldA c k 2 f10)⟩,
      ⟨Rect.unit (k0_off6 k (BitVec.ofNat 32 (128 * ((1 : Fin 8).val)))) S128x256.size (k0_off6_inb k 1), k0_pay10 (F := Ideal) q (ldK c k 1 f11) (ldA c k 1 f10)⟩,
      ⟨Rect.unit (k0_off6 k (BitVec.ofNat 32 (128 * ((0 : Fin 8).val)))) S128x256.size (k0_off6_inb k 0), k0_pay10 (F := Ideal) q (ldK c k 0 f11) (ldA c k 0 f10)⟩]

/-- The whole buffer reads as its contents. -/
theorem read9 (c : Dev nD) (f : MBuf c sM9) (x : S32768x256.Idx) : (f : FVec Ideal S32768x256 .f32) x = sM9.view.read (Elt Ideal) f x := rfl

theorem stS_at (c : Dev nD) (k : Fin k0_t3_loop.trips) (hk : k.val < 32) (q : FVec Ideal S256x64 .fp8e4m3) (f10 : MBuf c sM10) (f11 : MBuf c sM11) (f9 : MBuf c sM9) (r : Fin 32768) (b : Fin 256) :
    (stS c k q f10 f11 f9 : FVec Ideal S32768x256 .f32) (ix2 r b) = if 1024 * k.val ≤ r.val ∧ r.val < 1024 * (k.val + 1) then scF f11 f10 q r b else (f9 : FVec Ideal S32768x256 .f32) (ix2 r b) := by
  have hsc : ∀ (h : Fin 8) (x : Fin 128), 1024 * k.val + 128 * h.val + x.val = r.val → k0_pay10 (F := Ideal) q (ldK c k h f11) (ldA c k h f10) (ix2 x b) = scF f11 f10 q r b := by
    intro h x hx
    refine (chunkS f11 f10 q (ldK c k h f11) (ldA c k h f10) (128 * k.val + 16 * h.val) (by omega) (fun r d => ldK_at c k hk h f11 r d) (fun r d => ldA_at c k hk h f10 r d) x b).trans ?_
    rw [show 8 * (128 * k.val + 16 * h.val) + x.val = r.val by omega, row_val]
  refine (read9 c (stS c k q f10 f11 f9) (ix2 r b)).trans ?_
  unfold stS
  by_cases h7 : 1024 * k.val + 128 * 7 ≤ r.val ∧ r.val < 1024 * k.val + 128 * 7 + 128
  · rw [if_pos (by omega)]
    exact (View.read_writes_cons_rows_of_mem _ _ _ _ _ (ix2 r b) (ix2 (⟨r.val - (1024 * k.val + 128 * 7), by omega⟩ : Fin 128) b) (k0_off6_eq k 7) (show r.val = 1024 * k.val + 128 * 7 + (r.val - (1024 * k.val + 128 * 7)) by omega) rfl).trans
      (hsc 7 _ (show 1024 * k.val + 128 * 7 + (r.val - (1024 * k.val + 128 * 7)) = r.val by omega))
  refine (View.read_writes_cons_rows_of_not_mem _ _ _ _ _ (ix2 r b) (W := 128) (k0_off6_eq k 7) rfl (show r.val < 1024 * k.val + 128 * 7 ∨ 1024 * k.val + 128 * 7 + 128 ≤ r.val by omega)).trans ?_
  by_cases h6 : 1024 * k.val + 128 * 6 ≤ r.val ∧ r.val < 1024 * k.val + 128 * 6 + 128
  · rw [if_pos (by omega)]
    exact (View.read_writes_cons_rows_of_mem _ _ _ _ _ (ix2 r b) (ix2 (⟨r.val - (1024 * k.val + 128 * 6), by omega⟩ : Fin 128) b) (k0_off6_eq k 6) (show r.val = 1024 * k.val + 128 * 6 + (r.val - (1024 * k.val + 128 * 6)) by omega) rfl).trans
      (hsc 6 _ (show 1024 * k.val + 128 * 6 + (r.val - (1024 * k.val + 128 * 6)) = r.val by omega))
  refine (View.read_writes_cons_rows_of_not_mem _ _ _ _ _ (ix2 r b) (W := 128) (k0_off6_eq k 6) rfl (show r.val < 1024 * k.val + 128 * 6 ∨ 1024 * k.val + 128 * 6 + 128 ≤ r.val by omega)).trans ?_
  by_cases h5 : 1024 * k.val + 128 * 5 ≤ r.val ∧ r.val < 1024 * k.val + 128 * 5 + 128
  · rw [if_pos (by omega)]
    exact (View.read_writes_cons_rows_of_mem _ _ _ _ _ (ix2 r b) (ix2 (⟨r.val - (1024 * k.val + 128 * 5), by omega⟩ : Fin 128) b) (k0_off6_eq k 5) (show r.val = 1024 * k.val + 128 * 5 + (r.val - (1024 * k.val + 128 * 5)) by omega) rfl).trans
      (hsc 5 _ (show 1024 * k.val + 128 * 5 + (r.val - (1024 * k.val + 128 * 5)) = r.val by omega))
  refine (View.read_writes_cons_rows_of_not_mem _ _ _ _ _ (ix2 r b) (W := 128) (k0_off6_eq k 5) rfl (show r.val < 1024 * k.val + 128 * 5 ∨ 1024 * k.val + 128 * 5 + 128 ≤ r.val by omega)).trans ?_
  by_cases h4 : 1024 * k.val + 128 * 4 ≤ r.val ∧ r.val < 1024 * k.val + 128 * 4 + 128
  · rw [if_pos (by omega)]
    exact (View.read_writes_cons_rows_of_mem _ _ _ _ _ (ix2 r b) (ix2 (⟨r.val - (1024 * k.val + 128 * 4), by omega⟩ : Fin 128) b) (k0_off6_eq k 4) (show r.val = 1024 * k.val + 128 * 4 + (r.val - (1024 * k.val + 128 * 4)) by omega) rfl).trans
      (hsc 4 _ (show 1024 * k.val + 128 * 4 + (r.val - (1024 * k.val + 128 * 4)) = r.val by omega))
  refine (View.read_writes_cons_rows_of_not_mem _ _ _ _ _ (ix2 r b) (W := 128) (k0_off6_eq k 4) rfl (show r.val < 1024 * k.val + 128 * 4 ∨ 1024 * k.val + 128 * 4 + 128 ≤ r.val by omega)).trans ?_
  by_cases h3 : 1024 * k.val + 128 * 3 ≤ r.val ∧ r.val < 1024 * k.val + 128 * 3 + 128
  · rw [if_pos (by omega)]
    exact (View.read_writes_cons_rows_of_mem _ _ _ _ _ (ix2 r b) (ix2 (⟨r.val - (1024 * k.val + 128 * 3), by omega⟩ : Fin 128) b) (k0_off6_eq k 3) (show r.val = 1024 * k.val + 128 * 3 + (r.val - (1024 * k.val + 128 * 3)) by omega) rfl).trans
      (hsc 3 _ (show 1024 * k.val + 128 * 3 + (r.val - (1024 * k.val + 128 * 3)) = r.val by omega))
  refine (View.read_writes_cons_rows_of_not_mem _ _ _ _ _ (ix2 r b) (W := 128) (k0_off6_eq k 3) rfl (show r.val < 1024 * k.val + 128 * 3 ∨ 1024 * k.val + 128 * 3 + 128 ≤ r.val by omega)).trans ?_
  by_cases h2 : 1024 * k.val + 128 * 2 ≤ r.val ∧ r.val < 1024 * k.val + 128 * 2 + 128
  · rw [if_pos (by omega)]
    exact (View.read_writes_cons_rows_of_mem _ _ _ _ _ (ix2 r b) (ix2 (⟨r.val - (1024 * k.val + 128 * 2), by omega⟩ : Fin 128) b) (k0_off6_eq k 2) (show r.val = 1024 * k.val + 128 * 2 + (r.val - (1024 * k.val + 128 * 2)) by omega) rfl).trans
      (hsc 2 _ (show 1024 * k.val + 128 * 2 + (r.val - (1024 * k.val + 128 * 2)) = r.val by omega))
  refine (View.read_writes_cons_rows_of_not_mem _ _ _ _ _ (ix2 r b) (W := 128) (k0_off6_eq k 2) rfl (show r.val < 1024 * k.val + 128 * 2 ∨ 1024 * k.val + 128 * 2 + 128 ≤ r.val by omega)).trans ?_
  by_cases h1 : 1024 * k.val + 128 * 1 ≤ r.val ∧ r.val < 1024 * k.val + 128 * 1 + 128
  · rw [if_pos (by omega)]
    exact (View.read_writes_cons_rows_of_mem _ _ _ _ _ (ix2 r b) (ix2 (⟨r.val - (1024 * k.val + 128 * 1), by omega⟩ : Fin 128) b) (k0_off6_eq k 1) (show r.val = 1024 * k.val + 128 * 1 + (r.val - (1024 * k.val + 128 * 1)) by omega) rfl).trans
      (hsc 1 _ (show 1024 * k.val + 128 * 1 + (r.val - (1024 * k.val + 128 * 1)) = r.val by omega))
  refine (View.read_writes_cons_rows_of_not_mem _ _ _ _ _ (ix2 r b) (W := 128) (k0_off6_eq k 1) rfl (show r.val < 1024 * k.val + 128 * 1 ∨ 1024 * k.val + 128 * 1 + 128 ≤ r.val by omega)).trans ?_
  by_cases h0 : 1024 * k.val + 128 * 0 ≤ r.val ∧ r.val < 1024 * k.val + 128 * 0 + 128
  · rw [if_pos (by omega)]
    exact (View.read_writes_cons_rows_of_mem _ _ _ _ _ (ix2 r b) (ix2 (⟨r.val - (1024 * k.val + 128 * 0), by omega⟩ : Fin 128) b) (k0_off6_eq k 0) (show r.val = 1024 * k.val + 128 * 0 + (r.val - (1024 * k.val + 128 * 0)) by omega) rfl).trans
      (hsc 0 _ (show 1024 * k.val + 128 * 0 + (r.val - (1024 * k.val + 128 * 0)) = r.val by omega))
  refine (View.read_writes_cons_rows_of_not_mem _ _ _ _ _ (ix2 r b) (W := 128) (k0_off6_eq k 0) rfl (show r.val < 1024 * k.val + 128 * 0 ∨ 1024 * k.val + 128 * 0 + 128 ≤ r.val by omega)).trans ?_
  rw [if_neg (by omega)]
  rfl

/-- What the walk over the key tiles holds after `n` of them: the tiles' scores replace the previous block's `g9`, and the running
sums, maxima and products are those of the keys met. -/
structure TileFact (f11 : FVec Ideal S32768x64 .fp8e4m3) (f10 : FVec Ideal S32768x128 .f32) (f12 : FVec Ideal S64x32768 .fp8e4m3) (g9 : FVec Ideal S32768x256 .f32)
    (q : FVec Ideal S256x64 .fp8e4m3) (M C : FVec Ideal S8x256 .f32) (n : ℕ) (f9 : FVec Ideal S32768x256 .f32)
    (acc : FVec Ideal S8x256 .f32 × FVec Ideal S8x256 .f32 × FVec Ideal S64x256 .f32) : Prop where
  s : ∀ (r : Fin 32768) (b : Fin 256), f9 (ix2 r b) = if r.val < 1024 * n then scF f11 f10 q r b else g9 (ix2 r b)
  l : ∀ (a : Fin 8) (b : Fin 256), acc.1 (ix2 a b) = ∑ j ∈ Finset.range (128 * n), pwF M C g9 (row (8 * j + a.val)) b
  m : ∀ (a : Fin 8) (b : Fin 256) (y : EReal), Iff (acc.2.1 (ix2 a b) ≤ y) (∀ j < 128 * n, scF f11 f10 q (row (8 * j + a.val)) b ≤ y)
  o : ∀ (d : Fin 64) (b : Fin 256), acc.2.2 (ix2 d b) = ∑ r ∈ Finset.range (1024 * n), f12 (ix2 d (row r)) * pwF M C g9 (row r) b

/-- Before any tile. -/
theorem tileFact_zero (f11 : FVec Ideal S32768x64 .fp8e4m3) (f10 : FVec Ideal S32768x128 .f32) (f12 : FVec Ideal S64x32768 .fp8e4m3) (g9 : FVec Ideal S32768x256 .f32)
    (q : FVec Ideal S256x64 .fp8e4m3) (M C : FVec Ideal S8x256 .f32) : TileFact f11 f10 f12 g9 q M C 0 g9 (k0_pay87 (F := Ideal), k0_pay88 (F := Ideal), k0_pay89 (F := Ideal)) where
  s r b := by rw [if_neg (by omega)]
  l a b := by
    show k0_pay87 (F := Ideal) (ix2 a b) = _
    have h : k0_pay87 (F := Ideal) (ix2 a b) = 0 := by pointwise [k0_pay87]
    rw [h]; rfl
  m a b y := by
    have h : k0_pay88 (F := Ideal) (ix2 a b) = ⊥ := by pointwise [k0_pay88, ofBits_negInf]
    show Iff (k0_pay88 (F := Ideal) (ix2 a b) ≤ y) _
    rw [h]
    exact ⟨fun _ j hj => absurd hj (by omega), fun _ => bot_le⟩
  o d b := by
    show k0_pay89 (F := Ideal) (ix2 d b) = _
    have h : k0_pay89 (F := Ideal) (ix2 d b) = 0 := by pointwise [k0_pay89]
    rw [h]; rfl

/-- One tile. -/
theorem tileFact_succ (c : Dev nD) (k : Fin k0_t3_loop.trips) (hk : k.val < 32) (f10 : MBuf c sM10) (f11 : MBuf c sM11) (f12 : MBuf c sM12) (g9 f9 : MBuf c sM9)
    (q : FVec Ideal S256x64 .fp8e4m3) (M C : FVec Ideal S8x256 .f32)
    (acc : FVec Ideal S8x256 .f32 × FVec Ideal S8x256 .f32 × FVec Ideal S64x256 .f32) (H : TileFact f11 f10 f12 g9 q M C k.val f9 acc) :
    TileFact f11 f10 f12 g9 q M C (k.val + 1) (stS c k q f10 f11 f9)
      (k0_pay7 (F := Ideal) M C (k0_pay7 (F := Ideal) M C (k0_pay7 (F := Ideal) M C (k0_pay7 (F := Ideal) M C (k0_pay7 (F := Ideal) M C (k0_pay7 (F := Ideal) M C (k0_pay7 (F := Ideal) M C (k0_pay7 (F := Ideal) M C (acc.1) (ldU c k 0 f9)) (ldU c k 1 f9)) (ldU c k 2 f9)) (ldU c k 3 f9)) (ldU c k 4 f9)) (ldU c k 5 f9)) (ldU c k 6 f9)) (ldU c k 7 f9), k0_pay11 (F := Ideal) q (k0_pay11 (F := Ideal) q (k0_pay11 (F := Ideal) q (k0_pay11 (F := Ideal) q (k0_pay11 (F := Ideal) q (k0_pay11 (F := Ideal) q (k0_pay11 (F := Ideal) q (k0_pay11 (F := Ideal) q (acc.2.1) (ldK c k 0 f11) (ldA c k 0 f10)) (ldK c k 1 f11) (ldA c k 1 f10)) (ldK c k 2 f11) (ldA c k 2 f10)) (ldK c k 3 f11) (ldA c k 3 f10)) (ldK c k 4 f11) (ldA c k 4 f10)) (ldK c k 5 f11) (ldA c k 5 f10)) (ldK c k 6 f11) (ldA c k 6 f10)) (ldK c k 7 f11) (ldA c k 7 f10),
       k0_pay91 (F := Ideal) acc.2.2 (ldV c k f12) (ldP c k M C f9)) := by
  have hu : ∀ (h : Fin 8) (r : Fin 128) (b : Fin 256), ldU c k h f9 (ix2 r b) = (g9 : FVec Ideal S32768x256 .f32) (ix2 (row (8 * (128 * k.val + 16 * h.val) + r.val)) b) := by
    intro h r b
    rw [ldU_at c k hk h f9 r b, H.s, if_neg]
    show ¬ (8 * (128 * k.val + 16 * h.val) + r.val) % 32768 < 1024 * k.val
    omega
  refine ⟨fun r b => ?_, fun a b => ?_, fun a b y => ?_, fun d b => ?_⟩
  · rw [stS_at c k hk q f10 f11 f9 r b, H.s]
    by_cases h1 : r.val < 1024 * k.val
    · rw [if_neg (by omega), if_pos h1, if_pos (by omega)]
    · by_cases h2 : r.val < 1024 * (k.val + 1)
      · rw [if_pos (by omega), if_pos h2]
      · rw [if_neg (by omega), if_neg h1, if_neg h2]
  · exact (chunkL M C _ g9 (ldU c k 7 f9) (128 * k.val + 16 * 7) (by omega) (hu 7) a b (chunkL M C _ g9 (ldU c k 6 f9) (128 * k.val + 16 * 6) (by omega) (hu 6) a b (chunkL M C _ g9 (ldU c k 5 f9) (128 * k.val + 16 * 5) (by omega) (hu 5) a b (chunkL M C _ g9 (ldU c k 4 f9) (128 * k.val + 16 * 4) (by omega) (hu 4) a b (chunkL M C _ g9 (ldU c k 3 f9) (128 * k.val + 16 * 3) (by omega) (hu 3) a b (chunkL M C _ g9 (ldU c k 2 f9) (128 * k.val + 16 * 2) (by omega) (hu 2) a b (chunkL M C _ g9 (ldU c k 1 f9) (128 * k.val + 16 * 1) (by omega) (hu 1) a b (chunkL M C _ g9 (ldU c k 0 f9) (128 * k.val + 16 * 0) (by omega) (hu 0) a b (H.l a b)))))))))
  · exact (chunkM f11 f10 q _ (ldK c k 7 f11) (ldA c k 7 f10) (128 * k.val + 16 * 7) (by omega) (ldK_at c k hk 7 f11) (ldA_at c k hk 7 f10) a b y (chunkM f11 f10 q _ (ldK c k 6 f11) (ldA c k 6 f10) (128 * k.val + 16 * 6) (by omega) (ldK_at c k hk 6 f11) (ldA_at c k hk 6 f10) a b y (chunkM f11 f10 q _ (ldK c k 5 f11) (ldA c k 5 f10) (128 * k.val + 16 * 5) (by omega) (ldK_at c k hk 5 f11) (ldA_at c k hk 5 f10) a b y (chunkM f11 f10 q _ (ldK c k 4 f11) (ldA c k 4 f10) (128 * k.val + 16 * 4) (by omega) (ldK_at c k hk 4 f11) (ldA_at c k hk 4 f10) a b y (chunkM f11 f10 q _ (ldK c k 3 f11) (ldA c k 3 f10) (128 * k.val + 16 * 3) (by omega) (ldK_at c k hk 3 f11) (ldA_at c k hk 3 f10) a b y (chunkM f11 f10 q _ (ldK c k 2 f11) (ldA c k 2 f10) (128 * k.val + 16 * 2) (by omega) (ldK_at c k hk 2 f11) (ldA_at c k hk 2 f10) a b y (chunkM f11 f10 q _ (ldK c k 1 f11) (ldA c k 1 f10) (128 * k.val + 16 * 1) (by omega) (ldK_at c k hk 1 f11) (ldA_at c k hk 1 f10) a b y (chunkM f11 f10 q _ (ldK c k 0 f11) (ldA c k 0 f10) (128 * k.val + 16 * 0) (by omega) (ldK_at c k hk 0 f11) (ldA_at c k hk 0 f10) a b y (H.m a b y)))))))))
  · exact tileO M C g9 f12 acc.2.2 _ _ (1024 * k.val) (by omega) (ldV_at c k hk f12) (ldP_at c k hk M C f9 g9 hu) d b (H.o d b)

end Cert.KernelIdeal.Val

end
-- ==== Proof.ValOps.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValTile
public import Idealize.ShloMosaic.Lib.WritesUnit
public import Idealize.ShloMosaic.Lib.Pointwise
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

/-! What the kernel's expressions past the key tiles are at an index: the shift of the next block, and a tile of the output. -/

/-- The constants the shift divides: 8, and the logarithm of the largest fp8 number. -/
def c8 : EReal := Ideal.ofBits .f32 0x41000000#32
def c88 : EReal := Ideal.ofBits .f32 0x410CEAED#32

/-- The shift of a query with greatest score `mx` and factor `cn`. -/
def shF (mx cn : EReal) : EReal := max (mx - Ideal.div c8 cn) (mx - Ideal.div c88 cn)

theorem pay86_at (v : Vec Ideal S1x256x64 .fp8e4m3) (b : Fin 256) (d : Fin 64) : k0_pay86 (F := Ideal) v (ix2 b d) = v (ix3 (0 : Fin 1) b d) := by
  pointwise [k0_pay86]

theorem pay92_at (o : FVec Ideal S64x256 .f32) (z : Fin 1) (d : Fin 64) (b : Fin 256) : k0_pay92 (F := Ideal) o (ix3 z d b) = o (ix2 d b) := by
  pointwise [k0_pay92]

theorem pay93_at (o : FVec Ideal S8x256 .f32) (z : Fin 1) (a : Fin 8) (b : Fin 256) : k0_pay93 (F := Ideal) o (ix3 z a b) = o (ix2 a b) := by
  pointwise [k0_pay93]

theorem pay94_at (v : Vec Ideal S1x8x256 .f32) (a : Fin 8) (b : Fin 256) : k0_pay94 (F := Ideal) v (ix2 a b) = v (ix3 (0 : Fin 1) a b) := by
  pointwise [k0_pay94]

theorem pay3_at (v : FVec Ideal S8x256 .f32) (a : Fin 8) (b : Fin 256) : k0_pay3 (F := Ideal) v (ix2 a b) = v (ix2 a b) := by
  pointwise [k0_pay3]

theorem pay95_le (m : FVec Ideal S8x256 .f32) (a : Fin 8) (b : Fin 256) (y : EReal) : Iff (k0_pay95 (F := Ideal) m (ix2 a b) ≤ y) (∀ a' : Fin 8, m (ix2 a' b) ≤ y) := by
  have h : k0_pay95 (F := Ideal) m (ix2 a b) = Finset.univ.fold max ⊥ fun a' : Fin 8 => m (ix2 a' b) := by
    pointwise [k0_pay95, ofBits_negInf]
  rw [h, Finset.fold_max_le]
  exact ⟨fun h a' => h.2 a' (Finset.mem_univ _), fun h => ⟨bot_le, fun a' _ => h a'⟩⟩

theorem pay2_at (m : FVec Ideal S8x256 .f32) (v : Vec Ideal S1x8x256 .f32) (a : Fin 8) (b : Fin 256) :
    k0_pay2 (F := Ideal) (k0_pay94 v) (k0_pay95 m) (k0_pay96 m v) (ix2 a b) = shF (k0_pay95 (F := Ideal) m (ix2 a b)) (v (ix3 (0 : Fin 1) a b)) := by
  pointwise [k0_pay2, k0_pay96, k0_pay94]
  rfl

/-- One query block's column of the output tile. -/
theorem pay56_at (L : Vec Ideal S1x8x256 .f32) (O : Vec Ideal S1x64x256 .f32) (V : Vec Ideal S1x64x128 .f32) (r : Fin 256) (d : Fin 64) :
    k0_pay56 (F := Ideal) L O V V (ix2 r d) = (O (ix3 (0 : Fin 1) d r) * V (ix3 (0 : Fin 1) d (⟨r.val % 128, by omega⟩ : Fin 128))) * Ideal.div 1 (∑ a : Fin 8, L (ix3 (0 : Fin 1) a r)) := by
  pointwise [k0_pay56]
  congr 2
  split
  · exact congrArg (fun z => V (ix3 (0 : Fin 1) d z)) (Fin.ext (by simp only; omega))
  · exact congrArg (fun z => V (ix3 (0 : Fin 1) d z)) (Fin.ext (by simp only; omega))

theorem pay56_cong (L : Fin 4 → Vec Ideal S1x8x256 .f32) (O : Fin 4 → Vec Ideal S1x64x256 .f32) (V : Vec Ideal S1x64x128 .f32) (r : Fin 256) (g g' : Fin 4) (d d' : Fin 64)
    (hg : g.val = g'.val) (hd : d.val = d'.val) : k0_pay56 (F := Ideal) (L g) (O g) V V (ix2 r d) = k0_pay56 (F := Ideal) (L g') (O g') V V (ix2 r d') := by
  obtain rfl := Fin.ext hg
  obtain rfl := Fin.ext hd
  rfl

/-- A tile of the output: four query blocks' columns side by side. -/
def pieceF (L : Fin 4 → Vec Ideal S1x8x256 .f32) (O : Fin 4 → Vec Ideal S1x64x256 .f32) (V : Vec Ideal S1x64x128 .f32) : FVec Ideal S1x256x256 .bf16 :=
  k0_pay64 (F := Ideal) (k0_pay56 (L 0) (O 0) V V) (k0_pay56 (L 1) (O 1) V V) (k0_pay56 (L 2) (O 2) V V) (k0_pay61 (L 3)) (k0_pay62 (O 3) V V) (k0_pay63 (F := Ideal))

theorem pieceF_at (L : Fin 4 → Vec Ideal S1x8x256 .f32) (O : Fin 4 → Vec Ideal S1x64x256 .f32) (V : Vec Ideal S1x64x128 .f32) (z : Fin 1) (r l : Fin 256) :
    pieceF L O V (ix3 z r l) = (O ⟨l.val / 64, by omega⟩ (ix3 (0 : Fin 1) (⟨l.val % 64, by omega⟩ : Fin 64) r) * V (ix3 (0 : Fin 1) (⟨l.val % 64, by omega⟩ : Fin 64) (⟨r.val % 128, by omega⟩ : Fin 128)))
      * Ideal.div 1 (∑ a : Fin 8, L ⟨l.val / 64, by omega⟩ (ix3 (0 : Fin 1) a r)) := by
  have h : pieceF L O V (ix3 z r l) = k0_pay56 (F := Ideal) (L ⟨l.val / 64, by omega⟩) (O ⟨l.val / 64, by omega⟩) V V (ix2 r (⟨l.val % 64, by omega⟩ : Fin 64)) := by
    have h3 : ∀ d : Fin 64, FloatOps.mulf (k0_pay62 (F := Ideal) (O 3) V V (ix2 d r)) (FloatOps.divf (k0_pay63 (F := Ideal) (ix2 (0 : Fin 1) r)) (k0_pay61 (F := Ideal) (L 3) (ix2 (0 : Fin 1) r))) = k0_pay56 (F := Ideal) (L 3) (O 3) V V (ix2 r d) := by
      intro d
      pointwise [k0_pay56, k0_pay62, k0_pay63, k0_pay61]
    pointwise [pieceF, k0_pay64]
    split
    · exact pay56_cong L O V r 0 _ _ _ (by simp only [Fin.val_zero]; omega) (by simp only; omega)
    · split
      · exact pay56_cong L O V r 1 _ _ _ (by simp only [Fin.val_one]; omega) (by simp only; omega)
      · split
        · exact pay56_cong L O V r 2 _ _ _ (by simp only [Fin.val_two]; omega) (by simp only; omega)
        · exact (h3 _).trans (pay56_cong L O V r 3 _ _ _ (by show 3 = l.val / 64; omega) (by simp only; omega))
  rw [h, pay56_at]

end Cert.KernelIdeal.Val

end
-- ==== Proof.ValBlock.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValOps
public import Idealize.ShloMosaic.Lib.WritesUnit
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

/-! ## One query block after another

The blocks of a grid point are met in turn; block `n`'s scores are held while block `n + 1`'s are made, and its weights, sums and
products are taken then. What the buffers hold after `n` blocks is given by functions of what they held before the point. -/

/-- The block met at trip `n`. -/
def blk (n : ℕ) : Fin 16 := ⟨n % 16, by omega⟩

/-- A block's query codes and its factors, from the stages. -/
def qB (f14 : FVec Ideal S16x256x64 .fp8e4m3) (k : Fin 16) : FVec Ideal S256x64 .fp8e4m3 := fun x => f14 (ix3 k (x 0) (x 1))
def cB (f15 : FVec Ideal S16x8x256 .f32) (k : Fin 16) : FVec Ideal S8x256 .f32 := fun x => f15 (ix3 k (x 0) (x 1))

/-- A query's greatest score. -/
def mxF (K : FVec Ideal S32768x64 .fp8e4m3) (A : FVec Ideal S32768x128 .f32) (q : FVec Ideal S256x64 .fp8e4m3) (b : Fin 256) : EReal := ⨆ r : Fin 32768, scF K A q r b
/-- A block's scores, shifts, products and sums. -/
def SF (K : FVec Ideal S32768x64 .fp8e4m3) (A : FVec Ideal S32768x128 .f32) (q : FVec Ideal S256x64 .fp8e4m3) : FVec Ideal S32768x256 .f32 := fun x => scF K A q (x 0) (x 1)
def MF (K : FVec Ideal S32768x64 .fp8e4m3) (A : FVec Ideal S32768x128 .f32) (q : FVec Ideal S256x64 .fp8e4m3) (cn : FVec Ideal S8x256 .f32) : FVec Ideal S8x256 .f32 :=
  fun x => shF (mxF K A q (x 1)) (cn x)
def OF (V : FVec Ideal S64x32768 .fp8e4m3) (M C : FVec Ideal S8x256 .f32) (u : FVec Ideal S32768x256 .f32) (d : Fin 64) (b : Fin 256) : EReal :=
  ∑ r ∈ Finset.range 32768, V (ix2 d (row r)) * pwF M C u (row r) b
def LF (M C : FVec Ideal S8x256 .f32) (u : FVec Ideal S32768x256 .f32) (a : Fin 8) (b : Fin 256) : EReal :=
  ∑ j ∈ Finset.range 4096, pwF M C u (row (8 * j + a.val)) b

/-- The held scores, shifts and factors after `n` blocks. -/
def Ust (K : FVec Ideal S32768x64 .fp8e4m3) (A : FVec Ideal S32768x128 .f32) (f14 : FVec Ideal S16x256x64 .fp8e4m3) (g9 : FVec Ideal S32768x256 .f32) : ℕ → FVec Ideal S32768x256 .f32
  | 0 => g9
  | n + 1 => SF K A (qB f14 (blk n))
def Mst (K : FVec Ideal S32768x64 .fp8e4m3) (A : FVec Ideal S32768x128 .f32) (f14 : FVec Ideal S16x256x64 .fp8e4m3) (f15 : FVec Ideal S16x8x256 .f32) (g16 : FVec Ideal S8x256 .f32) : ℕ → FVec Ideal S8x256 .f32
  | 0 => g16
  | n + 1 => MF K A (qB f14 (blk n)) (cB f15 (blk n))
def Cst (f15 : FVec Ideal S16x8x256 .f32) (g17 : FVec Ideal S8x256 .f32) : ℕ → FVec Ideal S8x256 .f32
  | 0 => g17
  | n + 1 => cB f15 (blk n)

/-- What the loop over the blocks starts from and does not change. -/
structure Ent where
  K : FVec Ideal S32768x64 .fp8e4m3
  A : FVec Ideal S32768x128 .f32
  V : FVec Ideal S64x32768 .fp8e4m3
  f14 : FVec Ideal S16x256x64 .fp8e4m3
  f15 : FVec Ideal S16x8x256 .f32
  g9 : FVec Ideal S32768x256 .f32
  g16 : FVec Ideal S8x256 .f32
  g17 : FVec Ideal S8x256 .f32
  g18 : FVec Ideal S16x64x256 .f32
  g19 : FVec Ideal S16x8x256 .f32

def Ent.U (E : Ent) : ℕ → FVec Ideal S32768x256 .f32 := Ust E.K E.A E.f14 E.g9
def Ent.M (E : Ent) : ℕ → FVec Ideal S8x256 .f32 := Mst E.K E.A E.f14 E.f15 E.g16
def Ent.C (E : Ent) : ℕ → FVec Ideal S8x256 .f32 := Cst E.f15 E.g17

/-- What stage row `z` holds after `n` trips: trip 0 finishes the block held before the point, into row 15, trip `z + 1` block `z`. -/
def selF {α : Type} (F : ℕ → α) (g : α) (n z : ℕ) : α := if n ≠ 0 ∧ z = 15 then F 0 else if z + 1 < n then F (z + 1) else g

theorem selF_zero {α : Type} (F : ℕ → α) (g : α) (z : ℕ) : selF F g 0 z = g := by
  unfold selF
  rw [if_neg (by simp), if_neg (by omega)]

theorem selF_succ {α : Type} (F : ℕ → α) (g : α) (k z : ℕ) (hk : k < 16) (hz : z < 16) :
    (if z = (if k = 0 then 15 else k - 1) then F k else selF F g k z) = selF F g (k + 1) z := by
  unfold selF
  rcases Nat.eq_zero_or_pos k with h0 | h0
  · subst h0
    rw [if_pos rfl]
    by_cases hz : z = 15
    · rw [if_pos hz, if_pos ⟨by omega, hz⟩]
    · rw [if_neg hz, if_neg (by omega), if_neg (by omega), if_neg (by omega), if_neg (by omega)]
  · rw [if_neg (show ¬ k = 0 by omega)]
    by_cases hz : z = k - 1
    · rw [if_pos hz, if_neg (by omega), if_pos (by omega), show z + 1 = k by omega]
    · rw [if_neg hz]
      by_cases h15 : z = 15
      · rw [if_pos ⟨by omega, h15⟩, if_pos ⟨by omega, h15⟩]
      · rw [if_neg (by omega), if_neg (show ¬ (k + 1 ≠ 0 ∧ z = 15) by omega)]
        by_cases hlt : z + 1 < k
        · rw [if_pos hlt, if_pos (by omega)]
        · rw [if_neg hlt, if_neg (by omega)]

/-- The stages' products and sums after `n` trips. -/
def Ent.O (E : Ent) (n : ℕ) : FVec Ideal S16x64x256 .f32 := fun x => selF (fun m => OF E.V (E.M m) (E.C m) (E.U m) (x 1) (x 2)) (E.g18 x) n (x 0).val
def Ent.L (E : Ent) (n : ℕ) : FVec Ideal S16x8x256 .f32 := fun x => selF (fun m => LF (E.M m) (E.C m) (E.U m) (x 1) (x 2)) (E.g19 x) n (x 0).val

/-- What the buffers hold after `n` blocks. -/
structure BlkSt (E : Ent) (n : ℕ) (f9 : FVec Ideal S32768x256 .f32) (f16 f17 : FVec Ideal S8x256 .f32) (f18 : FVec Ideal S16x64x256 .f32) (f19 : FVec Ideal S16x8x256 .f32) : Prop where
  u : f9 = E.U n
  m : f16 = E.M n
  c : f17 = E.C n
  o : f18 = E.O n
  l : f19 = E.L n

theorem blkSt_zero (E : Ent) : BlkSt E 0 E.g9 E.g16 E.g17 E.g18 E.g19 where
  u := rfl
  m := rfl
  c := rfl
  o := by
    funext x
    exact (selF_zero _ _ _).symm
  l := by
    funext x
    exact (selF_zero _ _ _).symm

variable (c : Dev nD) (i : grid0.Coords) (k : Fin (k0_t2_loop i).trips)

/-- A trip's loads from the stages. -/
def ldQ (f : MBuf c sM14) : Vec Ideal S1x256x64 .fp8e4m3 := sM14.view.readAt (Elt Ideal) (Rect.unit (s := S16x256x64) (k0_off5 i k) S1x256x64.size (k0_off5_inb i k)).toLoadRect f
def ldC (f : MBuf c sM15) : Vec Ideal S1x8x256 .f32 := sM15.view.readAt (Elt Ideal) (Rect.unit (s := S16x8x256) (k0_off12 i k) S1x8x256.size (k0_off12_inb i k)).toLoadRect f
def ld16 (f : MBuf c sM16) : Vec Ideal S8x256 .f32 := sM16.view.readAt (Elt Ideal) (Rect.unit (s := S8x256) ![0, 0] S8x256.size (by decide)).toLoadRect f
def ld17 (f : MBuf c sM17) : Vec Ideal S8x256 .f32 := sM17.view.readAt (Elt Ideal) (Rect.unit (s := S8x256) ![0, 0] S8x256.size (by decide)).toLoadRect f

theorem ldQ_eq (f : MBuf c sM14) : k0_pay86 (F := Ideal) (ldQ c i k f) = qB f (blk k.val) := by
  funext x
  rw [eq_ix2 x]
  generalize (x 0 : Fin 256) = r
  generalize (x 1 : Fin 64) = b
  refine (pay86_at _ r b).trans ?_
  show (f : FVec Ideal S16x256x64 .fp8e4m3) ((Rect.unit (s := S16x256x64) (k0_off5 i k) S1x256x64.size (k0_off5_inb i k)).toLoadRect.idx (ix3 (0 : Fin 1) r b)) = _
  refine congrArg (f : FVec Ideal S16x256x64 .fp8e4m3) (funext fun a => Fin.ext ?_)
  refine (show _ = k0_off5 i k a + 1 * (ix3 (0 : Fin 1) r b a).val from rfl).trans ?_
  rw [off5_eq i k]
  have hk := t2_lt i k
  fin_cases a
  · show k.val + 1 * 0 = k.val % 16
    omega
  · show 0 + 1 * r.val = r.val
    omega
  · show 0 + 1 * b.val = b.val
    omega

theorem ldC_at (f : MBuf c sM15) (r : Fin 8) (b : Fin 256) : ldC c i k f (ix3 (0 : Fin 1) r b) = cB f (blk k.val) (ix2 r b) := by
  show (f : FVec Ideal S16x8x256 .f32) ((Rect.unit (s := S16x8x256) (k0_off12 i k) S1x8x256.size (k0_off12_inb i k)).toLoadRect.idx (ix3 (0 : Fin 1) r b)) = _
  refine congrArg (f : FVec Ideal S16x8x256 .f32) (funext fun a => Fin.ext ?_)
  refine (show _ = k0_off12 i k a + 1 * (ix3 (0 : Fin 1) r b a).val from rfl).trans ?_
  rw [off12_eq i k]
  have hk := t2_lt i k
  fin_cases a
  · show k.val + 1 * 0 = k.val % 16
    omega
  · show 0 + 1 * r.val = r.val
    omega
  · show 0 + 1 * b.val = b.val
    omega

theorem idx_whole (x : S8x256.Idx) : (Rect.unit (s := S8x256) ![0, 0] S8x256.size (by decide)).toLoadRect.idx x = x := by
  refine funext fun a => Fin.ext ?_
  refine (show _ = (![0, 0] : Fin 2 → ℕ) a + 1 * (x a).val from rfl).trans ?_
  fin_cases a
  · show 0 + 1 * (x 0).val = (x 0).val
    omega
  · show 0 + 1 * (x 1).val = (x 1).val
    omega

theorem ld16_eq (f : MBuf c sM16) : ld16 c f = f := funext fun x => congrArg (f : FVec Ideal S8x256 .f32) (idx_whole x)
theorem ld17_eq (f : MBuf c sM17) : ld17 c f = f := funext fun x => congrArg (f : FVec Ideal S8x256 .f32) (idx_whole x)

/-- The contents a trip leaves. -/
def st16 (f16 : MBuf c sM16) (f15 : MBuf c sM15) (m : FVec Ideal S8x256 .f32) : MBuf c sM16 :=
  sM16.view.writes (Elt Ideal) f16 [⟨Rect.unit ![0, 0] S8x256.size inb_S8x256_S8x256_0_0, k0_pay2 (F := Ideal) (k0_pay94 (ldC c i k f15)) (k0_pay95 m) (k0_pay96 m (ldC c i k f15))⟩]
def st17 (f17 : MBuf c sM17) (f15 : MBuf c sM15) : MBuf c sM17 :=
  sM17.view.writes (Elt Ideal) f17 [⟨Rect.unit ![0, 0] S8x256.size inb_S8x256_S8x256_0_0, k0_pay3 (F := Ideal) (k0_pay94 (ldC c i k f15))⟩]
def st18 (f18 : MBuf c sM18) (o : FVec Ideal S64x256 .f32) : MBuf c sM18 :=
  sM18.view.writes (Elt Ideal) f18 [⟨Rect.unit (k0_off10 i k) S1x64x256.size (k0_off10_inb i k), k0_pay92 (F := Ideal) o⟩]
def st19 (f19 : MBuf c sM19) (l : FVec Ideal S8x256 .f32) : MBuf c sM19 :=
  sM19.view.writes (Elt Ideal) f19 [⟨Rect.unit (k0_off11 i k) S1x8x256.size (k0_off11_inb i k), k0_pay93 (F := Ideal) l⟩]

theorem rd16 (f : MBuf c sM16) (x : S8x256.Idx) : (f : FVec Ideal S8x256 .f32) x = sM16.view.read (Elt Ideal) f x := rfl
theorem rd17 (f : MBuf c sM17) (x : S8x256.Idx) : (f : FVec Ideal S8x256 .f32) x = sM17.view.read (Elt Ideal) f x := rfl
theorem rd18 (f : MBuf c sM18) (x : S16x64x256.Idx) : (f : FVec Ideal S16x64x256 .f32) x = sM18.view.read (Elt Ideal) f x := rfl
theorem rd19 (f : MBuf c sM19) (x : S16x8x256.Idx) : (f : FVec Ideal S16x8x256 .f32) x = sM19.view.read (Elt Ideal) f x := rfl

theorem st16_at (f16 : MBuf c sM16) (f15 : MBuf c sM15) (m : FVec Ideal S8x256 .f32) (a : Fin 8) (b : Fin 256) :
    (st16 c i k f16 f15 m : FVec Ideal S8x256 .f32) (ix2 a b) = shF (k0_pay95 (F := Ideal) m (ix2 a b)) (cB f15 (blk k.val) (ix2 a b)) := by
  refine (rd16 c _ _).trans ?_
  refine (View.read_writes_cons_unit_of_mem _ _ _ _ _ (ix2 a b) (ix2 a b) rfl ?_).trans ?_
  · intro x
    fin_cases x
    · show a.val = 0 + a.val
      omega
    · show b.val = 0 + b.val
      omega
  · rw [pay2_at, ldC_at]

theorem st17_at (f17 : MBuf c sM17) (f15 : MBuf c sM15) (a : Fin 8) (b : Fin 256) : (st17 c i k f17 f15 : FVec Ideal S8x256 .f32) (ix2 a b) = cB f15 (blk k.val) (ix2 a b) := by
  refine (rd17 c _ _).trans ?_
  refine (View.read_writes_cons_unit_of_mem _ _ _ _ _ (ix2 a b) (ix2 a b) rfl ?_).trans ?_
  · intro x
    fin_cases x
    · show a.val = 0 + a.val
      omega
    · show b.val = 0 + b.val
      omega
  · rw [pay3_at, pay94_at, ldC_at]

theorem ext2 {m n : ℕ} {e : FTy} (f g : FVec Ideal ⟨2, ![m, n]⟩ e) (h : ∀ a b, f (ix2 a b) = g (ix2 a b)) : f = g := by
  funext x
  rw [eq_ix2 x]
  exact h _ _
theorem ext3 {m n l : ℕ} {e : FTy} (f g : FVec Ideal ⟨3, ![m, n, l]⟩ e) (h : ∀ a b c, f (ix3 a b c) = g (ix3 a b c)) : f = g := by
  funext x
  rw [eq_ix3 x]
  exact h _ _ _

theorem st18_at (f18 : MBuf c sM18) (o : FVec Ideal S64x256 .f32) (z : Fin 16) (d : Fin 64) (b : Fin 256) :
    (st18 c i k f18 o : FVec Ideal S16x64x256 .f32) (ix3 z d b) = if z.val = (if k.val = 0 then 15 else k.val - 1) then o (ix2 d b) else (f18 : FVec Ideal S16x64x256 .f32) (ix3 z d b) := by
  refine (rd18 c _ _).trans ?_
  by_cases h : z.val = (if k.val = 0 then 15 else k.val - 1)
  · rw [if_pos h]
    refine (View.read_writes_cons_unit_of_mem _ _ _ _ _ (ix3 z d b) (ix3 (0 : Fin 1) d b) (off10_eq i k) ?_).trans (pay92_at o 0 d b)
    intro x
    fin_cases x
    · show z.val = (if k.val = 0 then 15 else k.val - 1) + 0
      omega
    · show d.val = 0 + d.val
      omega
    · show b.val = 0 + b.val
      omega
  · rw [if_neg h]
    refine (View.read_writes_cons_unit_of_not_mem _ _ _ _ _ (ix3 z d b) (off10_eq i k) 0 ?_).trans rfl
    show z.val < (if k.val = 0 then 15 else k.val - 1) ∨ (if k.val = 0 then 15 else k.val - 1) + 1 ≤ z.val
    omega

theorem st19_at (f19 : MBuf c sM19) (l : FVec Ideal S8x256 .f32) (z : Fin 16) (d : Fin 8) (b : Fin 256) :
    (st19 c i k f19 l : FVec Ideal S16x8x256 .f32) (ix3 z d b) = if z.val = (if k.val = 0 then 15 else k.val - 1) then l (ix2 d b) else (f19 : FVec Ideal S16x8x256 .f32) (ix3 z d b) := by
  refine (rd19 c _ _).trans ?_
  by_cases h : z.val = (if k.val = 0 then 15 else k.val - 1)
  · rw [if_pos h]
    refine (View.read_writes_cons_unit_of_mem _ _ _ _ _ (ix3 z d b) (ix3 (0 : Fin 1) d b) (off11_eq i k) ?_).trans (pay93_at l 0 d b)
    intro x
    fin_cases x
    · show z.val = (if k.val = 0 then 15 else k.val - 1) + 0
      omega
    · show d.val = 0 + d.val
      omega
    · show b.val = 0 + b.val
      omega
  · rw [if_neg h]
    refine (View.read_writes_cons_unit_of_not_mem _ _ _ _ _ (ix3 z d b) (off11_eq i k) 0 ?_).trans rfl
    show z.val < (if k.val = 0 then 15 else k.val - 1) ∨ (if k.val = 0 then 15 else k.val - 1) + 1 ≤ z.val
    omega

/-- The greatest of the running maxima over all keys is the query's greatest score. -/
theorem mx_of_tile (K : FVec Ideal S32768x64 .fp8e4m3) (A : FVec Ideal S32768x128 .f32) (q : FVec Ideal S256x64 .fp8e4m3) (m : FVec Ideal S8x256 .f32)
    (hm : ∀ (a : Fin 8) (b : Fin 256) (y : EReal), Iff (m (ix2 a b) ≤ y) (∀ j < 4096, scF K A q (row (8 * j + a.val)) b ≤ y)) (a : Fin 8) (b : Fin 256) :
    k0_pay95 (F := Ideal) m (ix2 a b) = mxF K A q b := by
  refine eq_of_forall_ge_iff fun y => ?_
  rw [pay95_le]
  unfold mxF
  rw [iSup_le_iff]
  constructor
  · intro h r
    have := (hm (⟨r.val % 8, by omega⟩ : Fin 8) b y).mp (h _) (r.val / 8) (by omega)
    have e : row (8 * (r.val / 8) + (⟨r.val % 8, by omega⟩ : Fin 8).val) = r := (congrArg row (show 8 * (r.val / 8) + r.val % 8 = r.val by omega)).trans (row_val r)
    rw [e] at this
    exact this
  · intro h a'
    exact (hm a' b y).mpr fun j _ => h _

/-- A trip takes the state after `k` blocks to that after `k + 1`. -/
theorem blkSt_succ (E : Ent) (f9 : FVec Ideal S32768x256 .f32) (f14 : MBuf c sM14) (f15 : MBuf c sM15) (f16 : MBuf c sM16) (f17 : MBuf c sM17) (f18 : MBuf c sM18) (f19 : MBuf c sM19)
    (f9' : FVec Ideal S32768x256 .f32) (acc : FVec Ideal S8x256 .f32 × FVec Ideal S8x256 .f32 × FVec Ideal S64x256 .f32)
    (h14 : E.f14 = f14) (h15 : E.f15 = f15) (n : ℕ) (hn : n = 32)
    (hb : BlkSt E k.val f9 f16 f17 f18 f19)
    (hT : TileFact E.K E.A E.V f9 (k0_pay86 (F := Ideal) (ldQ c i k f14)) (ld16 c f16) (ld17 c f17) n f9' acc) :
    BlkSt E (k.val + 1) f9' (st16 c i k f16 f15 acc.2.1) (st17 c i k f17 f15) (st18 c i k f18 acc.2.2) (st19 c i k f19 acc.1) := by
  have hk := t2_lt i k
  subst hn
  obtain ⟨hu, hm, hc, ho, hl⟩ := hb
  rw [ldQ_eq, ld16_eq, ld17_eq] at hT
  obtain ⟨ts, tl, tm, tO⟩ := hT
  refine ⟨?_, ?_, ?_, ?_, ?_⟩
  · refine ext2 _ _ fun r b => ?_
    rw [ts r b, if_pos (by omega)]
    show _ = scF E.K E.A (qB E.f14 (blk k.val)) r b
    rw [h14]
  · refine ext2 _ _ fun a b => ?_
    rw [st16_at, mx_of_tile E.K E.A (qB f14 (blk k.val)) acc.2.1 tm a b]
    show _ = shF (mxF E.K E.A (qB E.f14 (blk k.val)) b) (cB E.f15 (blk k.val) (ix2 a b))
    rw [h14, h15]
  · refine ext2 _ _ fun a b => ?_
    rw [st17_at]
    show _ = cB E.f15 (blk k.val) (ix2 a b)
    rw [h15]
  · refine ext3 _ _ fun z d b => ?_
    rw [st18_at, tO d b, ho, hm, hc, hu]
    exact selF_succ (fun m => OF E.V (E.M m) (E.C m) (E.U m) d b) (E.g18 (ix3 z d b)) k.val z.val hk z.isLt
  · refine ext3 _ _ fun z d b => ?_
    rw [st19_at, tl d b, hl, hm, hc, hu]
    exact selF_succ (fun m => LF (E.M m) (E.C m) (E.U m) d b) (E.g19 (ix3 z d b)) k.val z.val hk z.isLt

end Cert.KernelIdeal.Val

end
-- ==== Proof.ValOut.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValBlock
public import Idealize.ShloMosaic.Lib.WritesUnit
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

/-! ## The output tile of a grid point -/

/-- The output at row `r`, lane `l` of a block: query `r % 256` of the stages' row `4 (r / 256) + l / 64`, feature `l % 64`. -/
def outAt (V : FVec Ideal S1x64x128 .f32) (O : FVec Ideal S16x64x256 .f32) (L : FVec Ideal S16x8x256 .f32) (r : Fin 1024) (l : Fin 256) : EReal :=
  (O (ix3 (⟨4 * (r.val / 256) + l.val / 64, by omega⟩ : Fin 16) (⟨l.val % 64, by omega⟩ : Fin 64) (⟨r.val % 256, by omega⟩ : Fin 256))
      * V (ix3 (0 : Fin 1) (⟨l.val % 64, by omega⟩ : Fin 64) (⟨r.val % 128, by omega⟩ : Fin 128)))
    * Ideal.div 1 (∑ a : Fin 8, L (ix3 (⟨4 * (r.val / 256) + l.val / 64, by omega⟩ : Fin 16) a (⟨r.val % 256, by omega⟩ : Fin 256)))
def outF (V : FVec Ideal S1x64x128 .f32) (O : FVec Ideal S16x64x256 .f32) (L : FVec Ideal S16x8x256 .f32) : FVec Ideal S1x1024x256 .bf16 := fun x => outAt V O L (x 1) (x 2)

variable (c : Dev nD)

theorem inbO (t b : Fin 4) (a : Fin 3) : (![4 * t.val + b.val, 0, 0] : Fin 3 → ℕ) a + S1x64x256.size a ≤ S16x64x256.size a := by
  revert t b a
  decide
theorem inbL (t b : Fin 4) (a : Fin 3) : (![4 * t.val + b.val, 0, 0] : Fin 3 → ℕ) a + S1x8x256.size a ≤ S16x8x256.size a := by
  revert t b a
  decide

/-- The loads of tile `t`: the stages' rows `4 t + b`, and the value scales. -/
def ldO (t b : Fin 4) (f : MBuf c sM18) : Vec Ideal S1x64x256 .f32 :=
  sM18.view.readAt (Elt Ideal) (Rect.unit (s := S16x64x256) ![4 * t.val + b.val, 0, 0] S1x64x256.size (inbO t b)).toLoadRect f
def ldL (t b : Fin 4) (f : MBuf c sM19) : Vec Ideal S1x8x256 .f32 :=
  sM19.view.readAt (Elt Ideal) (Rect.unit (s := S16x8x256) ![4 * t.val + b.val, 0, 0] S1x8x256.size (inbL t b)).toLoadRect f
def ldV7 (arg7 : Memref sig .tc .vmem S1x64x128 .f32) (f : MBuf c arg7) : Vec Ideal S1x64x128 .f32 :=
  arg7.view.readAt (Elt Ideal) (Rect.unit (s := S1x64x128) ![0, 0, 0] S1x64x128.size (by decide)).toLoadRect f

theorem ldO_at (t b : Fin 4) (f : MBuf c sM18) (d : Fin 64) (r : Fin 256) (z : Fin 16) (hz : z.val = 4 * t.val + b.val) :
    ldO c t b f (ix3 (0 : Fin 1) d r) = (f : FVec Ideal S16x64x256 .f32) (ix3 z d r) := by
  show (f : FVec Ideal S16x64x256 .f32) ((Rect.unit (s := S16x64x256) ![4 * t.val + b.val, 0, 0] S1x64x256.size (inbO t b)).toLoadRect.idx (ix3 (0 : Fin 1) d r)) = _
  refine congrArg (f : FVec Ideal S16x64x256 .f32) (funext fun a => Fin.ext ?_)
  refine (show _ = (![4 * t.val + b.val, 0, 0] : Fin 3 → ℕ) a + 1 * (ix3 (0 : Fin 1) d r a).val from rfl).trans ?_
  fin_cases a
  · show 4 * t.val + b.val + 1 * 0 = z.val
    omega
  · show 0 + 1 * d.val = d.val
    omega
  · show 0 + 1 * r.val = r.val
    omega

theorem ldL_at (t b : Fin 4) (f : MBuf c sM19) (d : Fin 8) (r : Fin 256) (z : Fin 16) (hz : z.val = 4 * t.val + b.val) :
    ldL c t b f (ix3 (0 : Fin 1) d r) = (f : FVec Ideal S16x8x256 .f32) (ix3 z d r) := by
  show (f : FVec Ideal S16x8x256 .f32) ((Rect.unit (s := S16x8x256) ![4 * t.val + b.val, 0, 0] S1x8x256.size (inbL t b)).toLoadRect.idx (ix3 (0 : Fin 1) d r)) = _
  refine congrArg (f : FVec Ideal S16x8x256 .f32) (funext fun a => Fin.ext ?_)
  refine (show _ = (![4 * t.val + b.val, 0, 0] : Fin 3 → ℕ) a + 1 * (ix3 (0 : Fin 1) d r a).val from rfl).trans ?_
  fin_cases a
  · show 4 * t.val + b.val + 1 * 0 = z.val
    omega
  · show 0 + 1 * d.val = d.val
    omega
  · show 0 + 1 * r.val = r.val
    omega

theorem ldV7_at (arg7 : Memref sig .tc .vmem S1x64x128 .f32) (f : MBuf c arg7) (d : Fin 64) (r : Fin 128) :
    ldV7 c arg7 f (ix3 (0 : Fin 1) d r) = arg7.view.read (Elt Ideal) f (ix3 (0 : Fin 1) d r) := by
  unfold ldV7
  rw [View.readAt_apply]
  refine congrArg (arg7.view.read (Elt Ideal) f) (funext fun a => Fin.ext ?_)
  refine (show _ = (![0, 0, 0] : Fin 3 → ℕ) a + 1 * (ix3 (0 : Fin 1) d r a).val from rfl).trans ?_
  fin_cases a
  · rfl
  · show 0 + 1 * d.val = d.val
    omega
  · show 0 + 1 * r.val = r.val
    omega

theorem piece_at (arg7 : Memref sig .tc .vmem S1x64x128 .f32) (f7 : MBuf c arg7) (f18 : MBuf c sM18) (f19 : MBuf c sM19) (t : Fin 4) (z : Fin 1) (r : Fin 1024) (l : Fin 256) (x : ℕ) (hx : x < 256)
    (hr : r.val = 256 * t.val + x) :
    pieceF (fun b => ldL c t b f19) (fun b => ldO c t b f18) (ldV7 c arg7 f7) (ix3 z (⟨x, hx⟩ : Fin 256) l) = outAt (arg7.view.read (Elt Ideal) f7) f18 f19 r l := by
  have h256 : (⟨r.val % 256, by omega⟩ : Fin 256) = ⟨x, hx⟩ := Fin.ext (by show r.val % 256 = x; omega)
  have h128 : (⟨r.val % 128, by omega⟩ : Fin 128) = ⟨x % 128, by omega⟩ := Fin.ext (by show r.val % 128 = x % 128; omega)
  rw [pieceF_at]
  unfold outAt
  rw [h256, h128, ldV7_at]
  rw [ldO_at c t _ f18 _ _ (⟨4 * (r.val / 256) + l.val / 64, by omega⟩ : Fin 16) (by show 4 * (r.val / 256) + l.val / 64 = 4 * t.val + l.val / 64; omega)]
  congr 2
  exact Finset.sum_congr rfl fun a _ => ldL_at c t _ f19 _ _ (⟨4 * (r.val / 256) + l.val / 64, by omega⟩ : Fin 16) (by show 4 * (r.val / 256) + l.val / 64 = 4 * t.val + l.val / 64; omega)

/-- What trip 0 leaves in the output's buffer. -/
def st8 (arg7 : Memref sig .tc .vmem S1x64x128 .f32) (arg8 : Memref sig .tc .vmem S1x1024x256 .bf16) (f7 : MBuf c arg7) (f8 : MBuf c arg8) (f18 : MBuf c sM18) (f19 : MBuf c sM19) : MBuf c arg8 :=
  arg8.view.writes (Elt Ideal) f8
    [⟨Rect.unit (s := S1x1024x256) ![0, 768, 0] S1x256x256.size (by decide), pieceF (fun b => ldL c 3 b f19) (fun b => ldO c 3 b f18) (ldV7 c arg7 f7)⟩,
      ⟨Rect.unit (s := S1x1024x256) ![0, 512, 0] S1x256x256.size (by decide), pieceF (fun b => ldL c 2 b f19) (fun b => ldO c 2 b f18) (ldV7 c arg7 f7)⟩,
      ⟨Rect.unit (s := S1x1024x256) ![0, 256, 0] S1x256x256.size (by decide), pieceF (fun b => ldL c 1 b f19) (fun b => ldO c 1 b f18) (ldV7 c arg7 f7)⟩,
      ⟨Rect.unit (s := S1x1024x256) ![0, 0, 0] S1x256x256.size (by decide), pieceF (fun b => ldL c 0 b f19) (fun b => ldO c 0 b f18) (ldV7 c arg7 f7)⟩]

theorem st8_read (arg7 : Memref sig .tc .vmem S1x64x128 .f32) (arg8 : Memref sig .tc .vmem S1x1024x256 .bf16) (f7 : MBuf c arg7) (f8 : MBuf c arg8) (f18 : MBuf c sM18) (f19 : MBuf c sM19) :
    arg8.view.read (Elt Ideal) (st8 c arg7 arg8 f7 f8 f18 f19) = outF (arg7.view.read (Elt Ideal) f7) f18 f19 := by
  refine ext3 (e := .bf16) _ _ fun z r l => ?_
  show _ = outAt _ _ _ r l
  unfold st8
  rcases Nat.lt_or_ge r.val 768 with h3 | h3
  rotate_left
  · exact (View.read_writes_cons_unit_of_mem _ _ _ _ _ (ix3 z r l) (ix3 z (⟨r.val - 768, by omega⟩ : Fin 256) l) rfl (fun x => by
      fin_cases x
      · show z.val = 0 + z.val
        omega
      · show r.val = 768 + (r.val - 768)
        omega
      · show l.val = 0 + l.val
        omega)).trans (piece_at c arg7 f7 f18 f19 3 z r l (r.val - 768) (by omega) (by show r.val = 256 * 3 + _; omega))
  refine (View.read_writes_cons_unit_of_not_mem _ _ _ _ _ (ix3 z r l) rfl 1 (Or.inl h3)).trans ?_
  rcases Nat.lt_or_ge r.val 512 with h2 | h2
  rotate_left
  · exact (View.read_writes_cons_unit_of_mem _ _ _ _ _ (ix3 z r l) (ix3 z (⟨r.val - 512, by omega⟩ : Fin 256) l) rfl (fun x => by
      fin_cases x
      · show z.val = 0 + z.val
        omega
      · show r.val = 512 + (r.val - 512)
        omega
      · show l.val = 0 + l.val
        omega)).trans (piece_at c arg7 f7 f18 f19 2 z r l (r.val - 512) (by omega) (by show r.val = 256 * 2 + _; omega))
  refine (View.read_writes_cons_unit_of_not_mem _ _ _ _ _ (ix3 z r l) rfl 1 (Or.inl h2)).trans ?_
  rcases Nat.lt_or_ge r.val 256 with h1 | h1
  rotate_left
  · exact (View.read_writes_cons_unit_of_mem _ _ _ _ _ (ix3 z r l) (ix3 z (⟨r.val - 256, by omega⟩ : Fin 256) l) rfl (fun x => by
      fin_cases x
      · show z.val = 0 + z.val
        omega
      · show r.val = 256 + (r.val - 256)
        omega
      · show l.val = 0 + l.val
        omega)).trans (piece_at c arg7 f7 f18 f19 1 z r l (r.val - 256) (by omega) (by show r.val = 256 * 1 + _; omega))
  refine (View.read_writes_cons_unit_of_not_mem _ _ _ _ _ (ix3 z r l) rfl 1 (Or.inl h1)).trans ?_
  exact (View.read_writes_cons_unit_of_mem _ _ _ _ _ (ix3 z r l) (ix3 z (⟨r.val - 0, by omega⟩ : Fin 256) l) rfl (fun x => by
      fin_cases x
      · show z.val = 0 + z.val
        omega
      · show r.val = 0 + (r.val - 0)
        omega
      · show l.val = 0 + l.val
        omega)).trans (piece_at c arg7 f7 f18 f19 0 z r l (r.val - 0) (by omega) (by show r.val = 256 * 0 + _; omega))

end Cert.KernelIdeal.Val

end
-- ==== Proof.ValStage.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValOut
public import Idealize.ShloMosaic.Lib.WritesUnit
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Staging the sixteen query blocks of a grid point -/

/-- The constants of the factor: the named logarithm and the least factor kept. -/
def cκ : EReal := (((1 / 8) * (Real.log 2)⁻¹ : ℝ) : EReal)
def cLo : EReal := Ideal.ofBits .f32 0x01800000#32

/-- The staged codes: block `z` is row tile `z / 4`, lane tile `z % 4` of the block of codes. -/
def stQ (X : FVec Ideal S1x1024x256 .fp8e4m3) : FVec Ideal S16x256x64 .fp8e4m3 := fun x =>
  X (ix3 (0 : Fin 1) (⟨256 * ((x 0).val / 4) + (x 1).val, by have h0 : (x 0).val < 16 := (x 0).isLt; have h1 : (x 1).val < 256 := (x 1).isLt; omega⟩ : Fin 1024)
    (⟨64 * ((x 0).val % 4) + (x 2).val, by have h0 : (x 0).val < 16 := (x 0).isLt; have h1 : (x 2).val < 64 := (x 2).isLt; omega⟩ : Fin 256))
/-- The staged factors: a query's scale by the named constant, at least the least factor, the same in every sublane. -/
def stC (X : FVec Ideal S1x1x4x1024 .f32) : FVec Ideal S16x8x256 .f32 := fun x =>
  max (X (ix4 (0 : Fin 1) (0 : Fin 1) (⟨(x 0).val % 4, by omega⟩ : Fin 4)
    (⟨256 * ((x 0).val / 4) + (x 2).val, by have h0 : (x 0).val < 16 := (x 0).isLt; have h1 : (x 2).val < 256 := (x 2).isLt; omega⟩ : Fin 1024)) * cκ) cLo

variable (c : Dev nD) (arg5 : Memref sig .tc .vmem S1x1024x256 .fp8e4m3) (arg6 : Memref sig .tc .vmem S1x1x4x1024 .f32)

theorem inbQ (n : ℕ) (a : Fin 3) : (![0, 256 * (n % 16 / 4), 64 * (n % 4)] : Fin 3 → ℕ) a + S1x256x64.size a ≤ S1x1024x256.size a := by
  fin_cases a
  · show 0 + 1 ≤ 1
    omega
  · show 256 * (n % 16 / 4) + 256 ≤ 1024
    omega
  · show 64 * (n % 4) + 64 ≤ 256
    omega
theorem inbC (n : ℕ) (a : Fin 4) : (![0, 0, n % 4, 256 * (n % 16 / 4)] : Fin 4 → ℕ) a + S1x1x1x256.size a ≤ S1x1x4x1024.size a := by
  fin_cases a
  · show 0 + 1 ≤ 1
    omega
  · show 0 + 1 ≤ 1
    omega
  · show n % 4 + 1 ≤ 4
    omega
  · show 256 * (n % 16 / 4) + 256 ≤ 1024
    omega
theorem inb14 (n : ℕ) (a : Fin 3) : (![n % 16, 0, 0] : Fin 3 → ℕ) a + S1x256x64.size a ≤ S16x256x64.size a := by
  fin_cases a
  · show n % 16 + 1 ≤ 16
    omega
  · show 0 + 256 ≤ 256
    omega
  · show 0 + 64 ≤ 64
    omega
theorem inb15 (n : ℕ) (a : Fin 3) : (![n % 16, 0, 0] : Fin 3 → ℕ) a + S1x8x256.size a ≤ S16x8x256.size a := by
  fin_cases a
  · show n % 16 + 1 ≤ 16
    omega
  · show 0 + 8 ≤ 8
    omega
  · show 0 + 256 ≤ 256
    omega

/-- Block `n`'s loads. -/
def ld5 (n : ℕ) (f : MBuf c arg5) : Vec Ideal S1x256x64 .fp8e4m3 :=
  arg5.view.readAt (Elt Ideal) (Rect.unit (s := S1x1024x256) ![0, 256 * (n % 16 / 4), 64 * (n % 4)] S1x256x64.size (inbQ n)).toLoadRect f
def ld6 (n : ℕ) (f : MBuf c arg6) : Vec Ideal S1x1x1x256 .f32 :=
  arg6.view.readAt (Elt Ideal) (Rect.unit (s := S1x1x4x1024) ![0, 0, n % 4, 256 * (n % 16 / 4)] S1x1x1x256.size (inbC n)).toLoadRect f

/-- The stages' writes, the last one first. -/
def L14 (f : MBuf c arg5) : ℕ → List (View.Piece (Elt Ideal) S16x256x64 .fp8e4m3)
  | 0 => []
  | n + 1 => ⟨Rect.unit (s := S16x256x64) ![n % 16, 0, 0] S1x256x64.size (inb14 n), k0_pay193 (F := Ideal) (ld5 c arg5 n f)⟩ :: L14 f n
def L15 (f : MBuf c arg6) : ℕ → List (View.Piece (Elt Ideal) S16x8x256 .f32)
  | 0 => []
  | n + 1 => ⟨Rect.unit (s := S16x8x256) ![n % 16, 0, 0] S1x8x256.size (inb15 n), k0_pay194 (F := Ideal) (ld6 c arg6 n f)⟩ :: L15 f n

theorem pay193_at (v : Vec Ideal S1x256x64 .fp8e4m3) (z : Fin 1) (b : Fin 256) (d : Fin 64) : k0_pay193 (F := Ideal) v (ix3 z b d) = v (ix3 (0 : Fin 1) b d) := by
  pointwise [k0_pay193]
  exact congrArg (fun z => v (ix3 z b d)) (Subsingleton.elim _ _)

theorem named_eq : (Named.named (F := Ideal) κ "log2e_over_8" (φ := .f32) 0x3E38AA3B#32 : EReal) = cκ := by
  exact IdealRules.named_const.ideal_named_scalar κ _ _ _ (by rfl)

theorem pay194_at (v : Vec Ideal S1x1x1x256 .f32) (z : Fin 1) (a : Fin 8) (b : Fin 256) :
    k0_pay194 (F := Ideal) v (ix3 z a b) = max (v (ix4 (0 : Fin 1) (0 : Fin 1) (0 : Fin 1) b) * cκ) cLo := by
  rw [← named_eq]
  pointwise [k0_pay194]
  rfl

theorem ld5_at (n : ℕ) (f : MBuf c arg5) (b : Fin 256) (d : Fin 64) (r : Fin 1024) (l : Fin 256) (hr : r.val = 256 * (n % 16 / 4) + b.val) (hl : l.val = 64 * (n % 4) + d.val) :
    ld5 c arg5 n f (ix3 (0 : Fin 1) b d) = arg5.view.read (Elt Ideal) f (ix3 (0 : Fin 1) r l) := by
  unfold ld5
  rw [View.readAt_apply]
  refine congrArg (arg5.view.read (Elt Ideal) f) (funext fun a => Fin.ext ?_)
  refine (show _ = (![0, 256 * (n % 16 / 4), 64 * (n % 4)] : Fin 3 → ℕ) a + 1 * (ix3 (0 : Fin 1) b d a).val from rfl).trans ?_
  fin_cases a
  · rfl
  · show 256 * (n % 16 / 4) + 1 * b.val = r.val
    omega
  · show 64 * (n % 4) + 1 * d.val = l.val
    omega
theorem ld6_at (n : ℕ) (f : MBuf c arg6) (b : Fin 256) (g : Fin 4) (l : Fin 1024) (hg : g.val = n % 4) (hl : l.val = 256 * (n % 16 / 4) + b.val) :
    ld6 c arg6 n f (ix4 (0 : Fin 1) (0 : Fin 1) (0 : Fin 1) b) = arg6.view.read (Elt Ideal) f (ix4 (0 : Fin 1) (0 : Fin 1) g l) := by
  unfold ld6
  rw [View.readAt_apply]
  refine congrArg (arg6.view.read (Elt Ideal) f) (funext fun a => Fin.ext ?_)
  refine (show _ = (![0, 0, n % 4, 256 * (n % 16 / 4)] : Fin 4 → ℕ) a + 1 * (ix4 (0 : Fin 1) (0 : Fin 1) (0 : Fin 1) b a).val from rfl).trans ?_
  fin_cases a
  · rfl
  · rfl
  · show n % 4 + 1 * 0 = g.val
    omega
  · show 256 * (n % 16 / 4) + 1 * b.val = l.val
    omega

theorem L14_read (f : MBuf c arg5) (g : MBuf c sM14) (z : Fin 16) (b : Fin 256) (d : Fin 64) (n : ℕ) (hn : n ≤ 16) (hz : z.val < n) :
    sM14.view.read (Elt Ideal) (sM14.view.writes (Elt Ideal) g (L14 c arg5 f n)) (ix3 z b d) = stQ (arg5.view.read (Elt Ideal) f) (ix3 z b d) := by
  induction n with
  | zero => omega
  | succ n ih =>
    unfold L14
    by_cases h : z.val = n
    · refine (View.read_writes_cons_unit_of_mem _ _ _ _ _ (ix3 z b d) (ix3 (0 : Fin 1) b d) rfl ?_).trans ?_
      · intro x
        fin_cases x
        · show z.val = n % 16 + 0
          omega
        · show b.val = 0 + b.val
          omega
        · show d.val = 0 + d.val
          omega
      · rw [pay193_at]
        refine ld5_at c arg5 n f b d _ _ ?_ ?_
        · show 256 * (z.val / 4) + b.val = _
          omega
        · show 64 * (z.val % 4) + d.val = _
          omega
    · refine (View.read_writes_cons_unit_of_not_mem _ _ _ _ _ (ix3 z b d) rfl 0 ?_).trans (ih (by omega) (by omega))
      show z.val < n % 16 ∨ n % 16 + 1 ≤ z.val
      omega

theorem L15_read (f : MBuf c arg6) (g : MBuf c sM15) (z : Fin 16) (a : Fin 8) (b : Fin 256) (n : ℕ) (hn : n ≤ 16) (hz : z.val < n) :
    sM15.view.read (Elt Ideal) (sM15.view.writes (Elt Ideal) g (L15 c arg6 f n)) (ix3 z a b) = stC (arg6.view.read (Elt Ideal) f) (ix3 z a b) := by
  induction n with
  | zero => omega
  | succ n ih =>
    unfold L15
    by_cases h : z.val = n
    · refine (View.read_writes_cons_unit_of_mem _ _ _ _ _ (ix3 z a b) (ix3 (0 : Fin 1) a b) rfl ?_).trans ?_
      · intro x
        fin_cases x
        · show z.val = n % 16 + 0
          omega
        · show a.val = 0 + a.val
          omega
        · show b.val = 0 + b.val
          omega
      · rw [pay194_at]
        refine congrArg (fun y => max (y * cκ) cLo) (ld6_at c arg6 n f b _ _ ?_ ?_)
        · show z.val % 4 = _
          omega
        · show 256 * (z.val / 4) + b.val = _
          omega
    · refine (View.read_writes_cons_unit_of_not_mem _ _ _ _ _ (ix3 z a b) rfl 0 ?_).trans (ih (by omega) (by omega))
      show z.val < n % 16 ∨ n % 16 + 1 ≤ z.val
      omega

/-- The number of query blocks. -/
def nBlk : ℕ := 16

/-- The stages once all sixteen blocks are staged. -/
def st14 (f : MBuf c arg5) : MBuf c sM14 := sM14.view.writes (Elt Ideal) sM14.view.junk (L14 c arg5 f nBlk)
def st15 (f : MBuf c arg6) : MBuf c sM15 := sM15.view.writes (Elt Ideal) sM15.view.junk (L15 c arg6 f nBlk)

theorem rd14 (f : MBuf c sM14) (x : S16x256x64.Idx) : (f : FVec Ideal S16x256x64 .fp8e4m3) x = sM14.view.read (Elt Ideal) f x := rfl
theorem rd15 (f : MBuf c sM15) (x : S16x8x256.Idx) : (f : FVec Ideal S16x8x256 .f32) x = sM15.view.read (Elt Ideal) f x := rfl
theorem r14 (f : MBuf c arg5) (z : Fin 16) (b : Fin 256) (d : Fin 64) : sM14.view.read (Elt Ideal) (st14 c arg5 f) (ix3 z b d) = stQ (arg5.view.read (Elt Ideal) f) (ix3 z b d) := by
  exact L14_read c arg5 f sM14.view.junk z b d nBlk (by decide) z.isLt
theorem r15 (f : MBuf c arg6) (z : Fin 16) (a : Fin 8) (b : Fin 256) : sM15.view.read (Elt Ideal) (st15 c arg6 f) (ix3 z a b) = stC (arg6.view.read (Elt Ideal) f) (ix3 z a b) := by
  exact L15_read c arg6 f sM15.view.junk z a b nBlk (by decide) z.isLt
theorem st14_at (f : MBuf c arg5) (z : Fin 16) (b : Fin 256) (d : Fin 64) : (st14 c arg5 f : FVec Ideal S16x256x64 .fp8e4m3) (ix3 z b d) = stQ (arg5.view.read (Elt Ideal) f) (ix3 z b d) :=
  (rd14 c _ _).trans (r14 c arg5 f z b d)
theorem st15_at (f : MBuf c arg6) (z : Fin 16) (a : Fin 8) (b : Fin 256) : (st15 c arg6 f : FVec Ideal S16x8x256 .f32) (ix3 z a b) = stC (arg6.view.read (Elt Ideal) f) (ix3 z a b) :=
  (rd15 c _ _).trans (r15 c arg6 f z a b)
theorem st14_eq (f : MBuf c arg5) : (st14 c arg5 f : FVec Ideal S16x256x64 .fp8e4m3) = stQ (arg5.view.read (Elt Ideal) f) := ext3 (e := .fp8e4m3) _ _ (st14_at c arg5 f)
theorem st15_eq (f : MBuf c arg6) : (st15 c arg6 f : FVec Ideal S16x8x256 .f32) = stC (arg6.view.read (Elt Ideal) f) := ext3 (e := .f32) _ _ (st15_at c arg6 f)

end Cert.KernelIdeal.Val

end
-- ==== Proof.ValLoop3.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValTile
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

/-! ## The walk over the key tiles -/

/-- The query loop's first trip, which it always makes. -/
def trip0 (i : grid0.Coords) : Fin (k0_t2_loop i).trips := ⟨0, by rw [t2_trips]; split <;> omega⟩

section L3
variable (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)
  (v278 : Vec Ideal S1x256x64 .fp8e4m3) (v280 : Vec Ideal S8x256 .f32) (v281 : Vec Ideal S8x256 .f32)
  (f10 : MBuf c sM10) (f11 : MBuf c sM11) (f12 : MBuf c sM12) (g9 : MBuf c sM9)

set_option maxHeartbeats 8000000 in
set_option warn.classDefReducibility false in
/-- The loop over the key tiles: `TileFact` of the tiles met. -/
def loopInv3 (init : FVec Ideal S8x256 .f32 × FVec Ideal S8x256 .f32 × FVec Ideal S64x256 .f32) :
    LoopInvTy_k0_t3 (F := Ideal) Unit ℕ (Pipeline.UD sig nD τ) ℕ Variants.none c none Set.univ i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11 1#32 0#32 0#32 1#32 (trip0 i) v278 v280 v281 init where
  inv k acc := iprop(mpt c sM10 f10 ∗ mpt c sM11 f11 ∗ mpt c sM12 f12 ∗ (∃ f9, mpt c sM9 f9 ∗ ⌜TileFact f11 f10 f12 g9 (k0_pay86 (F := Ideal) v278) v280 v281 k f9 acc⌝) ∗ own c sM13)
  step k acc := by
    have hk : k.val < 32 := Nat.lt_of_lt_of_le k.isLt k0_t3_abs.2.1
    unfold k0_t3_body
    iintro ⟨H10, H11, H12, ⟨%f9, H9, %hf⟩, ⟨%f13, H13⟩⟩
    have hs := tileFact_succ c k hk f10 f11 f12 g9 f9 (k0_pay86 (F := Ideal) v278) v280 v281 acc hf
    sl_exec
    sl_step
    isplitl [H10]
    · iexact H10
    isplitl [H11]
    · iexact H11
    isplitl [H12]
    · iexact H12
    isplitl [H9]
    · iexists (stS c k (k0_pay86 (F := Ideal) v278) f10 f11 f9)
      isplitl [H9]
      · iexact H9
      · ipureintro
        exact hs
    · iexists _
      iexact H13
end L3

end Cert.KernelIdeal.Val

end
-- ==== Proof.ValLoop2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValOut
public import proofs.«01_k».proof.Proof.ValLoop3
public import Idealize.ShloMosaic.Lib.Pipeline.FrameBody
public import Idealize.ShloMosaic.Lib.Tactic
public import Idealize.ShloMosaic.Lib.LoopRemainder

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

/-! ## The walk over the query blocks -/

theorem k0_t3_trips : k0_t3_loop.trips = 32 := by decide

section L2
variable (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)
  (f7 : MBuf c arg7) (f10 : MBuf c sM10) (f11 : MBuf c sM11) (f12 : MBuf c sM12) (f14 : MBuf c sM14) (f15 : MBuf c sM15)
  (g9 : MBuf c sM9) (g16 : MBuf c sM16) (g17 : MBuf c sM17) (g18 : MBuf c sM18) (g19 : MBuf c sM19)

set_option maxHeartbeats 16000000 in
set_option warn.classDefReducibility false in
/-- The loop over the query blocks: `BlkSt` of the blocks met, and the output once trip 0 is done. -/
def loopInv2 :
    LoopInvTy_k0_t2 (F := Ideal) Unit ℕ (Pipeline.UD sig nD τ) ℕ Variants.none c none Set.univ i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11 where
  inv k _ := iprop(mpt c arg7 f7 ∗ mpt c sM10 f10 ∗ mpt c sM11 f11 ∗ mpt c sM12 f12 ∗ mpt c sM14 f14 ∗ mpt c sM15 f15
    ∗ (∃ f8 f9 f16 f17 f18 f19, mpt c arg8 f8 ∗ mpt c sM9 f9 ∗ mpt c sM16 f16 ∗ mpt c sM17 f17 ∗ mpt c sM18 f18 ∗ mpt c sM19 f19
      ∗ ⌜BlkSt (Ent.mk f11 f10 f12 f14 f15 g9 g16 g17 g18 g19) k f9 f16 f17 f18 f19⌝
      ∗ ⌜k ≠ 0 → arg8.view.read (Elt Ideal) f8 = outF (arg7.view.read (Elt Ideal) f7) (Ent.O (Ent.mk f11 f10 f12 f14 f15 g9 g16 g17 g18 g19) 1) (Ent.L (Ent.mk f11 f10 f12 f14 f15 g9 g16 g17 g18 g19) 1)⌝)
    ∗ own c sM13)
  step k acc := by
    have hk := t2_lt i k
    unfold k0_t2_body
    iintro ⟨H7, H10, H11, H12, H14, H15, ⟨%f8, %f9, %f16, %f17, %f18, %f19, H8, H9, H16, H17, H18, H19, %hb, %hout⟩, ⟨%f13, H13⟩⟩
    have hz := tileFact_zero f11 f10 f12 f9 (k0_pay86 (F := Ideal) (ldQ c i k f14)) (ld16 c f16) (ld17 c f17)
    let L := loopInv3 c i arg5 harg5 arg6 harg6 arg7 harg7 arg8 harg8 (ldQ c i k f14) (ld16 c f16) (ld17 c f17) f10 f11 f12 f9 (k0_pay87 (F := Ideal), k0_pay88 (F := Ideal), k0_pay89 (F := Ideal))
    by_cases hc : k0_cond3 i k = 1#1
    · sl_exec
      sl_step
      rename_i acc
      have hs := blkSt_succ c i k (Ent.mk f11 f10 f12 f14 f15 g9 g16 g17 g18 g19) f9 f14 f15 f16 f17 f18 f19 f9L0 acc rfl rfl _ k0_t3_trips hb hL4
      isplitl [H7]
      · iexact H7
      isplitl [H10]
      · iexact H10
      isplitl [H11]
      · iexact H11
      isplitl [H12]
      · iexact H12
      isplitl [H14]
      · iexact H14
      isplitl [H15]
      · iexact H15
      isplitl [H8 H9 H16 H17 H18 H19]
      · iexists (st8 c arg7 arg8 f7 f8 (st18 c i k f18 acc.2.2) (st19 c i k f19 acc.1))
        iexists f9L0
        iexists (st16 c i k f16 f15 acc.2.1)
        iexists (st17 c i k f17 f15)
        iexists (st18 c i k f18 acc.2.2)
        iexists (st19 c i k f19 acc.1)
        isplitl [H8]
        · iexact H8
        isplitl [H9]
        · iexact H9
        isplitl [H16]
        · iexact H16
        isplitl [H17]
        · iexact H17
        isplitl [H18]
        · iexact H18
        isplitl [H19]
        · iexact H19
        isplitl []
        · ipureintro
          exact hs
        · ipureintro
          intro _
          have h0 := (cond3_eq i k).mp hc
          have ho := hs.o
          have hl := hs.l
          rw [h0] at ho hl
          exact (st8_read c arg7 arg8 f7 f8 _ _).trans (congrArg₂ (outF (arg7.view.read (Elt Ideal) f7)) ho hl)
      · iexists _
        iexact H13
    · sl_exec
      sl_step
      rename_i acc
      have hs := blkSt_succ c i k (Ent.mk f11 f10 f12 f14 f15 g9 g16 g17 g18 g19) f9 f14 f15 f16 f17 f18 f19 f9L0 acc rfl rfl _ k0_t3_trips hb hL4
      isplitl [H7]
      · iexact H7
      isplitl [H10]
      · iexact H10
      isplitl [H11]
      · iexact H11
      isplitl [H12]
      · iexact H12
      isplitl [H14]
      · iexact H14
      isplitl [H15]
      · iexact H15
      isplitl [H8 H9 H16 H17 H18 H19]
      · iexists (f8)
        iexists f9L0
        iexists (st16 c i k f16 f15 acc.2.1)
        iexists (st17 c i k f17 f15)
        iexists (st18 c i k f18 acc.2.2)
        iexists (st19 c i k f19 acc.1)
        isplitl [H8]
        · iexact H8
        isplitl [H9]
        · iexact H9
        isplitl [H16]
        · iexact H16
        isplitl [H17]
        · iexact H17
        isplitl [H18]
        · iexact H18
        isplitl [H19]
        · iexact H19
        isplitl []
        · ipureintro
          exact hs
        · ipureintro
          intro _
          exact hout fun h => hc ((cond3_eq i k).mpr h)
      · iexists _
        iexact H13
end L2

end Cert.KernelIdeal.Val

end
-- ==== Proof.ValHead.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValStage
public import proofs.«01_k».proof.Proof.ValLoop2
public import Idealize.ShloMosaic.Lib.Pipeline.FrameBody
public import Idealize.ShloMosaic.Lib.Tactic
public import Idealize.ShloMosaic.Lib.LoopRemainder
public import Idealize.ShloMosaic.Lib.Pipeline.Value

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

/-! ## The body at a grid point -/

section L1
variable (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)

set_option warn.classDefReducibility false in
/-- The loop that clears the scores, the buffer at some contents. -/
@[sl_loop] def loopInv1 (k0_h1 : k0_cond1 i = 1#1) :
    LoopInvTy_k0_t1 (F := Ideal) Unit ℕ (Pipeline.UD sig nD τ) ℕ Variants.none c none Set.univ i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11 k0_h1 where
  inv _ _ := iprop(own c sM9)
  step k acc := by
    have hk : k.val < 256 := Nat.lt_of_lt_of_le k.isLt k0_t1_abs.2.1
    unfold k0_t1_body
    iintro ⟨%f9, H9⟩
    sl_exec
    sl_step
    iexists _
    iexact H9
end L1

/-- The head a point works on. -/
def hd (i : grid0.Coords) : Fin 8 := ⟨(i 0).val, (i 0).isLt⟩
/-- One head's key codes, repeated key scales and transposed value codes. -/
def hdK (g : FVec Ideal S8x32768x64 .fp8e4m3) (h : Fin 8) : FVec Ideal S32768x64 .fp8e4m3 := fun x => g (ix3 h (x 0) (x 1))
def hdA (g : FVec Ideal S8x32768x128 .f32) (h : Fin 8) : FVec Ideal S32768x128 .f32 := fun x => g (ix3 h (x 0) (x 1))
def hdV (g : FVec Ideal S8x64x32768 .fp8e4m3) (h : Fin 8) : FVec Ideal S64x32768 .fp8e4m3 := fun x => g (ix3 h (x 0) (x 1))

/-- What a point leaves, `E` what its loop over the blocks started from, `Z` the output's staging buffer. -/
structure BFact (i : grid0.Coords) (X5 : FVec Ideal S1x1024x256 .fp8e4m3) (X6 : FVec Ideal S1x1x4x1024 .f32) (X7 : FVec Ideal S1x64x128 .f32)
    (g2 : FVec Ideal S8x32768x64 .fp8e4m3) (g3 : FVec Ideal S8x32768x128 .f32) (g4 : FVec Ideal S8x64x32768 .fp8e4m3)
    (e9 : FVec Ideal S32768x256 .f32) (e10 : FVec Ideal S32768x128 .f32) (e11 : FVec Ideal S32768x64 .fp8e4m3) (e12 : FVec Ideal S64x32768 .fp8e4m3)
    (e16 e17 : FVec Ideal S8x256 .f32) (e18 : FVec Ideal S16x64x256 .f32) (e19 : FVec Ideal S16x8x256 .f32)
    (E : Ent) (Z : FVec Ideal S1x1024x256 .bf16)
    (f9 : FVec Ideal S32768x256 .f32) (f16 f17 : FVec Ideal S8x256 .f32) (f18 : FVec Ideal S16x64x256 .f32) (f19 : FVec Ideal S16x8x256 .f32) : Prop where
  q : E.f14 = stQ X5
  c : E.f15 = stC X6
  head : k0_cond2 i = 1#1 → E.K = hdK g2 (hd i) ∧ E.A = hdA g3 (hd i) ∧ E.V = hdV g4 (hd i)
  keep : ¬ k0_cond2 i = 1#1 → E = Ent.mk e11 e10 e12 E.f14 E.f15 e9 e16 e17 e18 e19
  st : BlkSt E (k0_t2_loop i).trips f9 f16 f17 f18 f19
  out : (k0_t2_loop i).trips ≠ 0 → Z = outF X7 (E.O 1) (E.L 1)

theorem off2_0 (i : grid0.Coords) : k0_off2 i 0 = (i 0).val := by
  have h : (i 0).val < 8 := (i 0).isLt
  show (BitVec.ofNat 32 (i 0).val).toNat = _
  rw [BitVec.toNat_ofNat, Nat.mod_eq_of_lt (by omega)]

theorem cp2 (c : Dev nD) (i : grid0.Coords) (h2 : k0_cond2 i = 1#1) (g : MBuf c hM2) (hc : S1x32768x64.ShapeCasts S32768x64) :
    (shapeCast S32768x64 (hM2.view.readAt (Elt Ideal) (Rect.unit (s := S8x32768x64) (k0_off2 i) S1x32768x64.size (k0_off2_inb i h2)).toLoadRect g) hc : FVec Ideal S32768x64 .fp8e4m3) = hdK g (hd i) := by
  funext x
  refine (shapeCast_dropUnit_apply _ _ hc x).trans ?_
  rw [View.readAt_apply]
  show (g : FVec Ideal S8x32768x64 .fp8e4m3) _ = (g : FVec Ideal S8x32768x64 .fp8e4m3) _
  refine congrArg (g : FVec Ideal S8x32768x64 .fp8e4m3) (funext fun a => Fin.ext ?_)
  fin_cases a
  · show k0_off2 i 0 + 1 * 0 = (i 0).val
    rw [off2_0]
    omega
  · show 0 + 1 * (x 0).val = (x 0).val
    omega
  · show 0 + 1 * (x 1).val = (x 1).val
    omega

/-- A scratch buffer written whole. -/
def cpy2 (c : Dev nD) (X : (Rect.whole S32768x64).shape.Idx → Elt Ideal .fp8e4m3) : MBuf c sM11 := sM11.view.writes (Elt Ideal) sM11.view.junk [⟨Rect.whole S32768x64, X⟩]
theorem rdc2 (c : Dev nD) (f : MBuf c sM11) : (f : FVec Ideal S32768x64 .fp8e4m3) = sM11.view.read (Elt Ideal) f := rfl
theorem rcp2 (c : Dev nD) (X : S32768x64.Idx → Elt Ideal .fp8e4m3) : sM11.view.read (Elt Ideal) (cpy2 c X) = X := View.read_writes_whole (Val := Elt Ideal) sM11.view _ X
theorem cpx2 (c : Dev nD) (i : grid0.Coords) (h2 : k0_cond2 i = 1#1) (g : MBuf c hM2) (X : S32768x64.Idx → Elt Ideal .fp8e4m3) (hc : S1x32768x64.ShapeCasts S32768x64)
    (hX : X = shapeCast S32768x64 (hM2.view.readAt (Elt Ideal) (Rect.unit (s := S8x32768x64) (k0_off2 i) S1x32768x64.size (k0_off2_inb i h2)).toLoadRect g) hc) :
    (cpy2 c X : FVec Ideal S32768x64 .fp8e4m3) = hdK g (hd i) :=
  (rdc2 c _).trans ((rcp2 c X).trans (hX.trans (cp2 c i h2 g hc)))
theorem cpw2 (c : Dev nD) (i : grid0.Coords) (h2 : k0_cond2 i = 1#1) (g : MBuf c hM2) (X : S32768x64.Idx → Elt Ideal .fp8e4m3) (hc : S1x32768x64.ShapeCasts S32768x64)
    (hX : X = shapeCast S32768x64 (hM2.view.readAt (Elt Ideal) (Rect.unit (s := S8x32768x64) (k0_off2 i) S1x32768x64.size (k0_off2_inb i h2)).toLoadRect g) hc) :
    (sM11.view.writes (Elt Ideal) sM11.view.junk [⟨Rect.whole S32768x64, X⟩] : MBuf c sM11) = hdK g (hd i) :=
  cpx2 c i h2 g X hc hX

theorem off3_0 (i : grid0.Coords) : k0_off3 i 0 = (i 0).val := by
  have h : (i 0).val < 8 := (i 0).isLt
  show (BitVec.ofNat 32 (i 0).val).toNat = _
  rw [BitVec.toNat_ofNat, Nat.mod_eq_of_lt (by omega)]

theorem cp3 (c : Dev nD) (i : grid0.Coords) (h2 : k0_cond2 i = 1#1) (g : MBuf c hM3) (hc : S1x32768x128.ShapeCasts S32768x128) :
    (shapeCast S32768x128 (hM3.view.readAt (Elt Ideal) (Rect.unit (s := S8x32768x128) (k0_off3 i) S1x32768x128.size (k0_off3_inb i h2)).toLoadRect g) hc : FVec Ideal S32768x128 .f32) = hdA g (hd i) := by
  funext x
  refine (shapeCast_dropUnit_apply _ _ hc x).trans ?_
  rw [View.readAt_apply]
  show (g : FVec Ideal S8x32768x128 .f32) _ = (g : FVec Ideal S8x32768x128 .f32) _
  refine congrArg (g : FVec Ideal S8x32768x128 .f32) (funext fun a => Fin.ext ?_)
  fin_cases a
  · show k0_off3 i 0 + 1 * 0 = (i 0).val
    rw [off3_0]
    omega
  · show 0 + 1 * (x 0).val = (x 0).val
    omega
  · show 0 + 1 * (x 1).val = (x 1).val
    omega

/-- A scratch buffer written whole. -/
def cpy3 (c : Dev nD) (X : (Rect.whole S32768x128).shape.Idx → Elt Ideal .f32) : MBuf c sM10 := sM10.view.writes (Elt Ideal) sM10.view.junk [⟨Rect.whole S32768x128, X⟩]
theorem rdc3 (c : Dev nD) (f : MBuf c sM10) : (f : FVec Ideal S32768x128 .f32) = sM10.view.read (Elt Ideal) f := rfl
theorem rcp3 (c : Dev nD) (X : S32768x128.Idx → Elt Ideal .f32) : sM10.view.read (Elt Ideal) (cpy3 c X) = X := View.read_writes_whole (Val := Elt Ideal) sM10.view _ X
theorem cpx3 (c : Dev nD) (i : grid0.Coords) (h2 : k0_cond2 i = 1#1) (g : MBuf c hM3) (X : S32768x128.Idx → Elt Ideal .f32) (hc : S1x32768x128.ShapeCasts S32768x128)
    (hX : X = shapeCast S32768x128 (hM3.view.readAt (Elt Ideal) (Rect.unit (s := S8x32768x128) (k0_off3 i) S1x32768x128.size (k0_off3_inb i h2)).toLoadRect g) hc) :
    (cpy3 c X : FVec Ideal S32768x128 .f32) = hdA g (hd i) :=
  (rdc3 c _).trans ((rcp3 c X).trans (hX.trans (cp3 c i h2 g hc)))
theorem cpw3 (c : Dev nD) (i : grid0.Coords) (h2 : k0_cond2 i = 1#1) (g : MBuf c hM3) (X : S32768x128.Idx → Elt Ideal .f32) (hc : S1x32768x128.ShapeCasts S32768x128)
    (hX : X = shapeCast S32768x128 (hM3.view.readAt (Elt Ideal) (Rect.unit (s := S8x32768x128) (k0_off3 i) S1x32768x128.size (k0_off3_inb i h2)).toLoadRect g) hc) :
    (sM10.view.writes (Elt Ideal) sM10.view.junk [⟨Rect.whole S32768x128, X⟩] : MBuf c sM10) = hdA g (hd i) :=
  cpx3 c i h2 g X hc hX

theorem off4_0 (i : grid0.Coords) : k0_off4 i 0 = (i 0).val := by
  have h : (i 0).val < 8 := (i 0).isLt
  show (BitVec.ofNat 32 (i 0).val).toNat = _
  rw [BitVec.toNat_ofNat, Nat.mod_eq_of_lt (by omega)]

theorem cp4 (c : Dev nD) (i : grid0.Coords) (h2 : k0_cond2 i = 1#1) (g : MBuf c hM4) (hc : S1x64x32768.ShapeCasts S64x32768) :
    (shapeCast S64x32768 (hM4.view.readAt (Elt Ideal) (Rect.unit (s := S8x64x32768) (k0_off4 i) S1x64x32768.size (k0_off4_inb i h2)).toLoadRect g) hc : FVec Ideal S64x32768 .fp8e4m3) = hdV g (hd i) := by
  funext x
  refine (shapeCast_dropUnit_apply _ _ hc x).trans ?_
  rw [View.readAt_apply]
  show (g : FVec Ideal S8x64x32768 .fp8e4m3) _ = (g : FVec Ideal S8x64x32768 .fp8e4m3) _
  refine congrArg (g : FVec Ideal S8x64x32768 .fp8e4m3) (funext fun a => Fin.ext ?_)
  fin_cases a
  · show k0_off4 i 0 + 1 * 0 = (i 0).val
    rw [off4_0]
    omega
  · show 0 + 1 * (x 0).val = (x 0).val
    omega
  · show 0 + 1 * (x 1).val = (x 1).val
    omega

/-- A scratch buffer written whole. -/
def cpy4 (c : Dev nD) (X : (Rect.whole S64x32768).shape.Idx → Elt Ideal .fp8e4m3) : MBuf c sM12 := sM12.view.writes (Elt Ideal) sM12.view.junk [⟨Rect.whole S64x32768, X⟩]
theorem rdc4 (c : Dev nD) (f : MBuf c sM12) : (f : FVec Ideal S64x32768 .fp8e4m3) = sM12.view.read (Elt Ideal) f := rfl
theorem rcp4 (c : Dev nD) (X : S64x32768.Idx → Elt Ideal .fp8e4m3) : sM12.view.read (Elt Ideal) (cpy4 c X) = X := View.read_writes_whole (Val := Elt Ideal) sM12.view _ X
theorem cpx4 (c : Dev nD) (i : grid0.Coords) (h2 : k0_cond2 i = 1#1) (g : MBuf c hM4) (X : S64x32768.Idx → Elt Ideal .fp8e4m3) (hc : S1x64x32768.ShapeCasts S64x32768)
    (hX : X = shapeCast S64x32768 (hM4.view.readAt (Elt Ideal) (Rect.unit (s := S8x64x32768) (k0_off4 i) S1x64x32768.size (k0_off4_inb i h2)).toLoadRect g) hc) :
    (cpy4 c X : FVec Ideal S64x32768 .fp8e4m3) = hdV g (hd i) :=
  (rdc4 c _).trans ((rcp4 c X).trans (hX.trans (cp4 c i h2 g hc)))
theorem cpw4 (c : Dev nD) (i : grid0.Coords) (h2 : k0_cond2 i = 1#1) (g : MBuf c hM4) (X : S64x32768.Idx → Elt Ideal .fp8e4m3) (hc : S1x64x32768.ShapeCasts S64x32768)
    (hX : X = shapeCast S64x32768 (hM4.view.readAt (Elt Ideal) (Rect.unit (s := S8x64x32768) (k0_off4 i) S1x64x32768.size (k0_off4_inb i h2)).toLoadRect g) hc) :
    (sM12.view.writes (Elt Ideal) sM12.view.junk [⟨Rect.whole S64x32768, X⟩] : MBuf c sM12) = hdV g (hd i) :=
  cpx4 c i h2 g X hc hX

theorem entHead (a K : FVec Ideal S32768x64 .fp8e4m3) (b A : FVec Ideal S32768x128 .f32) (d V : FVec Ideal S64x32768 .fp8e4m3) (h11 : a = K) (h10 : b = A) (h12 : d = V)
    (f14 : FVec Ideal S16x256x64 .fp8e4m3) (f15 : FVec Ideal S16x8x256 .f32) (e9 : FVec Ideal S32768x256 .f32) (e16 e17 : FVec Ideal S8x256 .f32) (e18 : FVec Ideal S16x64x256 .f32) (e19 : FVec Ideal S16x8x256 .f32) :
    (Ent.mk a b d f14 f15 e9 e16 e17 e18 e19).K = K ∧ (Ent.mk a b d f14 f15 e9 e16 e17 e18 e19).A = A ∧ (Ent.mk a b d f14 f15 e9 e16 e17 e18 e19).V = V :=
  ⟨h11, h10, h12⟩

end Cert.KernelIdeal.Val

end
-- ==== Proof.ValHeld.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValHead
public import Idealize.ShloMosaic.Lib.Pipeline.FrameBody
public import Idealize.ShloMosaic.Lib.Tactic
public import Idealize.ShloMosaic.Lib.Pipeline.DatRel
public import Idealize.ShloMosaic.Lib.Pipeline.ArrRel
public import Idealize.ShloMosaic.Lib.Pipeline.ValueKit.Geometry
public import Idealize.ShloMosaic.Lib.LoopRemainder
public import Idealize.ShloMosaic.Lib.Pipeline.Value

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

variable (m : (ℓ : Loc nD τ sig) → Buf (Elt Ideal) ℓ)

/-! ## What the points leave one another -/

theorem idx0 : ∀ t : Fin cfg0.N, win0_0.index t = ![t.val / 33 / 4, min (t.val % 33) 31, t.val / 33 % 4] :=
  (by decide +kernel : ∀ t : Fin grid0.N, win0_0.index t = ![t.val / 33 / 4, min (t.val % 33) 31, t.val / 33 % 4])
theorem idx1 : ∀ t : Fin cfg0.N, win0_1.index t = ![t.val / 33 / 4, t.val / 33 % 4, 0, min (t.val % 33) 31] :=
  (by decide +kernel : ∀ t : Fin grid0.N, win0_1.index t = ![t.val / 33 / 4, t.val / 33 % 4, 0, min (t.val % 33) 31])
theorem idx2 : ∀ t : Fin cfg0.N, win0_2.index t = ![t.val / 33, 0, 0] :=
  (by decide +kernel : ∀ t : Fin grid0.N, win0_2.index t = ![t.val / 33, 0, 0])
theorem idx3 : ∀ t : Fin cfg0.N, win0_3.index t = ![t.val / 33 / 4, t.val % 33 - 1, t.val / 33 % 4] :=
  (by decide +kernel : ∀ t : Fin grid0.N, win0_3.index t = ![t.val / 33 / 4, t.val % 33 - 1, t.val / 33 % 4])
theorem flush3 : ∀ t : Fin cfg0.N, win0_3.flush t = true → t.val % 33 ≠ 0 :=
  (by decide +kernel : ∀ t : Fin grid0.N, win0_3.flush t = true → t.val % 33 ≠ 0)
theorem covers3 : win0_3.Covers := by decide +kernel
theorem cond1_iff : ∀ t : Fin cfg0.N, k0_cond1 (grid0.coords t) = 1#1 → k0_cond2 (grid0.coords t) = 1#1 :=
  (by decide +kernel : ∀ t : Fin grid0.N, k0_cond1 (grid0.coords t) = 1#1 → k0_cond2 (grid0.coords t) = 1#1)
theorem cond2_iff : ∀ t : Fin cfg0.N, Iff (k0_cond2 (grid0.coords t) = 1#1) (t.val % 33 = 0) :=
  (by decide +kernel : ∀ t : Fin grid0.N, Iff (k0_cond2 (grid0.coords t) = 1#1) (t.val % 33 = 0))
theorem coord0 : ∀ t : Fin cfg0.N, (grid0.coords t 0).val = t.val / 33 :=
  (by decide +kernel : ∀ t : Fin grid0.N, (grid0.coords t 0).val = t.val / 33)
theorem coord1 : ∀ t : Fin cfg0.N, (grid0.coords t 1).val = t.val % 33 :=
  (by decide +kernel : ∀ t : Fin grid0.N, (grid0.coords t 1).val = t.val % 33)
theorem trips_eq (t : Fin cfg0.N) : (k0_t2_loop (grid0.coords t)).trips = if t.val % 33 = 32 then 1 else 16 := by
  rw [t2_trips, coord1]

/-- The products and sums of all sixteen blocks of a group. -/
def Ofull (K : FVec Ideal S32768x64 .fp8e4m3) (A : FVec Ideal S32768x128 .f32) (V : FVec Ideal S64x32768 .fp8e4m3) (q : FVec Ideal S16x256x64 .fp8e4m3) (cc : FVec Ideal S16x8x256 .f32) :
    FVec Ideal S16x64x256 .f32 := fun x => OF V (MF K A (qB q (x 0)) (cB cc (x 0))) (cB cc (x 0)) (SF K A (qB q (x 0))) (x 1) (x 2)
def Lfull (K : FVec Ideal S32768x64 .fp8e4m3) (A : FVec Ideal S32768x128 .f32) (q : FVec Ideal S16x256x64 .fp8e4m3) (cc : FVec Ideal S16x8x256 .f32) :
    FVec Ideal S16x8x256 .f32 := fun x => LF (MF K A (qB q (x 0)) (cB cc (x 0))) (cB cc (x 0)) (SF K A (qB q (x 0))) (x 1) (x 2)

/-- What is held between two points of a head: the scores of the last block of the group, the products and sums of the others. -/
structure Held (K : FVec Ideal S32768x64 .fp8e4m3) (A : FVec Ideal S32768x128 .f32) (V : FVec Ideal S64x32768 .fp8e4m3) (q : FVec Ideal S16x256x64 .fp8e4m3) (cc : FVec Ideal S16x8x256 .f32)
    (f9 : FVec Ideal S32768x256 .f32) (f10 : FVec Ideal S32768x128 .f32) (f11 : FVec Ideal S32768x64 .fp8e4m3) (f12 : FVec Ideal S64x32768 .fp8e4m3)
    (f16 f17 : FVec Ideal S8x256 .f32) (f18 : FVec Ideal S16x64x256 .f32) (f19 : FVec Ideal S16x8x256 .f32) : Prop where
  k : f11 = K
  a : f10 = A
  v : f12 = V
  u : f9 = SF K A (qB q 15)
  m : f16 = MF K A (qB q 15) (cB cc 15)
  c : f17 = cB cc 15
  o : ∀ x : S16x64x256.Idx, (x 0).val < 15 → f18 x = Ofull K A V q cc x
  l : ∀ x : S16x8x256.Idx, (x 0).val < 15 → f19 x = Lfull K A q cc x

theorem blk15 : blk 15 = 15 := rfl
theorem blk_val (z : Fin 16) : blk z.val = z := Fin.ext (Nat.mod_eq_of_lt z.isLt)

/-- After sixteen blocks the group is held. -/
theorem held_of_blk (E : Ent) (f9 : FVec Ideal S32768x256 .f32) (f16 f17 : FVec Ideal S8x256 .f32) (f18 : FVec Ideal S16x64x256 .f32) (f19 : FVec Ideal S16x8x256 .f32)
    (h : BlkSt E 16 f9 f16 f17 f18 f19) : Held E.K E.A E.V E.f14 E.f15 f9 E.A E.K E.V f16 f17 f18 f19 where
  k := rfl
  a := rfl
  v := rfl
  u := h.u.trans rfl
  m := h.m.trans rfl
  c := h.c.trans rfl
  o x hx := by
    rw [h.o]
    unfold Ent.O selF
    rw [if_neg (by omega), if_pos (by omega)]
    show OF E.V (MF E.K E.A (qB E.f14 (blk (x 0).val)) (cB E.f15 (blk (x 0).val))) (cB E.f15 (blk (x 0).val)) (SF E.K E.A (qB E.f14 (blk (x 0).val))) (x 1) (x 2) = _
    rw [blk_val (x 0)]
    rfl
  l x hx := by
    rw [h.l]
    unfold Ent.L selF
    rw [if_neg (by omega), if_pos (by omega)]
    show LF (MF E.K E.A (qB E.f14 (blk (x 0).val)) (cB E.f15 (blk (x 0).val))) (cB E.f15 (blk (x 0).val)) (SF E.K E.A (qB E.f14 (blk (x 0).val))) (x 1) (x 2) = _
    rw [blk_val (x 0)]
    rfl

/-- One block more completes the group held on entry. -/
theorem O_one (K : FVec Ideal S32768x64 .fp8e4m3) (A : FVec Ideal S32768x128 .f32) (V : FVec Ideal S64x32768 .fp8e4m3) (q : FVec Ideal S16x256x64 .fp8e4m3) (cc : FVec Ideal S16x8x256 .f32)
    (f14 : FVec Ideal S16x256x64 .fp8e4m3) (f15 : FVec Ideal S16x8x256 .f32)
    (f9 : FVec Ideal S32768x256 .f32) (f10 : FVec Ideal S32768x128 .f32) (f11 : FVec Ideal S32768x64 .fp8e4m3) (f12 : FVec Ideal S64x32768 .fp8e4m3)
    (f16 f17 : FVec Ideal S8x256 .f32) (f18 : FVec Ideal S16x64x256 .f32) (f19 : FVec Ideal S16x8x256 .f32)
    (h : Held K A V q cc f9 f10 f11 f12 f16 f17 f18 f19) : (Ent.mk f11 f10 f12 f14 f15 f9 f16 f17 f18 f19).O 1 = Ofull K A V q cc := by
  funext x
  unfold Ent.O selF
  by_cases h15 : (x 0).val = 15
  · rw [if_pos ⟨by omega, h15⟩]
    show OF f12 f16 f17 f9 (x 1) (x 2) = _
    rw [h.v, h.m, h.c, h.u]
    unfold Ofull
    rw [show x 0 = (15 : Fin 16) from Fin.ext h15]
  · rw [if_neg (by omega), if_neg (by omega)]
    have hlt : (x 0).val < 16 := (x 0).isLt
    exact h.o x (by omega)
theorem L_one (K : FVec Ideal S32768x64 .fp8e4m3) (A : FVec Ideal S32768x128 .f32) (V : FVec Ideal S64x32768 .fp8e4m3) (q : FVec Ideal S16x256x64 .fp8e4m3) (cc : FVec Ideal S16x8x256 .f32)
    (f14 : FVec Ideal S16x256x64 .fp8e4m3) (f15 : FVec Ideal S16x8x256 .f32)
    (f9 : FVec Ideal S32768x256 .f32) (f10 : FVec Ideal S32768x128 .f32) (f11 : FVec Ideal S32768x64 .fp8e4m3) (f12 : FVec Ideal S64x32768 .fp8e4m3)
    (f16 f17 : FVec Ideal S8x256 .f32) (f18 : FVec Ideal S16x64x256 .f32) (f19 : FVec Ideal S16x8x256 .f32)
    (h : Held K A V q cc f9 f10 f11 f12 f16 f17 f18 f19) : (Ent.mk f11 f10 f12 f14 f15 f9 f16 f17 f18 f19).L 1 = Lfull K A q cc := by
  funext x
  unfold Ent.L selF
  by_cases h15 : (x 0).val = 15
  · rw [if_pos ⟨by omega, h15⟩]
    show LF f16 f17 f9 (x 1) (x 2) = _
    rw [h.m, h.c, h.u]
    unfold Lfull
    rw [show x 0 = (15 : Fin 16) from Fin.ext h15]
  · rw [if_neg (by omega), if_neg (by omega)]
    have hlt : (x 0).val < 16 := (x 0).isLt
    exact h.l x (by omega)

/-! ### At the points of the grid -/

/-- A point by its number. -/
def pt (n : ℕ) : Fin cfg0.N := ⟨n % 264, Nat.lt_of_lt_of_eq (Nat.mod_lt _ (by decide)) N_0.symm⟩
theorem pt_val (t : Fin cfg0.N) : pt t.val = t := Fin.ext (Nat.mod_eq_of_lt (Nat.lt_of_lt_of_eq t.isLt N_0))

/-- The blocks staged at a point, the head's operands, and the stages. -/
def X5 (c : Dev nD) (t : Fin cfg0.N) : FVec Ideal S1x1024x256 .fp8e4m3 := iblk m c 0 t
def X6 (c : Dev nD) (t : Fin cfg0.N) : FVec Ideal S1x1x4x1024 .f32 := iblk m c 1 t
def X7 (c : Dev nD) (t : Fin cfg0.N) : FVec Ideal S1x64x128 .f32 := iblk m c 2 t
def KK (c : Dev nD) (t : Fin cfg0.N) : FVec Ideal S32768x64 .fp8e4m3 := hdK (Gen.V m c main_v4) (hd (grid0.coords t))
def AA (c : Dev nD) (t : Fin cfg0.N) : FVec Ideal S32768x128 .f32 := hdA (Gen.V m c main_v5) (hd (grid0.coords t))
def VV (c : Dev nD) (t : Fin cfg0.N) : FVec Ideal S64x32768 .fp8e4m3 := hdV (Gen.V m c main_v6) (hd (grid0.coords t))
def QQ (c : Dev nD) (t : Fin cfg0.N) : FVec Ideal S16x256x64 .fp8e4m3 := stQ (X5 m c t)
def CC (c : Dev nD) (t : Fin cfg0.N) : FVec Ideal S16x8x256 .f32 := stC (X6 m c t)

/-- What the scratch buffers hold before point `n`. -/
def HeldAt (c : Dev nD) (n : ℕ) (f9 : FVec Ideal S32768x256 .f32) (f10 : FVec Ideal S32768x128 .f32) (f11 : FVec Ideal S32768x64 .fp8e4m3) (f12 : FVec Ideal S64x32768 .fp8e4m3)
    (f16 f17 : FVec Ideal S8x256 .f32) (f18 : FVec Ideal S16x64x256 .f32) (f19 : FVec Ideal S16x8x256 .f32) : Prop :=
  n % 33 ≠ 0 → Held (KK m c (pt (n - 1))) (AA m c (pt (n - 1))) (VV m c (pt (n - 1))) (QQ m c (pt (n - 1))) (CC m c (pt (n - 1))) f9 f10 f11 f12 f16 f17 f18 f19

/-- The tile the output's staging buffer holds after a point: the group before's. -/
def outT (c : Dev nD) (t : Fin cfg0.N) : FVec Ideal S1x1024x256 .bf16 :=
  outF (X7 m c t) (Ofull (KK m c (pt (t.val - 1))) (AA m c (pt (t.val - 1))) (VV m c (pt (t.val - 1))) (QQ m c (pt (t.val - 1))) (CC m c (pt (t.val - 1))))
    (Lfull (KK m c (pt (t.val - 1))) (AA m c (pt (t.val - 1))) (QQ m c (pt (t.val - 1))) (CC m c (pt (t.val - 1))))

theorem hd_pred (t : Fin cfg0.N) (h : t.val % 33 ≠ 0) : hd (grid0.coords (pt (t.val - 1))) = hd (grid0.coords t) := by
  refine Fin.ext ?_
  show (grid0.coords (pt (t.val - 1)) 0).val = (grid0.coords t 0).val
  have ht : t.val < 264 := Nat.lt_of_lt_of_eq t.isLt N_0
  rw [coord0, coord0]
  show (t.val - 1) % 264 / 33 = t.val / 33
  omega

theorem heldStep (c : Dev nD) (t : Fin cfg0.N) (e9 : FVec Ideal S32768x256 .f32) (e10 : FVec Ideal S32768x128 .f32) (e11 : FVec Ideal S32768x64 .fp8e4m3) (e12 : FVec Ideal S64x32768 .fp8e4m3)
    (e16 e17 : FVec Ideal S8x256 .f32) (e18 : FVec Ideal S16x64x256 .f32) (e19 : FVec Ideal S16x8x256 .f32)
    (E : Ent) (Z : FVec Ideal S1x1024x256 .bf16)
    (f9 : FVec Ideal S32768x256 .f32) (f16 f17 : FVec Ideal S8x256 .f32) (f18 : FVec Ideal S16x64x256 .f32) (f19 : FVec Ideal S16x8x256 .f32)
    (he : HeldAt m c t.val e9 e10 e11 e12 e16 e17 e18 e19)
    (hb : BFact (grid0.coords t) (X5 m c t) (X6 m c t) (X7 m c t) (Gen.V m c main_v4) (Gen.V m c main_v5) (Gen.V m c main_v6) e9 e10 e11 e12 e16 e17 e18 e19 E Z f9 f16 f17 f18 f19) :
    HeldAt m c (t.val + 1) f9 E.A E.K E.V f16 f17 f18 f19 ∧ (t.val % 33 ≠ 0 → Z = outT m c t) := by
  have hK : E.K = KK m c t ∧ E.A = AA m c t ∧ E.V = VV m c t := by
    by_cases h0 : t.val % 33 = 0
    · exact hb.head ((cond2_iff t).mpr h0)
    · have hh := he h0
      have hk := hb.keep fun h => h0 ((cond2_iff t).mp h)
      have hp := hd_pred t h0
      rw [hk]
      refine ⟨hh.k.trans ?_, hh.a.trans ?_, hh.v.trans ?_⟩
      · unfold KK
        rw [hp]
      · unfold AA
        rw [hp]
      · unfold VV
        rw [hp]
  refine ⟨fun h1 => ?_, fun h0 => ?_⟩
  · have ht : (k0_t2_loop (grid0.coords t)).trips = 16 := by
      rw [trips_eq, if_neg (by omega)]
    have hst := hb.st
    rw [ht] at hst
    have hh := held_of_blk E f9 f16 f17 f18 f19 hst
    have e : pt (t.val + 1 - 1) = t := pt_val t
    rw [e]
    unfold QQ CC
    rw [← hK.1, ← hK.2.1, ← hK.2.2, ← hb.q, ← hb.c]
    exact hh
  · have ht : (k0_t2_loop (grid0.coords t)).trips ≠ 0 := by
      rw [trips_eq]
      split <;> omega
    have hk := hb.keep fun h => h0 ((cond2_iff t).mp h)
    refine (hb.out ht).trans ?_
    have hh := he h0
    unfold outT
    rw [hk, O_one _ _ _ _ _ _ _ _ _ _ _ _ _ _ _ hh, L_one _ _ _ _ _ _ _ _ _ _ _ _ _ _ _ hh]

end Cert.KernelIdeal.Val

end
-- ==== Proof.ValBodyMid.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValHead
public import Idealize.ShloMosaic.Lib.Pipeline.FrameBody
public import Idealize.ShloMosaic.Lib.Tactic
public import Idealize.ShloMosaic.Lib.LoopRemainder
public import Idealize.ShloMosaic.Lib.Pipeline.Value

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

set_option maxHeartbeats 16000000 in
theorem bodyMid (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)
    (f5 : MBuf c arg5) (f6 : MBuf c arg6) (f7 : MBuf c arg7) (f8 : MBuf c arg8) (f9 : MBuf c sM9) (f10 : MBuf c sM10) (f11 : MBuf c sM11) (f12 : MBuf c sM12) (f13 : MBuf c sM13) (f14 : MBuf c sM14) (f15 : MBuf c sM15) (f16 : MBuf c sM16) (f17 : MBuf c sM17) (f18 : MBuf c sM18) (f19 : MBuf c sM19)
    (g2 : MBuf c hM2) (g3 : MBuf c hM3) (g4 : MBuf c hM4) (W : Waits sig Unit) (K : PUnit → sProp 𝕄) (h1 : ¬ k0_cond1 i = 1#1) (h2 : ¬ k0_cond2 i = 1#1) :
    iprop(mpt c arg5 f5 ∗ mpt c arg6 f6 ∗ mpt c arg7 f7 ∗ mpt c arg8 f8 ∗ mpt c sM9 f9 ∗ mpt c sM10 f10 ∗ mpt c sM11 f11 ∗ mpt c sM12 f12 ∗ mpt c sM13 f13 ∗ mpt c sM14 f14 ∗ mpt c sM15 f15 ∗ mpt c sM16 f16 ∗ mpt c sM17 f17 ∗ mpt c sM18 f18 ∗ mpt c sM19 f19
        ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ owes (c : Thread nD τ) 0 W
        ∗ (iprop(mpt c arg5 f5 ∗ mpt c arg6 f6 ∗ mpt c arg7 f7 ∗ (∃ d8 d9 d10 d11 d12 d14 d15 d16 d17 d18 d19 g9 g16 g17 g18 g19, mpt c arg8 d8 ∗ mpt c sM9 d9 ∗ mpt c sM10 d10 ∗ mpt c sM11 d11 ∗ mpt c sM12 d12 ∗ mpt c sM16 d16 ∗ mpt c sM17 d17 ∗ mpt c sM18 d18 ∗ mpt c sM19 d19
              ∗ ⌜BFact i (arg5.view.read (Elt Ideal) f5) (arg6.view.read (Elt Ideal) f6) (arg7.view.read (Elt Ideal) f7) g2 g3 g4 f9 f10 f11 f12 f16 f17 f18 f19 (Ent.mk d11 d10 d12 d14 d15 g9 g16 g17 g18 g19) (arg8.view.read (Elt Ideal) d8) d9 d16 d17 d18 d19⌝)
            ∗ own c sM13 ∗ own c sM14 ∗ own c sM15
            ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ (∃ W', owes (c : Thread nD τ) 0 W')) -∗ K ⟨⟩))
      ⊢ wp frame (wpE (defs₀ (F := Ideal)) Variants.none (c : Thread nD τ) none) Set.univ
          (cc0_attention i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11) K := by
  simp only [cc0_attention_eq_skeleton]; unfold cc0_attention_skel
  iintro ⟨H5, H6, H7, H8, H9, H10, H11, H12, H13, H14, H15, H16, H17, H18, H19, Hq0, Hq1, Hq2, Hh2, Hh3, Hh4, HW, Hk⟩
  sl_exec
  have e14 : bodyMid.sl.H14_16 c arg5 f5 = L14 c arg5 f5 nBlk := rfl
  have e15 : bodyMid.sl.H15_16 c arg6 f6 = L15 c arg6 f6 nBlk := rfl
  have q14 : ((sM14.view.writes (Elt Ideal) sM14.view.junk (bodyMid.sl.H14_16 c arg5 f5)) : FVec Ideal S16x256x64 .fp8e4m3) = stQ (arg5.view.read (Elt Ideal) f5) := (congrArg (fun L => (sM14.view.writes (Elt Ideal) sM14.view.junk L : FVec Ideal S16x256x64 .fp8e4m3)) e14).trans (st14_eq c arg5 f5)
  have q15 : ((sM15.view.writes (Elt Ideal) sM15.view.junk (bodyMid.sl.H15_16 c arg6 f6)) : FVec Ideal S16x8x256 .f32) = stC (arg6.view.read (Elt Ideal) f6) := (congrArg (fun L => (sM15.view.writes (Elt Ideal) sM15.view.junk L : FVec Ideal S16x8x256 .f32)) e15).trans (st15_eq c arg6 f6)
  have hb0 := blkSt_zero (Ent.mk f11 f10 f12 (sM14.view.writes (Elt Ideal) sM14.view.junk (bodyMid.sl.H14_16 c arg5 f5)) (sM15.view.writes (Elt Ideal) sM15.view.junk (bodyMid.sl.H15_16 c arg6 f6)) f9 f16 f17 f18 f19)
  let L2 := loopInv2 c i arg5 harg5 arg6 harg6 arg7 harg7 arg8 harg8 f7 f10 f11 f12 (sM14.view.writes (Elt Ideal) sM14.view.junk (bodyMid.sl.H14_16 c arg5 f5)) (sM15.view.writes (Elt Ideal) sM15.view.junk (bodyMid.sl.H15_16 c arg6 f6)) f9 f16 f17 f18 f19
  sl_exec
  sl_step
  iapply Hk
  isplitl [H5]; · iexact H5
  isplitl [H6]; · iexact H6
  isplitl [H7]; · iexact H7
  isplitl [H8 H9 H10 H11 H12 H16 H17 H18 H19]
  · iexists f8L0
    iexists f9L1
    iexists f10
    iexists f11
    iexists f12
    iexists (sM14.view.writes (Elt Ideal) sM14.view.junk (bodyMid.sl.H14_16 c arg5 f5))
    iexists (sM15.view.writes (Elt Ideal) sM15.view.junk (bodyMid.sl.H15_16 c arg6 f6))
    iexists f16L2
    iexists f17L3
    iexists f18L4
    iexists f19L5
    iexists f9
    iexists f16
    iexists f17
    iexists f18
    iexists f19
    isplitl [H8]; · iexact H8
    isplitl [H9]; · iexact H9
    isplitl [H10]; · iexact H10
    isplitl [H11]; · iexact H11
    isplitl [H12]; · iexact H12
    isplitl [H16]; · iexact H16
    isplitl [H17]; · iexact H17
    isplitl [H18]; · iexact H18
    isplitl [H19]; · iexact H19
    ipureintro
    exact ⟨q14, q15, fun h => absurd h h2, fun _ => rfl, hL12, hL13⟩
  isplitl [H13]; · iexists _; iexact H13
  isplitl [H14]; · iexists _; iexact H14
  isplitl [H15]; · iexists _; iexact H15
  isplitl [Hq0]; · iexact Hq0
  isplitl [Hq1]; · iexact Hq1
  isplitl [Hq2]; · iexact Hq2
  isplitl [Hh2]; · iexact Hh2
  isplitl [Hh3]; · iexact Hh3
  isplitl [Hh4]; · iexact Hh4
  iexists _
  iexact HW

end Cert.KernelIdeal.Val

end
-- ==== Proof.ValBodyHead.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValHead
public import Idealize.ShloMosaic.Lib.Pipeline.FrameBody
public import Idealize.ShloMosaic.Lib.Tactic
public import Idealize.ShloMosaic.Lib.LoopRemainder
public import Idealize.ShloMosaic.Lib.Pipeline.Value

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

set_option maxHeartbeats 16000000 in
theorem bodyHead (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)
    (f5 : MBuf c arg5) (f6 : MBuf c arg6) (f7 : MBuf c arg7) (f8 : MBuf c arg8) (f9 : MBuf c sM9) (f10 : MBuf c sM10) (f11 : MBuf c sM11) (f12 : MBuf c sM12) (f13 : MBuf c sM13) (f14 : MBuf c sM14) (f15 : MBuf c sM15) (f16 : MBuf c sM16) (f17 : MBuf c sM17) (f18 : MBuf c sM18) (f19 : MBuf c sM19)
    (g2 : MBuf c hM2) (g3 : MBuf c hM3) (g4 : MBuf c hM4) (W : Waits sig Unit) (K : PUnit → sProp 𝕄) (h1 : ¬ k0_cond1 i = 1#1) (h2 : k0_cond2 i = 1#1) :
    iprop(mpt c arg5 f5 ∗ mpt c arg6 f6 ∗ mpt c arg7 f7 ∗ mpt c arg8 f8 ∗ mpt c sM9 f9 ∗ mpt c sM10 f10 ∗ mpt c sM11 f11 ∗ mpt c sM12 f12 ∗ mpt c sM13 f13 ∗ mpt c sM14 f14 ∗ mpt c sM15 f15 ∗ mpt c sM16 f16 ∗ mpt c sM17 f17 ∗ mpt c sM18 f18 ∗ mpt c sM19 f19
        ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ owes (c : Thread nD τ) 0 W
        ∗ (iprop(mpt c arg5 f5 ∗ mpt c arg6 f6 ∗ mpt c arg7 f7 ∗ (∃ d8 d9 d10 d11 d12 d14 d15 d16 d17 d18 d19 g9 g16 g17 g18 g19, mpt c arg8 d8 ∗ mpt c sM9 d9 ∗ mpt c sM10 d10 ∗ mpt c sM11 d11 ∗ mpt c sM12 d12 ∗ mpt c sM16 d16 ∗ mpt c sM17 d17 ∗ mpt c sM18 d18 ∗ mpt c sM19 d19
              ∗ ⌜BFact i (arg5.view.read (Elt Ideal) f5) (arg6.view.read (Elt Ideal) f6) (arg7.view.read (Elt Ideal) f7) g2 g3 g4 f9 f10 f11 f12 f16 f17 f18 f19 (Ent.mk d11 d10 d12 d14 d15 g9 g16 g17 g18 g19) (arg8.view.read (Elt Ideal) d8) d9 d16 d17 d18 d19⌝)
            ∗ own c sM13 ∗ own c sM14 ∗ own c sM15
            ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ (∃ W', owes (c : Thread nD τ) 0 W')) -∗ K ⟨⟩))
      ⊢ wp frame (wpE (defs₀ (F := Ideal)) Variants.none (c : Thread nD τ) none) Set.univ
          (cc0_attention i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11) K := by
  simp only [cc0_attention_eq_skeleton]; unfold cc0_attention_skel
  iintro ⟨H5, H6, H7, H8, H9, H10, H11, H12, H13, H14, H15, H16, H17, H18, H19, Hq0, Hq1, Hq2, Hh2, Hh3, Hh4, HW, Hk⟩
  sl_exec
  have e14 : bodyHead.sl.H14_16 c arg5 f5 = L14 c arg5 f5 nBlk := rfl
  have e15 : bodyHead.sl.H15_16 c arg6 f6 = L15 c arg6 f6 nBlk := rfl
  have q14 : ((sM14.view.writes (Elt Ideal) sM14.view.junk (bodyHead.sl.H14_16 c arg5 f5)) : FVec Ideal S16x256x64 .fp8e4m3) = stQ (arg5.view.read (Elt Ideal) f5) := (congrArg (fun L => (sM14.view.writes (Elt Ideal) sM14.view.junk L : FVec Ideal S16x256x64 .fp8e4m3)) e14).trans (st14_eq c arg5 f5)
  have q15 : ((sM15.view.writes (Elt Ideal) sM15.view.junk (bodyHead.sl.H15_16 c arg6 f6)) : FVec Ideal S16x8x256 .f32) = stC (arg6.view.read (Elt Ideal) f6) := (congrArg (fun L => (sM15.view.writes (Elt Ideal) sM15.view.junk L : FVec Ideal S16x8x256 .f32)) e15).trans (st15_eq c arg6 f6)
  have hhd : k0_cond2 i = 1#1 → (Ent.mk (sM11.view.writes (Elt Ideal) sM11.view.junk [⟨Rect.whole S32768x64, bodyHead.sl.dma0 c i g2 h2⟩]) (sM10.view.writes (Elt Ideal) sM10.view.junk [⟨Rect.whole S32768x128, bodyHead.sl.dma0_1 c i g3 h2⟩]) (sM12.view.writes (Elt Ideal) sM12.view.junk [⟨Rect.whole S64x32768, bodyHead.sl.dma0_2 c i g4 h2⟩]) (sM14.view.writes (Elt Ideal) sM14.view.junk (bodyHead.sl.H14_16 c arg5 f5)) (sM15.view.writes (Elt Ideal) sM15.view.junk (bodyHead.sl.H15_16 c arg6 f6)) f9 f16 f17 f18 f19).K = hdK g2 (hd i) ∧ (Ent.mk (sM11.view.writes (Elt Ideal) sM11.view.junk [⟨Rect.whole S32768x64, bodyHead.sl.dma0 c i g2 h2⟩]) (sM10.view.writes (Elt Ideal) sM10.view.junk [⟨Rect.whole S32768x128, bodyHead.sl.dma0_1 c i g3 h2⟩]) (sM12.view.writes (Elt Ideal) sM12.view.junk [⟨Rect.whole S64x32768, bodyHead.sl.dma0_2 c i g4 h2⟩]) (sM14.view.writes (Elt Ideal) sM14.view.junk (bodyHead.sl.H14_16 c arg5 f5)) (sM15.view.writes (Elt Ideal) sM15.view.junk (bodyHead.sl.H15_16 c arg6 f6)) f9 f16 f17 f18 f19).A = hdA g3 (hd i) ∧ (Ent.mk (sM11.view.writes (Elt Ideal) sM11.view.junk [⟨Rect.whole S32768x64, bodyHead.sl.dma0 c i g2 h2⟩]) (sM10.view.writes (Elt Ideal) sM10.view.junk [⟨Rect.whole S32768x128, bodyHead.sl.dma0_1 c i g3 h2⟩]) (sM12.view.writes (Elt Ideal) sM12.view.junk [⟨Rect.whole S64x32768, bodyHead.sl.dma0_2 c i g4 h2⟩]) (sM14.view.writes (Elt Ideal) sM14.view.junk (bodyHead.sl.H14_16 c arg5 f5)) (sM15.view.writes (Elt Ideal) sM15.view.junk (bodyHead.sl.H15_16 c arg6 f6)) f9 f16 f17 f18 f19).V = hdV g4 (hd i) := fun _ => entHead (cpy2 c (bodyHead.sl.dma0 c i g2 h2)) _ (cpy3 c (bodyHead.sl.dma0_1 c i g3 h2)) _ (cpy4 c (bodyHead.sl.dma0_2 c i g4 h2)) _ (cpx2 c i h2 g2 (bodyHead.sl.dma0 c i g2 h2) (by decide) rfl) (cpx3 c i h2 g3 (bodyHead.sl.dma0_1 c i g3 h2) (by decide) rfl) (cpx4 c i h2 g4 (bodyHead.sl.dma0_2 c i g4 h2) (by decide) rfl) _ _ _ _ _ _ _
  have hb0 := blkSt_zero (Ent.mk (sM11.view.writes (Elt Ideal) sM11.view.junk [⟨Rect.whole S32768x64, bodyHead.sl.dma0 c i g2 h2⟩]) (sM10.view.writes (Elt Ideal) sM10.view.junk [⟨Rect.whole S32768x128, bodyHead.sl.dma0_1 c i g3 h2⟩]) (sM12.view.writes (Elt Ideal) sM12.view.junk [⟨Rect.whole S64x32768, bodyHead.sl.dma0_2 c i g4 h2⟩]) (sM14.view.writes (Elt Ideal) sM14.view.junk (bodyHead.sl.H14_16 c arg5 f5)) (sM15.view.writes (Elt Ideal) sM15.view.junk (bodyHead.sl.H15_16 c arg6 f6)) f9 f16 f17 f18 f19)
  let L2 := loopInv2 c i arg5 harg5 arg6 harg6 arg7 harg7 arg8 harg8 f7 (sM10.view.writes (Elt Ideal) sM10.view.junk [⟨Rect.whole S32768x128, bodyHead.sl.dma0_1 c i g3 h2⟩]) (sM11.view.writes (Elt Ideal) sM11.view.junk [⟨Rect.whole S32768x64, bodyHead.sl.dma0 c i g2 h2⟩]) (sM12.view.writes (Elt Ideal) sM12.view.junk [⟨Rect.whole S64x32768, bodyHead.sl.dma0_2 c i g4 h2⟩]) (sM14.view.writes (Elt Ideal) sM14.view.junk (bodyHead.sl.H14_16 c arg5 f5)) (sM15.view.writes (Elt Ideal) sM15.view.junk (bodyHead.sl.H15_16 c arg6 f6)) f9 f16 f17 f18 f19
  sl_exec
  sl_step
  iapply Hk
  isplitl [H5]; · iexact H5
  isplitl [H6]; · iexact H6
  isplitl [H7]; · iexact H7
  isplitl [H8 H9 H10 H11 H12 H16 H17 H18 H19]
  · iexists f8L0
    iexists f9L1
    iexists (sM10.view.writes (Elt Ideal) sM10.view.junk [⟨Rect.whole S32768x128, bodyHead.sl.dma0_1 c i g3 h2⟩])
    iexists (sM11.view.writes (Elt Ideal) sM11.view.junk [⟨Rect.whole S32768x64, bodyHead.sl.dma0 c i g2 h2⟩])
    iexists (sM12.view.writes (Elt Ideal) sM12.view.junk [⟨Rect.whole S64x32768, bodyHead.sl.dma0_2 c i g4 h2⟩])
    iexists (sM14.view.writes (Elt Ideal) sM14.view.junk (bodyHead.sl.H14_16 c arg5 f5))
    iexists (sM15.view.writes (Elt Ideal) sM15.view.junk (bodyHead.sl.H15_16 c arg6 f6))
    iexists f16L2
    iexists f17L3
    iexists f18L4
    iexists f19L5
    iexists f9
    iexists f16
    iexists f17
    iexists f18
    iexists f19
    isplitl [H8]; · iexact H8
    isplitl [H9]; · iexact H9
    isplitl [H10]; · iexact H10
    isplitl [H11]; · iexact H11
    isplitl [H12]; · iexact H12
    isplitl [H16]; · iexact H16
    isplitl [H17]; · iexact H17
    isplitl [H18]; · iexact H18
    isplitl [H19]; · iexact H19
    ipureintro
    exact ⟨q14, q15, hhd, fun h => absurd h2 h, hL12, hL13⟩
  isplitl [H13]; · iexists _; iexact H13
  isplitl [H14]; · iexists _; iexact H14
  isplitl [H15]; · iexists _; iexact H15
  isplitl [Hq0]; · iexact Hq0
  isplitl [Hq1]; · iexact Hq1
  isplitl [Hq2]; · iexact Hq2
  isplitl [Hh2]; · iexact Hh2
  isplitl [Hh3]; · iexact Hh3
  isplitl [Hh4]; · iexact Hh4
  iexists _
  iexact HW

end Cert.KernelIdeal.Val

end
-- ==== Proof.ValBodyFirst.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValHead
public import Idealize.ShloMosaic.Lib.Pipeline.FrameBody
public import Idealize.ShloMosaic.Lib.Tactic
public import Idealize.ShloMosaic.Lib.LoopRemainder
public import Idealize.ShloMosaic.Lib.Pipeline.Value

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

set_option maxHeartbeats 16000000 in
theorem bodyFirst (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)
    (f5 : MBuf c arg5) (f6 : MBuf c arg6) (f7 : MBuf c arg7) (f8 : MBuf c arg8) (f9 : MBuf c sM9) (f10 : MBuf c sM10) (f11 : MBuf c sM11) (f12 : MBuf c sM12) (f13 : MBuf c sM13) (f14 : MBuf c sM14) (f15 : MBuf c sM15) (f16 : MBuf c sM16) (f17 : MBuf c sM17) (f18 : MBuf c sM18) (f19 : MBuf c sM19)
    (g2 : MBuf c hM2) (g3 : MBuf c hM3) (g4 : MBuf c hM4) (W : Waits sig Unit) (K : PUnit → sProp 𝕄) (h1 : k0_cond1 i = 1#1) (h2 : k0_cond2 i = 1#1) :
    iprop(mpt c arg5 f5 ∗ mpt c arg6 f6 ∗ mpt c arg7 f7 ∗ mpt c arg8 f8 ∗ mpt c sM9 f9 ∗ mpt c sM10 f10 ∗ mpt c sM11 f11 ∗ mpt c sM12 f12 ∗ mpt c sM13 f13 ∗ mpt c sM14 f14 ∗ mpt c sM15 f15 ∗ mpt c sM16 f16 ∗ mpt c sM17 f17 ∗ mpt c sM18 f18 ∗ mpt c sM19 f19
        ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ owes (c : Thread nD τ) 0 W
        ∗ (iprop(mpt c arg5 f5 ∗ mpt c arg6 f6 ∗ mpt c arg7 f7 ∗ (∃ d8 d9 d10 d11 d12 d14 d15 d16 d17 d18 d19 g9 g16 g17 g18 g19, mpt c arg8 d8 ∗ mpt c sM9 d9 ∗ mpt c sM10 d10 ∗ mpt c sM11 d11 ∗ mpt c sM12 d12 ∗ mpt c sM16 d16 ∗ mpt c sM17 d17 ∗ mpt c sM18 d18 ∗ mpt c sM19 d19
              ∗ ⌜BFact i (arg5.view.read (Elt Ideal) f5) (arg6.view.read (Elt Ideal) f6) (arg7.view.read (Elt Ideal) f7) g2 g3 g4 f9 f10 f11 f12 f16 f17 f18 f19 (Ent.mk d11 d10 d12 d14 d15 g9 g16 g17 g18 g19) (arg8.view.read (Elt Ideal) d8) d9 d16 d17 d18 d19⌝)
            ∗ own c sM13 ∗ own c sM14 ∗ own c sM15
            ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ (∃ W', owes (c : Thread nD τ) 0 W')) -∗ K ⟨⟩))
      ⊢ wp frame (wpE (defs₀ (F := Ideal)) Variants.none (c : Thread nD τ) none) Set.univ
          (cc0_attention i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11) K := by
  simp only [cc0_attention_eq_skeleton]; unfold cc0_attention_skel
  iintro ⟨H5, H6, H7, H8, H9, H10, H11, H12, H13, H14, H15, H16, H17, H18, H19, Hq0, Hq1, Hq2, Hh2, Hh3, Hh4, HW, Hk⟩
  sl_exec
  have e14 : bodyFirst.sl.H14_16 c arg5 f5 = L14 c arg5 f5 nBlk := rfl
  have e15 : bodyFirst.sl.H15_16 c arg6 f6 = L15 c arg6 f6 nBlk := rfl
  have q14 : ((sM14.view.writes (Elt Ideal) sM14.view.junk (bodyFirst.sl.H14_16 c arg5 f5)) : FVec Ideal S16x256x64 .fp8e4m3) = stQ (arg5.view.read (Elt Ideal) f5) := (congrArg (fun L => (sM14.view.writes (Elt Ideal) sM14.view.junk L : FVec Ideal S16x256x64 .fp8e4m3)) e14).trans (st14_eq c arg5 f5)
  have q15 : ((sM15.view.writes (Elt Ideal) sM15.view.junk (bodyFirst.sl.H15_16 c arg6 f6)) : FVec Ideal S16x8x256 .f32) = stC (arg6.view.read (Elt Ideal) f6) := (congrArg (fun L => (sM15.view.writes (Elt Ideal) sM15.view.junk L : FVec Ideal S16x8x256 .f32)) e15).trans (st15_eq c arg6 f6)
  have hhd : k0_cond2 i = 1#1 → (Ent.mk (sM11.view.writes (Elt Ideal) sM11.view.junk [⟨Rect.whole S32768x64, bodyFirst.sl.dma0 c i g2 h2⟩]) (sM10.view.writes (Elt Ideal) sM10.view.junk [⟨Rect.whole S32768x128, bodyFirst.sl.dma0_1 c i g3 h2⟩]) (sM12.view.writes (Elt Ideal) sM12.view.junk [⟨Rect.whole S64x32768, bodyFirst.sl.dma0_2 c i g4 h2⟩]) (sM14.view.writes (Elt Ideal) sM14.view.junk (bodyFirst.sl.H14_16 c arg5 f5)) (sM15.view.writes (Elt Ideal) sM15.view.junk (bodyFirst.sl.H15_16 c arg6 f6)) fL0 (sM16.view.writes (Elt Ideal) sM16.view.junk bodyFirst.sl.H16_1) (sM17.view.writes (Elt Ideal) sM17.view.junk bodyFirst.sl.H17_1) (sM18.view.writes (Elt Ideal) sM18.view.junk bodyFirst.sl.H18_1) (sM19.view.writes (Elt Ideal) sM19.view.junk bodyFirst.sl.H19_1)).K = hdK g2 (hd i) ∧ (Ent.mk (sM11.view.writes (Elt Ideal) sM11.view.junk [⟨Rect.whole S32768x64, bodyFirst.sl.dma0 c i g2 h2⟩]) (sM10.view.writes (Elt Ideal) sM10.view.junk [⟨Rect.whole S32768x128, bodyFirst.sl.dma0_1 c i g3 h2⟩]) (sM12.view.writes (Elt Ideal) sM12.view.junk [⟨Rect.whole S64x32768, bodyFirst.sl.dma0_2 c i g4 h2⟩]) (sM14.view.writes (Elt Ideal) sM14.view.junk (bodyFirst.sl.H14_16 c arg5 f5)) (sM15.view.writes (Elt Ideal) sM15.view.junk (bodyFirst.sl.H15_16 c arg6 f6)) fL0 (sM16.view.writes (Elt Ideal) sM16.view.junk bodyFirst.sl.H16_1) (sM17.view.writes (Elt Ideal) sM17.view.junk bodyFirst.sl.H17_1) (sM18.view.writes (Elt Ideal) sM18.view.junk bodyFirst.sl.H18_1) (sM19.view.writes (Elt Ideal) sM19.view.junk bodyFirst.sl.H19_1)).A = hdA g3 (hd i) ∧ (Ent.mk (sM11.view.writes (Elt Ideal) sM11.view.junk [⟨Rect.whole S32768x64, bodyFirst.sl.dma0 c i g2 h2⟩]) (sM10.view.writes (Elt Ideal) sM10.view.junk [⟨Rect.whole S32768x128, bodyFirst.sl.dma0_1 c i g3 h2⟩]) (sM12.view.writes (Elt Ideal) sM12.view.junk [⟨Rect.whole S64x32768, bodyFirst.sl.dma0_2 c i g4 h2⟩]) (sM14.view.writes (Elt Ideal) sM14.view.junk (bodyFirst.sl.H14_16 c arg5 f5)) (sM15.view.writes (Elt Ideal) sM15.view.junk (bodyFirst.sl.H15_16 c arg6 f6)) fL0 (sM16.view.writes (Elt Ideal) sM16.view.junk bodyFirst.sl.H16_1) (sM17.view.writes (Elt Ideal) sM17.view.junk bodyFirst.sl.H17_1) (sM18.view.writes (Elt Ideal) sM18.view.junk bodyFirst.sl.H18_1) (sM19.view.writes (Elt Ideal) sM19.view.junk bodyFirst.sl.H19_1)).V = hdV g4 (hd i) := fun _ => entHead (cpy2 c (bodyFirst.sl.dma0 c i g2 h2)) _ (cpy3 c (bodyFirst.sl.dma0_1 c i g3 h2)) _ (cpy4 c (bodyFirst.sl.dma0_2 c i g4 h2)) _ (cpx2 c i h2 g2 (bodyFirst.sl.dma0 c i g2 h2) (by decide) rfl) (cpx3 c i h2 g3 (bodyFirst.sl.dma0_1 c i g3 h2) (by decide) rfl) (cpx4 c i h2 g4 (bodyFirst.sl.dma0_2 c i g4 h2) (by decide) rfl) _ _ _ _ _ _ _
  have hb0 := blkSt_zero (Ent.mk (sM11.view.writes (Elt Ideal) sM11.view.junk [⟨Rect.whole S32768x64, bodyFirst.sl.dma0 c i g2 h2⟩]) (sM10.view.writes (Elt Ideal) sM10.view.junk [⟨Rect.whole S32768x128, bodyFirst.sl.dma0_1 c i g3 h2⟩]) (sM12.view.writes (Elt Ideal) sM12.view.junk [⟨Rect.whole S64x32768, bodyFirst.sl.dma0_2 c i g4 h2⟩]) (sM14.view.writes (Elt Ideal) sM14.view.junk (bodyFirst.sl.H14_16 c arg5 f5)) (sM15.view.writes (Elt Ideal) sM15.view.junk (bodyFirst.sl.H15_16 c arg6 f6)) fL0 (sM16.view.writes (Elt Ideal) sM16.view.junk bodyFirst.sl.H16_1) (sM17.view.writes (Elt Ideal) sM17.view.junk bodyFirst.sl.H17_1) (sM18.view.writes (Elt Ideal) sM18.view.junk bodyFirst.sl.H18_1) (sM19.view.writes (Elt Ideal) sM19.view.junk bodyFirst.sl.H19_1))
  let L2 := loopInv2 c i arg5 harg5 arg6 harg6 arg7 harg7 arg8 harg8 f7 (sM10.view.writes (Elt Ideal) sM10.view.junk [⟨Rect.whole S32768x128, bodyFirst.sl.dma0_1 c i g3 h2⟩]) (sM11.view.writes (Elt Ideal) sM11.view.junk [⟨Rect.whole S32768x64, bodyFirst.sl.dma0 c i g2 h2⟩]) (sM12.view.writes (Elt Ideal) sM12.view.junk [⟨Rect.whole S64x32768, bodyFirst.sl.dma0_2 c i g4 h2⟩]) (sM14.view.writes (Elt Ideal) sM14.view.junk (bodyFirst.sl.H14_16 c arg5 f5)) (sM15.view.writes (Elt Ideal) sM15.view.junk (bodyFirst.sl.H15_16 c arg6 f6)) fL0 (sM16.view.writes (Elt Ideal) sM16.view.junk bodyFirst.sl.H16_1) (sM17.view.writes (Elt Ideal) sM17.view.junk bodyFirst.sl.H17_1) (sM18.view.writes (Elt Ideal) sM18.view.junk bodyFirst.sl.H18_1) (sM19.view.writes (Elt Ideal) sM19.view.junk bodyFirst.sl.H19_1)
  sl_exec
  sl_step
  iapply Hk
  isplitl [H5]; · iexact H5
  isplitl [H6]; · iexact H6
  isplitl [H7]; · iexact H7
  isplitl [H8 H9 H10 H11 H12 H16 H17 H18 H19]
  · iexists f8L0
    iexists f9L1
    iexists (sM10.view.writes (Elt Ideal) sM10.view.junk [⟨Rect.whole S32768x128, bodyFirst.sl.dma0_1 c i g3 h2⟩])
    iexists (sM11.view.writes (Elt Ideal) sM11.view.junk [⟨Rect.whole S32768x64, bodyFirst.sl.dma0 c i g2 h2⟩])
    iexists (sM12.view.writes (Elt Ideal) sM12.view.junk [⟨Rect.whole S64x32768, bodyFirst.sl.dma0_2 c i g4 h2⟩])
    iexists (sM14.view.writes (Elt Ideal) sM14.view.junk (bodyFirst.sl.H14_16 c arg5 f5))
    iexists (sM15.view.writes (Elt Ideal) sM15.view.junk (bodyFirst.sl.H15_16 c arg6 f6))
    iexists f16L2
    iexists f17L3
    iexists f18L4
    iexists f19L5
    iexists fL0
    iexists (sM16.view.writes (Elt Ideal) sM16.view.junk bodyFirst.sl.H16_1)
    iexists (sM17.view.writes (Elt Ideal) sM17.view.junk bodyFirst.sl.H17_1)
    iexists (sM18.view.writes (Elt Ideal) sM18.view.junk bodyFirst.sl.H18_1)
    iexists (sM19.view.writes (Elt Ideal) sM19.view.junk bodyFirst.sl.H19_1)
    isplitl [H8]; · iexact H8
    isplitl [H9]; · iexact H9
    isplitl [H10]; · iexact H10
    isplitl [H11]; · iexact H11
    isplitl [H12]; · iexact H12
    isplitl [H16]; · iexact H16
    isplitl [H17]; · iexact H17
    isplitl [H18]; · iexact H18
    isplitl [H19]; · iexact H19
    ipureintro
    exact ⟨q14, q15, hhd, fun h => absurd h2 h, hL12, hL13⟩
  isplitl [H13]; · iexists _; iexact H13
  isplitl [H14]; · iexists _; iexact H14
  isplitl [H15]; · iexists _; iexact H15
  isplitl [Hq0]; · iexact Hq0
  isplitl [Hq1]; · iexact Hq1
  isplitl [Hq2]; · iexact Hq2
  isplitl [Hh2]; · iexact Hh2
  isplitl [Hh3]; · iexact Hh3
  isplitl [Hh4]; · iexact Hh4
  iexists _
  iexact HW

end Cert.KernelIdeal.Val

end
-- ==== Proof.ValFrame.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import proofs.«01_k».proof.Proof.ValHeld
public import proofs.«01_k».proof.Proof.ValBodyMid
public import proofs.«01_k».proof.Proof.ValBodyHead
public import proofs.«01_k».proof.Proof.ValBodyFirst
public import Idealize.ShloMosaic.Lib.Pipeline.FrameBody
public import Idealize.ShloMosaic.Lib.Tactic
public import Idealize.ShloMosaic.Lib.Pipeline.DatRel
public import Idealize.ShloMosaic.Lib.Pipeline.ArrRel
public import Idealize.ShloMosaic.Lib.Pipeline.ValueKit.Geometry
public import Idealize.ShloMosaic.Lib.LoopRemainder
public import Idealize.ShloMosaic.Lib.Pipeline.Value

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra: the pipeline library's beside the transfers' counters. -/
local notation "𝕄" => MT nD τ sig Unit (Elt Ideal) ℕ (Pipeline.UD sig nD τ) ℕ

variable (m : (ℓ : Loc nD τ sig) → Buf (Elt Ideal) ℓ) (ρ : Dev nD → PrngReg)

/-! ## The body at a grid point, whichever -/

theorem bodyAll (c : Dev nD) (i : grid0.Coords) (arg5 : Memref sig .tc .vmem S1x1024x256 .fp8e4m3) (harg5 : arg5.IsWhole) (arg6 : Memref sig .tc .vmem S1x1x4x1024 .f32) (harg6 : arg6.IsWhole) (arg7 : Memref sig .tc .vmem S1x64x128 .f32) (harg7 : arg7.IsWhole) (arg8 : Memref sig .tc .vmem S1x1024x256 .bf16) (harg8 : arg8.IsWhole)
    (f5 : MBuf c arg5) (f6 : MBuf c arg6) (f7 : MBuf c arg7) (f8 : MBuf c arg8) (f9 : MBuf c sM9) (f10 : MBuf c sM10) (f11 : MBuf c sM11) (f12 : MBuf c sM12) (f13 : MBuf c sM13) (f14 : MBuf c sM14) (f15 : MBuf c sM15) (f16 : MBuf c sM16) (f17 : MBuf c sM17) (f18 : MBuf c sM18) (f19 : MBuf c sM19)
    (g2 : MBuf c hM2) (g3 : MBuf c hM3) (g4 : MBuf c hM4) (W : Waits sig Unit) (K : PUnit → sProp 𝕄) (h12 : k0_cond1 i = 1#1 → k0_cond2 i = 1#1) :
    iprop(mpt c arg5 f5 ∗ mpt c arg6 f6 ∗ mpt c arg7 f7 ∗ mpt c arg8 f8 ∗ mpt c sM9 f9 ∗ mpt c sM10 f10 ∗ mpt c sM11 f11 ∗ mpt c sM12 f12 ∗ mpt c sM13 f13 ∗ mpt c sM14 f14 ∗ mpt c sM15 f15 ∗ mpt c sM16 f16 ∗ mpt c sM17 f17 ∗ mpt c sM18 f18 ∗ mpt c sM19 f19
        ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ owes (c : Thread nD τ) 0 W
        ∗ (iprop(mpt c arg5 f5 ∗ mpt c arg6 f6 ∗ mpt c arg7 f7 ∗ (∃ d8 d9 d10 d11 d12 d14 d15 d16 d17 d18 d19 g9 g16 g17 g18 g19, mpt c arg8 d8 ∗ mpt c sM9 d9 ∗ mpt c sM10 d10 ∗ mpt c sM11 d11 ∗ mpt c sM12 d12 ∗ mpt c sM16 d16 ∗ mpt c sM17 d17 ∗ mpt c sM18 d18 ∗ mpt c sM19 d19
              ∗ ⌜BFact i (arg5.view.read (Elt Ideal) f5) (arg6.view.read (Elt Ideal) f6) (arg7.view.read (Elt Ideal) f7) g2 g3 g4 f9 f10 f11 f12 f16 f17 f18 f19 (Ent.mk d11 d10 d12 d14 d15 g9 g16 g17 g18 g19) (arg8.view.read (Elt Ideal) d8) d9 d16 d17 d18 d19⌝)
            ∗ own c sM13 ∗ own c sM14 ∗ own c sM15
            ∗ semVal ((c : Thread nD τ), SemLoc.dma 8) 0 ∗ semVal ((c : Thread nD τ), SemLoc.dma 9) 0 ∗ semVal ((c : Thread nD τ), SemLoc.dma 10) 0 ∗ hpt c hM2 g2 ∗ hpt c hM3 g3 ∗ hpt c hM4 g4 ∗ (∃ W', owes (c : Thread nD τ) 0 W')) -∗ K ⟨⟩))
      ⊢ wp frame (wpE (defs₀ (F := Ideal)) Variants.none (c : Thread nD τ) none) Set.univ
          (cc0_attention i hM2 (Memref.isWhole_whole _) hM3 (Memref.isWhole_whole _) hM4 (Memref.isWhole_whole _) arg5 harg5 arg6 harg6 arg7 harg7 arg8 harg8 sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) sM16 (Memref.isWhole_whole _) sM17 (Memref.isWhole_whole _) sM18 (Memref.isWhole_whole _) sM19 (Memref.isWhole_whole _) cc0_scratch11) K := by
  by_cases h2 : k0_cond2 i = 1#1
  · by_cases h1 : k0_cond1 i = 1#1
    · exact bodyFirst c i arg5 harg5 arg6 harg6 arg7 harg7 arg8 harg8 f5 f6 f7 f8 f9 f10 f11 f12 f13 f14 f15 f16 f17 f18 f19 g2 g3 g4 W K h1 h2
    · exact bodyHead c i arg5 harg5 arg6 harg6 arg7 harg7 arg8 harg8 f5 f6 f7 f8 f9 f10 f11 f12 f13 f14 f15 f16 f17 f18 f19 g2 g3 g4 W K h1 h2
  · exact bodyMid c i arg5 harg5 arg6 harg6 arg7 harg7 arg8 harg8 f5 f6 f7 f8 f9 f10 f11 f12 f13 f14 f15 f16 f17 f18 f19 g2 g3 g4 W K (fun h => h2 (h12 h)) h2

/-! ## The launch -/

/-- The body's three transfer cells. -/
abbrev osem0 : Fin 3 → SemLoc sig := fun j => (![SemLoc.dma 8, SemLoc.dma 9, SemLoc.dma 10] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt Ideal) (τ := τ) osem0 c : sProp 𝕄)
      = iprop(semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2] (by decide) (by decide)]; rfl

/-- The operands left in HBM that the body's transfers read. -/
def H0 : Finset (Ref sig .tc) := {main_v4, main_v5, main_v6}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop(hpt c hM2 (Gen.V m c main_v4) ∗ hpt c hM3 (Gen.V m c main_v5) ∗ hpt c hM4 (Gen.V m c main_v6)) := by
  rw [BI.bigSep_eq_bigSepL_of_eq [main_v4, main_v5, main_v6] (by decide) (by decide)]; rfl

theorem own_whole {k : Ref sig .tc} (c : Dev nD) :
    (iprop(∃ f : Buf (Elt Ideal) ((c : Thread nD τ).loc k), ((c : Thread nD τ).loc k) ↦{fullShare} f) : sProp 𝕄)
      = iprop(∃ f : Buf (Elt Ideal) ((c : Thread nD τ).loc k), ((c : Thread nD τ).loc k) ↦[View.set (Memref.whole k).view]{fullShare} f) := by
  simp only [Memref.view_whole, View.set_whole]

/-- The invariant between points, spelled out. -/
theorem PhiD0_eq (c : Dev nD) :
    (Pipeline.ΦD osem0 spec0 H0 (Gen.V m) c : sProp 𝕄)
      = iprop(iprop(own c sM9 ∗ own c sM10 ∗ own c sM11 ∗ own c sM12 ∗ own c sM13 ∗ own c sM14 ∗ own c sM15 ∗ own c sM16 ∗ own c sM17 ∗ own c sM18 ∗ own c sM19)
          ∗ (∃ r, prngReg c r)
          ∗ iprop(semVal ((c : Thread nD τ), SemLoc.dma 8) 0 ∗ semVal ((c : Thread nD τ), SemLoc.dma 9) 0 ∗ semVal ((c : Thread nD τ), SemLoc.dma 10) 0)
          ∗ iprop(hpt c hM2 (Gen.V m c main_v4) ∗ hpt c hM3 (Gen.V m c main_v5) ∗ hpt c hM4 (Gen.V m c main_v6))) := by
  rw [Pipeline.ΦD_eq, scopedRest0_eq, ownSems00_eq, hbmPts0_eq]
  simp only [own_whole]; try rfl

/-- @main up to the region. -/
theorem hmainD (𝒱₀ : Variants) : Pipeline.HMain (Ix := Unit) (Name := ℕ) (U := Pipeline.UD sig nD τ) (Lvl := ℕ) cfgs 0 defs₀ 𝒱₀ m (main (F := Ideal)) (Gen.V m) :=
  Pipeline.hmain_prefix cfgs 0 defs₀ 𝒱₀ m main hostOps0 hostOps0_sub hostOps0_fresh main_chain

theorem defs₀_row (t : Fin cfg0.N) :
    defs₀ (F := Ideal) .tc cfg0.body (cfg0.bodyArgs t (cfg0.slots t)) = bodyAt0 t := by
  unfold defs₀; rw [Defs.onTc_tc]

/-- The staged inputs hold their blocks when the body is entered, for any proof data that leave them in place. -/
theorem before_0 {c : Dev nD} (dat : Dat τ (Elt Ideal) Unit ℕ (Pipeline.UD sig nD τ) ℕ cfg0 c) (hA : dat.A 0 = Gen.V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt Ideal) Unit ℕ (Pipeline.UD sig nD τ) ℕ cfg0 c) (hA : dat.A 1 = Gen.V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt Ideal) Unit ℕ (Pipeline.UD sig nD τ) ℕ cfg0 c) (hA : dat.A 2 = Gen.V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Only the output window is held to a predicate. -/
def fgt0 : Fin 4 → Bool := ![false, false, false, true]

/-! ## The proof data -/

/-- The invariant before point `n`: the scratch buffers hold what the points before left. -/
def PhiV (c : Dev nD) (n : ℕ) : sProp 𝕄 :=
  iprop(iprop(iprop(∃ f9 f10 f11 f12 f16 f17 f18 f19, mpt c sM9 f9 ∗ mpt c sM10 f10 ∗ mpt c sM11 f11 ∗ mpt c sM12 f12 ∗ mpt c sM16 f16 ∗ mpt c sM17 f17 ∗ mpt c sM18 f18 ∗ mpt c sM19 f19 ∗ ⌜HeldAt m c n f9 f10 f11 f12 f16 f17 f18 f19⌝) ∗ own c sM13 ∗ own c sM14 ∗ own c sM15)
          ∗ (∃ r, prngReg c r)
          ∗ iprop(semVal ((c : Thread nD τ), SemLoc.dma 8) 0 ∗ semVal ((c : Thread nD τ), SemLoc.dma 9) 0 ∗ semVal ((c : Thread nD τ), SemLoc.dma 10) 0)
          ∗ iprop(hpt c hM2 (Gen.V m c main_v4) ∗ hpt c hM3 (Gen.V m c main_v5) ∗ hpt c hM4 (Gen.V m c main_v6)))

theorem phi_in (c : Dev nD) : (Pipeline.ΦD osem0 spec0 H0 (Gen.V m) c : sProp 𝕄) ⊢ PhiV m c 0 := by
  rw [PhiD0_eq]
  unfold PhiV
  iintro ⟨⟨⟨%f9, H9⟩, ⟨%f10, H10⟩, ⟨%f11, H11⟩, ⟨%f12, H12⟩, H13, H14, H15, ⟨%f16, H16⟩, ⟨%f17, H17⟩, ⟨%f18, H18⟩, ⟨%f19, H19⟩⟩, Hg, Hq, Hh⟩
  isplitl [H9 H10 H11 H12 H13 H14 H15 H16 H17 H18 H19]
  · isplitl [H9 H10 H11 H12 H16 H17 H18 H19]
    · iexists f9; iexists f10; iexists f11; iexists f12; iexists f16; iexists f17; iexists f18; iexists f19
      isplitl [H9]; · iexact H9
      isplitl [H10]; · iexact H10
      isplitl [H11]; · iexact H11
      isplitl [H12]; · iexact H12
      isplitl [H16]; · iexact H16
      isplitl [H17]; · iexact H17
      isplitl [H18]; · iexact H18
      isplitl [H19]; · iexact H19
      ipureintro
      exact fun h => absurd rfl h
    isplitl [H13]; · iexact H13
    isplitl [H14]; · iexact H14
    iexact H15
  isplitl [Hg]; · iexact Hg
  isplitl [Hq]; · iexact Hq
  iexact Hh

theorem phi_out (c : Dev nD) (n : ℕ) : PhiV m c n ⊢ (Pipeline.ΦD osem0 spec0 H0 (Gen.V m) c : sProp 𝕄) := by
  rw [PhiD0_eq]
  unfold PhiV
  iintro ⟨⟨⟨%f9, %f10, %f11, %f12, %f16, %f17, %f18, %f19, H9, H10, H11, H12, H16, H17, H18, H19, -⟩, H13, H14, H15⟩, Hg, Hq, Hh⟩
  isplitl [H9 H10 H11 H12 H13 H14 H15 H16 H17 H18 H19]
  · isplitl [H9]; · iexists f9; iexact H9
    isplitl [H10]; · iexists f10; iexact H10
    isplitl [H11]; · iexists f11; iexact H11
    isplitl [H12]; · iexists f12; iexact H12
    isplitl [H13]; · iexact H13
    isplitl [H14]; · iexact H14
    isplitl [H15]; · iexact H15
    isplitl [H16]; · iexists f16; iexact H16
    isplitl [H17]; · iexists f17; iexact H17
    isplitl [H18]; · iexists f18; iexact H18
    iexists f19; iexact H19
  isplitl [Hg]; · iexact Hg
  isplitl [Hq]; · iexact Hq
  iexact Hh

/-- The arrays as the region finds them, the inputs' staging buffers at their blocks, nothing owed, full shares. -/
def datV (c : Dev nD) : Dat τ (Elt Ideal) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := PhiV m c t.val
  q _ := fullShare
  owed _ := 0

/-- What the body leaves in the output's staging buffer: past the head's first point, the tile of the group before. -/
def Rl (c : Dev nD) : (w : Fin cfg0.W) → Fin cfg0.N → ((cfg0.win w).block.Idx → Elt Ideal (cfg0.win w).elt) → Prop
  | ⟨3, _⟩, t, X => t.val % 33 ≠ 0 → X = outT m c t
  | _, _, _ => True

def bodyPre (c : Dev nD) (t : Fin cfg0.N) : sProp 𝕄 :=
  iprop((datV m c).Φ t.castSucc ∗ (datV m c).owesAt () t.castSucc
    ∗ (∃ d, owns (c : Thread nD τ) (st0_0 t) fullShare ((datV m c).before 0 t d))
    ∗ (∃ d, owns (c : Thread nD τ) (st0_1 t) fullShare ((datV m c).before 1 t d))
    ∗ (∃ d, owns (c : Thread nD τ) (st0_2 t) fullShare ((datV m c).before 2 t d))
    ∗ (∃ Y, ⌜((datV m c).toRRel fgt0 (Rl m c)).Finds 3 t Y⌝ ∗ owns (c : Thread nD τ) (st0_3 t) fullShare Y))
def bodyPost (c : Dev nD) (t : Fin cfg0.N) : sProp 𝕄 :=
  iprop((datV m c).Φ t.succ ∗ (datV m c).owesAt () t.succ
    ∗ owns (c : Thread nD τ) (st0_0 t) fullShare ((datV m c).after 0 t)
    ∗ owns (c : Thread nD τ) (st0_1 t) fullShare ((datV m c).after 1 t)
    ∗ owns (c : Thread nD τ) (st0_2 t) fullShare ((datV m c).after 2 t)
    ∗ (∃ X, ⌜Rl m c 3 t X⌝ ∗ owns (c : Thread nD τ) (st0_3 t) fullShare X))

set_option maxHeartbeats 8000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (datV m c).Φ t.succ = PhiV m c (t.val + 1) from rfl, show (datV m c).Φ t.castSucc = PhiV m c t.val from rfl]
  unfold PhiV
  unfold Dat.owesAt Pipeline.owesWithin
  rw [show (datV m c).owed t.castSucc = 0 from rfl, show (datV m c).owed t.succ = 0 from rfl]
  simp only [before_0 m (datV m c) rfl (fun _ => rfl), before_1 m (datV m c) rfl (fun _ => rfl), before_2 m (datV m c) rfl (fun _ => rfl)]
  rw [show (datV m c).after 0 t = iblk m c 0 t from rfl, show (datV m c).after 1 t = iblk m c 1 t from rfl, show (datV m c).after 2 t = iblk m c 2 t from rfl]
  unfold owns
  iintro ⟨⟨⟨⟨%f9, %f10, %f11, %f12, %f16, %f17, %f18, %f19, H9, H10, H11, H12, H16, H17, H18, H19, %hheld⟩, ⟨%f13, H13⟩, ⟨%f14, H14⟩, ⟨%f15, H15⟩⟩, Hg, ⟨Hq0, Hq1, Hq2⟩, ⟨Hh2, Hh3, Hh4⟩⟩, ⟨%W, -, HW⟩, ⟨%d0, %f5, %e5, H5⟩, ⟨%d1, %f6, %e6, H6⟩, ⟨%d2, %f7, %e7, H7⟩, ⟨%Y, -, %f8, -, H8⟩⟩
  iapply (bodyAll c (grid0.coords t) _ _ _ _ _ _ _ _ f5 f6 f7 f8 f9 f10 f11 f12 f13 f14 f15 f16 f17 f18 f19 _ _ _ W _ (cond1_iff t))
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [Hq0]; · iexact Hq0
  isplitl [Hq1]; · iexact Hq1
  isplitl [Hq2]; · iexact Hq2
  isplitl [Hh2]; · iexact Hh2
  isplitl [Hh3]; · iexact Hh3
  isplitl [Hh4]; · iexact Hh4
  isplitl [HW]; · iexact HW
  iintro ⟨H5, H6, H7, ⟨%d8, %d9, %d10, %d11, %d12, %d14, %d15, %d16, %d17, %d18, %d19, %k9, %k16, %k17, %k18, %k19, H8, H9, H10, H11, H12, H16, H17, H18, H19, %hb⟩, H13, H14, H15, Hq0, Hq1, Hq2, Hh2, Hh3, Hh4, ⟨%W', HW⟩⟩
  rw [e5, e6, e7] at hb
  have hs := heldStep m c t _ _ _ _ _ _ _ _ _ _ _ _ _ _ _ hheld hb
  isplitl [H9 H10 H11 H12 H13 H14 H15 H16 H17 H18 H19 Hg Hq0 Hq1 Hq2 Hh2 Hh3 Hh4]
  · isplitl [H9 H10 H11 H12 H13 H14 H15 H16 H17 H18 H19]
    · isplitl [H9 H10 H11 H12 H16 H17 H18 H19]
      · iexists d9; iexists d10; iexists d11; iexists d12; iexists d16; iexists d17; iexists d18; iexists d19
        isplitl [H9]; · iexact H9
        isplitl [H10]; · iexact H10
        isplitl [H11]; · iexact H11
        isplitl [H12]; · iexact H12
        isplitl [H16]; · iexact H16
        isplitl [H17]; · iexact H17
        isplitl [H18]; · iexact H18
        isplitl [H19]; · iexact H19
        ipureintro
        exact hs.1
      isplitl [H13]; · iexact H13
      isplitl [H14]; · iexact H14
      iexact H15
    isplitl [Hg]; · iexact Hg
    isplitl [Hq0 Hq1 Hq2]
    · isplitl [Hq0]; · iexact Hq0
      isplitl [Hq1]; · iexact Hq1
      iexact Hq2
    isplitl [Hh2]; · iexact Hh2
    isplitl [Hh3]; · iexact Hh3
    iexact Hh4
  isplitl [HW]
  · iexists W'; isplitr; · ipureintro; exact fun _ _ => Or.inl trivial
    iexact HW
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  iexists _; isplitr; · ipureintro; exact hs.2
  iexists d8; isplitr; · ipureintro; rfl
  iexact H8

theorem body_obligation (c : Dev nD) :
    Pipeline.BodyObligationRel (datV m c) (defs₀ (F := Ideal)) Variants.none () Set.univ fgt0 (Rl m c) := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := Ideal))) (s₀ m ρ)
    (fun r => Pipeline.RDat.FramePost cfg0 (fun c => (datV m c).toRRel fgt0 (Rl m c)) (Gen.V m) r ∧ r.2.sem = fun _ => 0) :=
  Pipeline.RDat.θ_run_frame_dma (Q' := _) cfgs (0 : Fin 1) launch0 osem0 defs₀ Variants.none (fun c => (datV m c).toRRel fgt0 (Rl m c))
    ownSemFacts0 H0 H0_sub m ρ main
    (hbody := fun c => (body_obligation m c).toRRel) (hshare := fun c => (datV m c).share_full fun _ => rfl)
    (howed := fun _ _ => rfl) (V := Gen.V m) (hmain := hmainD m Variants.none) (hA := fun _ _ => rfl)
    (hin := fun c => phi_in m c) (hout := fun c => phi_out m c _)

/-- The argument arrays as the run leaves them, for any relational data over the region-entry contents. -/
theorem args_of (rdat : (c : Dev nD) → Pipeline.RDat τ (Elt Ideal) Unit ℕ (Pipeline.UD sig nD τ) ℕ cfg0 c)
    (hA : ∀ c, (rdat c).A 0 = Gen.V m c (Pipeline.arrRef spec0 0)) (r : PUnit × MemSt nD τ sig (Elt Ideal))
    (h : Pipeline.RDat.FramePost cfg0 rdat (Gen.V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((congrFun (Pipeline.RDat.ArrAt_in (rdat c) 0 rfl _) _).mp ((h c).1 0)).trans ((hA c).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The result array: at batch `B`, row `s`, lane `l` the tile of head `4 B + l / 256`, group `s / 1024`. -/
def outG (c : Dev nD) : FVec Ideal S2x32768x1024 .bf16 := fun y =>
  outT m c (pt (33 * (4 * (y 0).val + (y 2).val / 256) + (y 1).val / 1024 + 1))
    (ix3 (0 : Fin 1) (⟨(y 1).val % 1024, Nat.mod_lt _ (by decide)⟩ : Fin 1024) (⟨(y 2).val % 256, Nat.mod_lt _ (by decide)⟩ : Fin 256))

theorem outG_emb (c : Dev nD) (t : Fin cfg0.N) (ht : t.val % 33 ≠ 0) (y : S1x1024x256.Idx) (z : S2x32768x1024.Idx)
    (h0 : (z 0).val = t.val / 33 / 4) (h1 : (z 1).val = (t.val % 33 - 1) * 1024 + (y 1).val) (h2 : (z 2).val = t.val / 33 % 4 * 256 + (y 2).val) :
    outG m c z = outT m c t y := by
  have hy1 : (y 1).val < 1024 := (y 1).isLt
  have hy2 : (y 2).val < 256 := (y 2).isLt
  have hy0 : (y 0).val < 1 := (y 0).isLt
  have htt : t.val < 264 := Nat.lt_of_lt_of_eq t.isLt N_0
  unfold outG
  have e : pt (33 * (4 * (z 0).val + (z 2).val / 256) + (z 1).val / 1024 + 1) = t := by
    refine Fin.ext ?_
    show (33 * (4 * (z 0).val + (z 2).val / 256) + (z 1).val / 1024 + 1) % 264 = t.val
    rw [h0, h1, h2]
    omega
  rw [e]
  refine congrArg (outT m c t) (funext fun a => Fin.ext ?_)
  fin_cases a
  · show 0 = (y 0).val
    omega
  · show (z 1).val % 1024 = (y 1).val
    omega
  · show (z 2).val % 256 = (y 2).val
    omega

theorem flush3' : ∀ t : Fin cfg0.N, t.val % 33 ≠ 0 → win0_3.flush t = true :=
  (by decide +kernel : ∀ t : Fin grid0.N, t.val % 33 ≠ 0 → win0_3.flush t = true)

theorem arr3 (c : Dev nD) (after : (w' : Fin cfg0.W) → Fin cfg0.N → (cfg0.win w').block.Idx → Elt Ideal (cfg0.win w').elt)
    (h : ∀ t : Fin cfg0.N, t.val % 33 ≠ 0 → after 3 t = outT m c t) :
    (((datV m c).toRRel fgt0 (Rl m c)).withAfter after).arrAt 3 cfg0.N = outG m c := by
  refine Dat.arrAt_eq_of_covers _ 3 _ covers3 fun t hf y => ?_
  have ht : t.val % 33 ≠ 0 := flush3 t hf
  blk_simp
  refine (congrFun (h t ht) y).trans (outG_emb m c t ht _ _ ?_ ?_ ?_).symm
  · blk_simp [idx3]
  · blk_simp [idx3]
  · blk_simp [idx3]

/-- THE RUN: it terminates without a fault, the argument arrays end unchanged, the result array holds `outG`, and every
    semaphore counter ends at zero. -/
theorem run : θ_run defs (onTc (τ := τ) (main (F := Ideal))) ⟨m, fun _ => 0, ρ⟩ (fun r => (∀ c : Dev nD,
      r.2.mem ((c.tc : Thread nD τ).loc main_v8) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
      refine ⟨?_, args_of m _ (fun _ => rfl) r h.1 c⟩
      obtain ⟨after, hL, hA⟩ := Pipeline.RDat.FramePost.exists_exact h.1 c
      refine (hA 3).trans (arr3 m c after fun t ht => ?_)
      have hf : win0_3.flush t = true := flush3' t ht
      exact (datV m c).toRRel_leaves (w := 3) rfl (hL 3 t hf) ht, h.2⟩) (run_main m ρ)

end Cert.KernelIdeal.Val

end
-- ==== Proof.ValIn.lean ====
/- The operands the kernel reads, at an index, as reads of the arguments. -/
module

public import proofs.«01_k».proof.Proof.ValHeld
public import Idealize.ShloMosaic.Lib.Pipeline.ValueKit.Point
public import Idealize.ShloMosaic.Lib.Pipeline.ValueKit.Geometry

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ)

/-- The arguments as arrays of numbers. -/
def A0 (c : Dev nD) : FVec Ideal S2x32768x1024 .fp8e4m3 := m ((c.tc : Thread nD τ).loc main_arg0)
def A1 (c : Dev nD) : FVec Ideal S2x16x32768 .f32 := m ((c.tc : Thread nD τ).loc main_arg1)
def A2 (c : Dev nD) : FVec Ideal S2x4x32768x64 .fp8e4m3 := m ((c.tc : Thread nD τ).loc main_arg2)
def A3 (c : Dev nD) : FVec Ideal S2x4x32768 .f32 := m ((c.tc : Thread nD τ).loc main_arg3)
def A4 (c : Dev nD) : FVec Ideal S2x256x32768 .fp8e4m3 := m ((c.tc : Thread nD τ).loc main_arg4)
def A5 (c : Dev nD) : FVec Ideal S2x4x64 .f32 := m ((c.tc : Thread nD τ).loc main_arg5)

theorem v4_at (c : Dev nD) (h : Fin 8) (k : Fin 32768) (d : Fin 64) :
    (Gen.V m c main_v4 : FVec Ideal S8x32768x64 .fp8e4m3) (ix3 h k d)
      = A2 m c (ix4 (⟨h.val / 4, by omega⟩ : Fin 2) (⟨h.val % 4, by omega⟩ : Fin 4) k d) := by
  entry_read
  pointwise
  first
    | rfl
    | exact congrArg (m _) (funext fun a => Fin.ext (by match a with | ⟨0, _⟩ => (first | rfl | exact congrArg (· + _) (Nat.mul_comm _ _)) | ⟨1, _⟩ => (first | rfl | exact congrArg (· + _) (Nat.mul_comm _ _)) | ⟨2, _⟩ => rfl))

theorem v5_at (c : Dev nD) (h : Fin 8) (k : Fin 32768) (d : Fin 128) :
    (Gen.V m c main_v5 : FVec Ideal S8x32768x128 .f32) (ix3 h k d)
      = A3 m c (ix3 (⟨h.val / 4, by omega⟩ : Fin 2) (⟨h.val % 4, by omega⟩ : Fin 4) k) := by
  entry_read
  pointwise
  first
    | rfl
    | exact congrArg (m _) (funext fun a => Fin.ext (by match a with | ⟨0, _⟩ => (first | rfl | exact congrArg (· + _) (Nat.mul_comm _ _)) | ⟨1, _⟩ => (first | rfl | exact congrArg (· + _) (Nat.mul_comm _ _)) | ⟨2, _⟩ => rfl))

theorem v6_at (c : Dev nD) (h : Fin 8) (d : Fin 64) (k : Fin 32768) :
    (Gen.V m c main_v6 : FVec Ideal S8x64x32768 .fp8e4m3) (ix3 h d k)
      = A4 m c (ix3 (⟨h.val / 4, by omega⟩ : Fin 2) (⟨64 * (h.val % 4) + d.val, by omega⟩ : Fin 256) k) := by
  entry_read
  pointwise
  first
    | rfl
    | exact congrArg (m _) (funext fun a => Fin.ext (by match a with | ⟨0, _⟩ => (first | rfl | exact congrArg (· + _) (Nat.mul_comm _ _)) | ⟨1, _⟩ => (first | rfl | exact congrArg (· + _) (Nat.mul_comm _ _)) | ⟨2, _⟩ => rfl))

theorem v3_at (c : Dev nD) (h : Fin 8) (d : Fin 64) (l : Fin 128) :
    (Gen.V m c main_v3 : FVec Ideal S8x64x128 .f32) (ix3 h d l)
      = A5 m c (ix3 (⟨h.val / 4, by omega⟩ : Fin 2) (⟨h.val % 4, by omega⟩ : Fin 4) d) := by
  entry_read
  pointwise
  first
    | rfl
    | exact congrArg (m _) (funext fun a => Fin.ext (by match a with | ⟨0, _⟩ => (first | rfl | exact congrArg (· + _) (Nat.mul_comm _ _)) | ⟨1, _⟩ => (first | rfl | exact congrArg (· + _) (Nat.mul_comm _ _)) | ⟨2, _⟩ => rfl))

theorem v7_at (c : Dev nD) (B : Fin 2) (G g : Fin 4) (s : Fin 32768) :
    (Gen.V m c main_v7 : FVec Ideal S2x4x4x32768 .f32) (ix4 B G g s)
      = A1 m c (ix3 B (⟨4 * G.val + g.val, by omega⟩ : Fin 16) s) := by
  entry_read
  pointwise
  first
    | rfl
    | exact congrArg (m _) (funext fun a => Fin.ext (by match a with | ⟨0, _⟩ => (first | rfl | exact congrArg (· + _) (Nat.mul_comm _ _)) | ⟨1, _⟩ => (first | rfl | exact congrArg (· + _) (Nat.mul_comm _ _)) | ⟨2, _⟩ => rfl))

theorem x5_at (c : Dev nD) (t : Fin cfg0.N) (h : t.val % 33 < 32) (r : Fin 1024) (l : Fin 256) :
    X5 m c t (ix3 (0 : Fin 1) r l)
      = A0 m c (ix3 (⟨t.val / 33 / 4, by have := Nat.lt_of_lt_of_eq t.isLt N_0; omega⟩ : Fin 2) (⟨t.val % 33 * 1024 + r.val, by omega⟩ : Fin 32768)
          (⟨256 * (t.val / 33 % 4) + l.val, by omega⟩ : Fin 1024)) := by
  unfold X5 A0
  rw [← V_main_arg0 m c]
  have hN := Nat.lt_of_lt_of_eq t.isLt N_0
  blk_ext [iblk, idx0]

theorem x6_at (c : Dev nD) (t : Fin cfg0.N) (h : t.val % 33 < 32) (g : Fin 4) (r : Fin 1024) :
    X6 m c t (ix4 (0 : Fin 1) (0 : Fin 1) g r)
      = A1 m c (ix3 (⟨t.val / 33 / 4, by have := Nat.lt_of_lt_of_eq t.isLt N_0; omega⟩ : Fin 2) (⟨4 * (t.val / 33 % 4) + g.val, by omega⟩ : Fin 16) (⟨t.val % 33 * 1024 + r.val, by omega⟩ : Fin 32768)) := by
  refine Eq.trans ?_ (v7_at m c (⟨t.val / 33 / 4, by have := Nat.lt_of_lt_of_eq t.isLt N_0; omega⟩ : Fin 2) (⟨t.val / 33 % 4, by omega⟩ : Fin 4) g (⟨t.val % 33 * 1024 + r.val, by omega⟩ : Fin 32768))
  unfold X6
  have hN := Nat.lt_of_lt_of_eq t.isLt N_0
  blk_ext [iblk, idx1]

theorem x7_at (c : Dev nD) (t : Fin cfg0.N) (d : Fin 64) (l : Fin 128) :
    X7 m c t (ix3 (0 : Fin 1) d l)
      = A5 m c (ix3 (⟨t.val / 33 / 4, by have := Nat.lt_of_lt_of_eq t.isLt N_0; omega⟩ : Fin 2) (⟨t.val / 33 % 4, by omega⟩ : Fin 4) d) := by
  refine Eq.trans ?_ (v3_at m c (⟨t.val / 33, by have := Nat.lt_of_lt_of_eq t.isLt N_0; omega⟩ : Fin 8) d l)
  unfold X7
  have hN := Nat.lt_of_lt_of_eq t.isLt N_0
  blk_ext [iblk, idx2]

end Cert.KernelIdeal.Val

end
-- ==== Proof.ValEq.lean ====
module

public import Idealize.ShloMosaic.PureOps.Ideal.Laws

@[expose] public section

noncomputable section

namespace Cert.KernelIdeal.Val

open Idealize.ShloMosaic

/-! ## The weights of a row: base two with a shift, base e without -/

/-- The shift: eight over the factor below the greatest score. -/
theorem shift_real (x cn d : ℝ) (hc : 0 < cn) (hd : 8 ≤ d) : max (((x : ℝ) : EReal) - Ideal.div (8 : ℝ) (cn : ℝ)) ((x : EReal) - Ideal.div (d : ℝ) (cn : ℝ)) = ((x - 8 / cn : ℝ) : EReal) := by
  have h0 : ((cn : ℝ) : EReal) ≠ 0 := by exact_mod_cast hc.ne'
  have hdiv : ∀ z : ℝ, Ideal.div (z : ℝ) (cn : ℝ) = ((z / cn : ℝ) : EReal) := by
    intro z
    unfold Ideal.div
    rw [if_neg h0, ← EReal.coe_inv, ← EReal.coe_mul, div_eq_mul_inv]
  rw [hdiv, hdiv, ← EReal.coe_sub, ← EReal.coe_sub]
  refine max_eq_left ?_
  have : 8 / cn ≤ d / cn := div_le_div_of_nonneg_right hd hc.le
  exact_mod_cast (by linarith : x - d / cn ≤ x - 8 / cn)

/-- The weight with the shift is 256 times the weight without. -/
theorem weight_eq (s mx M : EReal) (c d : ℝ) (hc : 0 < c) (hd : 8 ≤ d) (hs : s ≤ mx)
    (hM : M = max (mx - Ideal.div (8 : ℝ) ((c * (Real.log 2)⁻¹ : ℝ) : EReal)) (mx - Ideal.div (d : ℝ) ((c * (Real.log 2)⁻¹ : ℝ) : EReal))) :
    ∃ p : ℝ, 0 ≤ p ∧ p ≤ 1 ∧ Ideal.exp (s * (c : ℝ) - mx * (c : ℝ)) = (p : EReal) ∧ Ideal.exp2 ((s - M) * ((c * (Real.log 2)⁻¹ : ℝ) : EReal)) = ((256 * p : ℝ) : EReal) := by
  have hl : 0 < Real.log 2 := Real.log_pos (by norm_num)
  have hcn : 0 < c * (Real.log 2)⁻¹ := mul_pos hc (inv_pos.mpr hl)
  have hcE : (0 : EReal) < ((c * (Real.log 2)⁻¹ : ℝ) : EReal) := by exact_mod_cast hcn
  have hcE' : (0 : EReal) < (c : EReal) := by exact_mod_cast hc
  have hdiv : ∀ z : ℝ, Ideal.div (z : ℝ) ((c * (Real.log 2)⁻¹ : ℝ) : EReal) = ((z / (c * (Real.log 2)⁻¹) : ℝ) : EReal) := by
    intro z
    unfold Ideal.div
    rw [if_neg hcE.ne', ← EReal.coe_inv, ← EReal.coe_mul, div_eq_mul_inv]
  have zero : Ideal.exp ⊥ = ((0 : ℝ) : EReal) := rfl
  have zero2 : Ideal.exp2 ⊥ = ((256 * 0 : ℝ) : EReal) := by rw [mul_zero]; rfl
  induction mx with
  | bot =>
    obtain rfl : s = ⊥ := le_bot_iff.mp hs
    refine ⟨0, le_rfl, zero_le_one, ?_, ?_⟩
    · rw [EReal.bot_mul_of_pos hcE', EReal.bot_sub, zero]
    · rw [EReal.bot_sub, EReal.bot_mul_of_pos hcE, zero2]
  | top =>
    have hMt : M = ⊤ := by
      rw [hM, hdiv, EReal.top_sub_coe, max_eq_left le_top]
    refine ⟨0, le_rfl, zero_le_one, ?_, ?_⟩
    · rw [EReal.top_mul_of_pos hcE', EReal.sub_top, zero]
    · rw [hMt, EReal.sub_top, EReal.bot_mul_of_pos hcE, zero2]
  | coe x =>
    rw [shift_real x _ d hcn hd] at hM
    induction s with
    | bot =>
      refine ⟨0, le_rfl, zero_le_one, ?_, ?_⟩
      · rw [EReal.bot_mul_of_pos hcE', EReal.bot_sub, zero]
      · rw [EReal.bot_sub, EReal.bot_mul_of_pos hcE, zero2]
    | top => exact absurd hs (not_le.mpr (EReal.coe_lt_top x))
    | coe y =>
      have hyx : y ≤ x := by exact_mod_cast hs
      refine ⟨Real.exp (y * c - x * c), (Real.exp_pos _).le, Real.exp_le_one_iff.mpr (by nlinarith), ?_, ?_⟩
      · rw [← EReal.coe_mul, ← EReal.coe_mul, ← EReal.coe_sub]
        rfl
      · rw [hM, ← EReal.coe_sub, ← EReal.coe_mul]
        show ((Real.rpow 2 _ : ℝ) : EReal) = _
        refine congrArg ((↑) : ℝ → EReal) ?_
        have e : (y - (x - 8 / (c * (Real.log 2)⁻¹))) * (c * (Real.log 2)⁻¹) = 8 + (y * c - x * c) * (Real.log 2)⁻¹ := by
          field_simp
          ring
        rw [e]
        show (2 : ℝ) ^ (8 + (y * c - x * c) * (Real.log 2)⁻¹) = _
        rw [Real.rpow_add (by norm_num)]
        have h8 : (2 : ℝ) ^ (8 : ℝ) = 256 := by
          rw [show (8 : ℝ) = ((8 : ℕ) : ℝ) by norm_num, Real.rpow_natCast]
          norm_num
        rw [h8, Real.rpow_def_of_pos (by norm_num)]
        congr 2
        field_simp

/-- A weight times 256 lies within the range of the codes. -/
theorem clamp_eq (p : ℝ) (h0 : 0 ≤ p) (h1 : p ≤ 1) : min (max ((p : EReal) * (256 : ℝ)) ((-448 : ℝ) : EReal)) ((448 : ℝ) : EReal) = ((256 * p : ℝ) : EReal) := by
  rw [← EReal.coe_mul, mul_comm p, max_eq_left, min_eq_left]
  · exact_mod_cast (by linarith : 256 * p ≤ 448)
  · exact_mod_cast (by linarith : (-448 : ℝ) ≤ 256 * p)

/-- The quotient by the sum of the weights with the shift. -/
theorem quot_eq (l : ℝ) (hl : 0 ≤ l) : Ideal.div 1 ((256 * l : ℝ) : EReal) = Ideal.div ((1 / 256 : ℝ) : EReal) (l : EReal) := by
  unfold Ideal.div
  rcases hl.eq_or_lt with h | h
  · subst h
    rw [mul_zero, EReal.coe_zero, if_pos rfl, if_pos rfl, if_pos zero_lt_one, if_pos]
    exact_mod_cast (by norm_num : (0 : ℝ) < 1 / 256)
  · rw [if_neg (by exact_mod_cast (by positivity : (256 * l : ℝ) ≠ 0)), if_neg (by exact_mod_cast h.ne'), one_mul, ← EReal.coe_inv, ← EReal.coe_inv, ← EReal.coe_mul]
    congr 1
    rw [mul_inv]
    ring

/-- The least factor is below a scale's factor. -/
theorem factor_eq (q : EReal) (κ : EReal) (hκ : κ = ((1 / 8 * (Real.log 2)⁻¹ : ℝ) : EReal)) (h1 : (((2 : ℝ) ^ (-121 : ℤ) : ℝ) : EReal) ≤ q) (h2 : q < ⊤) :
    ∃ c : ℝ, 0 < c ∧ q * ((1 / 8 : ℝ) : EReal) = (c : EReal) ∧ max (q * κ) (((2 : ℝ) ^ (-124 : ℤ) : ℝ) : EReal) = ((c * (Real.log 2)⁻¹ : ℝ) : EReal) := by
  induction q with
  | bot => exact absurd h1 (not_le.mpr (EReal.bot_lt_coe _))
  | top => exact absurd h2 (lt_irrefl _)
  | coe q =>
    have hq : (2 : ℝ) ^ (-121 : ℤ) ≤ q := by exact_mod_cast h1
    have h2p : (0 : ℝ) < (2 : ℝ) ^ (-121 : ℤ) := by positivity
    have hq0 : 0 < q := lt_of_lt_of_le h2p hq
    have hl : 0 < Real.log 2 := Real.log_pos (by norm_num)
    have hl1 : Real.log 2 ≤ 1 := by
      have := Real.log_le_sub_one_of_pos (show (0 : ℝ) < 2 by norm_num)
      linarith
    refine ⟨q * (1 / 8), by positivity, by rw [← EReal.coe_mul], ?_⟩
    rw [hκ, ← EReal.coe_mul, max_eq_left, mul_assoc]
    refine EReal.coe_le_coe_iff.mpr ?_
    have e : (2 : ℝ) ^ (-124 : ℤ) = (2 : ℝ) ^ (-121 : ℤ) * (1 / 8) := by
      rw [show (-124 : ℤ) = -121 + -3 by norm_num, zpow_add₀ (by norm_num)]
      norm_num
    rw [e]
    have hi : 1 ≤ (Real.log 2)⁻¹ := (one_le_inv₀ hl).mpr hl1
    have h3 : q * (1 / 8 * (Real.log 2)⁻¹) = q * (1 / 8) * (Real.log 2)⁻¹ := by ring
    have h4 : q * (1 / 8) ≤ q * (1 / 8) * (Real.log 2)⁻¹ := le_mul_of_one_le_right (by positivity) hi
    rw [h3]
    exact (mul_le_mul_of_nonneg_right hq (by norm_num)).trans h4

/-- The greatest of the scores times a positive number. -/
theorem sup_mul {n : ℕ} [NeZero n] (s : Fin n → EReal) (c : ℝ) (hc : 0 < c) : (⨆ r, s r * (c : EReal)) = (⨆ r, s r) * (c : EReal) := by
  have hcE : (0 : EReal) ≤ (c : EReal) := by exact_mod_cast hc.le
  obtain ⟨r0, h0⟩ := exists_eq_ciSup_of_finite (f := s)
  refine le_antisymm (iSup_le fun r => mul_le_mul_of_nonneg_right (le_iSup s r) hcE) ?_
  rw [← h0]
  exact le_iSup (fun r => s r * (c : EReal)) r0

theorem coe_sum {n : ℕ} (f : Fin n → ℝ) : ∑ r, ((f r : ℝ) : EReal) = ((∑ r, f r : ℝ) : EReal) := by
  refine Finset.induction_on (Finset.univ : Finset (Fin n)) ?_ fun a t ha ih => ?_
  · rw [Finset.sum_empty, Finset.sum_empty, EReal.coe_zero]
  · rw [Finset.sum_insert ha, Finset.sum_insert ha, ih, EReal.coe_add]

/-- THE EQUATION of one element: the products and sums of shifted weights against the plain softmax with its codes. -/
theorem attn_eq {n : ℕ} [NeZero n] (s v : Fin n → EReal) (vs q κ : EReal) (d : ℝ) (hd : 8 ≤ d) (hκ : κ = ((1 / 8 * (Real.log 2)⁻¹ : ℝ) : EReal))
    (h1 : (((2 : ℝ) ^ (-121 : ℤ) : ℝ) : EReal) ≤ q) (h2 : q < ⊤) (cn M : EReal) (hcn : cn = max (q * κ) (((2 : ℝ) ^ (-124 : ℤ) : ℝ) : EReal))
    (hM : M = max ((⨆ r, s r) - Ideal.div (8 : ℝ) cn) ((⨆ r, s r) - Ideal.div (d : ℝ) cn)) (sr : Fin n → EReal) (hsr : ∀ r, sr r = s r * (q * ((1 / 8 : ℝ) : EReal))) :
    ((∑ r, v r * Ideal.exp2 ((s r - M) * cn)) * vs) * Ideal.div 1 (∑ r, Ideal.exp2 ((s r - M) * cn))
      = ((∑ r, v r * min (max (Ideal.exp (sr r - ⨆ r, sr r) * (256 : ℝ)) ((-448 : ℝ) : EReal)) ((448 : ℝ) : EReal)) * vs) * Ideal.div ((1 / 256 : ℝ) : EReal) (∑ r, Ideal.exp (sr r - ⨆ r, sr r)) := by
  obtain ⟨c, hc, hq, hf⟩ := factor_eq q κ hκ h1 h2
  rw [hf] at hcn
  subst hcn
  have hsr' : sr = fun r => s r * (c : EReal) := funext fun r => by rw [hsr, hq]
  subst hsr'
  rw [sup_mul s c hc]
  have hw : ∀ r, ∃ p : ℝ, 0 ≤ p ∧ p ≤ 1 ∧ Ideal.exp (s r * (c : ℝ) - (⨆ r, s r) * (c : ℝ)) = (p : EReal) ∧ Ideal.exp2 ((s r - M) * ((c * (Real.log 2)⁻¹ : ℝ) : EReal)) = ((256 * p : ℝ) : EReal) :=
    fun r => weight_eq (s r) (⨆ r, s r) M c d hc hd (le_iSup s r) hM
  choose p hp0 hp1 he he2 using hw
  simp only [he, he2, clamp_eq _ (hp0 _) (hp1 _)]
  congr 1
  have e1 : ∑ r, ((256 * p r : ℝ) : EReal) = ((256 * ∑ r, p r : ℝ) : EReal) := by
    rw [Finset.mul_sum, coe_sum]
  have e2 : ∑ r, ((p r : ℝ) : EReal) = ((∑ r, p r : ℝ) : EReal) := by
    rw [coe_sum]
  rw [e1, e2, quot_eq _ (Finset.sum_nonneg fun r _ => hp0 r)]

end Cert.KernelIdeal.Val

end
-- ==== Proof.ValRes.lean ====
/- A tile element of the kernel's result as one softmax row over the keys, and its agreement with the reference's. -/
module

public import proofs.«01_k».proof.Proof.ValIn
public import proofs.«01_k».proof.Proof.ValEq

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)

/-! ## Constants -/

theorem k256 : Ideal.ofBits .f32 0x43800000#32 = ((256 : ℝ) : EReal) := by simp [Ideal.ofBits, Ideal.ieee]; norm_num; rw [← EReal.coe_mul]; norm_num
theorem kn448 : Ideal.ofBits .f32 0xC3E00000#32 = ((-448 : ℝ) : EReal) := by simp [Ideal.ofBits, Ideal.ieee]; norm_num; rw [← EReal.coe_mul]; norm_num
theorem k448 : Ideal.ofBits .f32 0x43E00000#32 = ((448 : ℝ) : EReal) := by simp [Ideal.ofBits, Ideal.ieee]; norm_num; rw [← EReal.coe_mul]; norm_num
theorem k1_256 : Ideal.ofBits .f32 0x3B800000#32 = ((1 / 256 : ℝ) : EReal) := by simp [Ideal.ofBits, Ideal.ieee]; norm_num; rw [← EReal.coe_mul]; norm_num
theorem k1_8 : Ideal.ofBits .f32 0x3E000000#32 = ((1 / 8 : ℝ) : EReal) := by simp [Ideal.ofBits, Ideal.ieee]; norm_num; rw [← EReal.coe_mul]; norm_num
theorem kc8 : c8 = ((8 : ℝ) : EReal) := by unfold c8; simp [Ideal.ofBits, Ideal.ieee]; norm_num; rw [← EReal.coe_mul]; norm_num
theorem kc88 : ∃ d : ℝ, 8 ≤ d ∧ c88 = (d : EReal) := by
  refine ⟨9235181 / 1048576, by norm_num, ?_⟩
  unfold c88; simp [Ideal.ofBits, Ideal.ieee]; norm_num; rw [← EReal.coe_mul]; norm_num
theorem kcLo : cLo = (((2 : ℝ) ^ (-124 : ℤ) : ℝ) : EReal) := by unfold cLo; simp [Ideal.ofBits, Ideal.ieee]; norm_num; rw [← EReal.coe_mul]; norm_num
theorem kq121 : Ideal.ofBits .f32 0x03000000#32 = (((2 : ℝ) ^ (-121 : ℤ) : ℝ) : EReal) := by simp [Ideal.ofBits, Ideal.ieee]; norm_num; rw [← EReal.coe_mul]; norm_num
theorem kinf : Ideal.ofBits .f32 0x7F800000#32 = (⊤ : EReal) := by simp [Ideal.ofBits, Ideal.ieee]

/-! ## Sums over the keys -/

theorem sum_row (f : Fin 32768 → EReal) : ∑ r ∈ Finset.range 32768, f (row r) = ∑ k, f k := by
  rw [Finset.sum_range]
  exact Finset.sum_congr rfl fun k _ => by rw [row_val]

/-- The eight sublanes' sums, every eighth key each, are the sum over the keys. -/
theorem sum_sub (f : Fin 32768 → EReal) : ∑ a : Fin 8, ∑ j ∈ Finset.range 4096, f (row (8 * j + a.val)) = ∑ k, f k := by
  rw [Finset.sum_comm, Finset.sum_range]
  rw [← Fintype.sum_prod_type' (f := fun (j : Fin 4096) (a : Fin 8) => f (row (8 * j.val + a.val)))]
  refine Fintype.sum_equiv (finProdFinEquiv : Fin 4096 × Fin 8 ≃ Fin 32768) _ _ fun x => congrArg f (Fin.ext ?_)
  show (8 * x.1.val + x.2.val) % 32768 = x.2.val + 8 * x.1.val
  omega

/-! ## An element of a tile -/

theorem out_closed (X : FVec Ideal S1x64x128 .f32) (K : FVec Ideal S32768x64 .fp8e4m3) (A : FVec Ideal S32768x128 .f32) (V : FVec Ideal S64x32768 .fp8e4m3)
    (q : FVec Ideal S16x256x64 .fp8e4m3) (cc : FVec Ideal S16x8x256 .f32) (r : Fin 1024) (l : Fin 256) (z : Fin 16) (d : Fin 64) (b : Fin 256)
    (hz : z.val = 4 * (r.val / 256) + l.val / 64) (hd : d.val = l.val % 64) (hb : b.val = r.val % 256)
    (s v : Fin 32768 → EReal) (vs cn : EReal) (hs : ∀ k, scF K A (qB q z) k b = s k) (hv : ∀ k, V (ix2 d k) = v k)
    (hvs : X (ix3 (0 : Fin 1) d (⟨r.val % 128, by omega⟩ : Fin 128)) = vs) (hcn : ∀ a : Fin 8, cc (ix3 z a b) = cn) :
    outAt X (Ofull K A V q cc) (Lfull K A q cc) r l
      = ((∑ k, v k * Ideal.exp2 ((s k - shF (⨆ k, s k) cn) * cn)) * vs) * Ideal.div 1 (∑ k, Ideal.exp2 ((s k - shF (⨆ k, s k) cn) * cn)) := by
  have ez : (⟨4 * (r.val / 256) + l.val / 64, by omega⟩ : Fin 16) = z := Fin.ext hz.symm
  have ed : (⟨l.val % 64, by omega⟩ : Fin 64) = d := Fin.ext hd.symm
  have eb : (⟨r.val % 256, by omega⟩ : Fin 256) = b := Fin.ext hb.symm
  have hp : ∀ k : Fin 32768, pwF (MF K A (qB q z) (cB cc z)) (cB cc z) (SF K A (qB q z)) k b = Ideal.exp2 ((s k - shF (⨆ k, s k) cn) * cn) := by
    intro k
    unfold pwF
    have e1 : cB cc z (ix2 (⟨k.val % 8, by omega⟩ : Fin 8) b) = cn := hcn _
    have e2 : MF K A (qB q z) (cB cc z) (ix2 (⟨k.val % 8, by omega⟩ : Fin 8) b) = shF (⨆ k, s k) cn := by
      show shF (mxF K A (qB q z) b) (cB cc z (ix2 (⟨k.val % 8, by omega⟩ : Fin 8) b)) = _
      rw [e1]
      exact congrArg (fun y => shF y cn) (iSup_congr hs)
    have e3 : SF K A (qB q z) (ix2 k b) = s k := hs k
    rw [e1, e2, e3]
  have hO : Ofull K A V q cc (ix3 z d b) = ∑ k, v k * Ideal.exp2 ((s k - shF (⨆ k, s k) cn) * cn) := by
    show OF V (MF K A (qB q z) (cB cc z)) (cB cc z) (SF K A (qB q z)) d b = _
    unfold OF
    refine (sum_row fun k => V (ix2 d k) * pwF (MF K A (qB q z) (cB cc z)) (cB cc z) (SF K A (qB q z)) k b).trans ?_
    exact Finset.sum_congr rfl fun k _ => congrArg₂ (· * ·) (hv k) (hp k)
  have hL : ∑ a : Fin 8, Lfull K A q cc (ix3 z a b) = ∑ k, Ideal.exp2 ((s k - shF (⨆ k, s k) cn) * cn) := by
    show ∑ a : Fin 8, LF (MF K A (qB q z) (cB cc z)) (cB cc z) (SF K A (qB q z)) a b = _
    unfold LF
    refine (sum_sub fun k => pwF (MF K A (qB q z) (cB cc z)) (cB cc z) (SF K A (qB q z)) k b).trans ?_
    exact Finset.sum_congr rfl fun k _ => hp k
  unfold outAt
  rw [ez, ed, eb, hO, hL, hvs]

variable (m : (ℓ : Loc nD τ sig) → Buf (Elt Ideal) ℓ)

theorem hd_at (t : Fin cfg0.N) (h : Fin 8) (e : t.val / 33 = h.val) : hd (grid0.coords t) = h := by
  refine Fin.ext ?_
  show (grid0.coords t 0).val = h.val
  rw [coord0, e]

/-- The dot product of key `k` with the query. -/
def dotA (c : Dev nD) (B : Fin 2) (G g : Fin 4) (s k : Fin 32768) : EReal :=
  ∑ d : Fin 64, A2 m c (ix4 B G k d) * A0 m c (ix3 B s (⟨256 * G.val + 64 * g.val + d.val, by omega⟩ : Fin 1024))
/-- A query's scale. -/
def qsA (c : Dev nD) (B : Fin 2) (G g : Fin 4) (s : Fin 32768) : EReal := A1 m c (ix3 B (⟨4 * G.val + g.val, by omega⟩ : Fin 16) s)
def scA (c : Dev nD) (B : Fin 2) (G g : Fin 4) (s k : Fin 32768) : EReal := dotA m c B G g s k * A3 m c (ix3 B G k)
def cnA (c : Dev nD) (B : Fin 2) (G g : Fin 4) (s : Fin 32768) : EReal := max (qsA m c B G g s * cκ) cLo

theorem outT_at (c : Dev nD) (B : Fin 2) (G g : Fin 4) (d : Fin 64) (i : Fin 32) (r : Fin 1024) (s : Fin 32768) (hsr : s.val = 1024 * i.val + r.val) (l : Fin 256) (hl : l.val = 64 * g.val + d.val)
    (t : Fin cfg0.N) (ht : t.val = 33 * (4 * B.val + G.val) + i.val + 1) :
    outT m c t (ix3 (0 : Fin 1) r l)
      = ((∑ k, A4 m c (ix3 B (⟨64 * G.val + d.val, by omega⟩ : Fin 256) k) * Ideal.exp2 ((scA m c B G g s k - shF (⨆ k, scA m c B G g s k) (cnA m c B G g s)) * cnA m c B G g s))
          * A5 m c (ix3 B G d))
        * Ideal.div 1 (∑ k, Ideal.exp2 ((scA m c B G g s k - shF (⨆ k, scA m c B G g s k) (cnA m c B G g s)) * cnA m c B G g s)) := by
  have hN : t.val < 264 := Nat.lt_of_lt_of_eq t.isLt N_0
  have hB := B.isLt; have hG := G.isLt; have hg := g.isLt; have hdd := d.isLt; have hi := i.isLt; have hr := r.isLt
  have hp : (pt (t.val - 1)).val = 33 * (4 * B.val + G.val) + i.val := by
    show (t.val - 1) % 264 = _
    omega
  unfold outT
  generalize pt (t.val - 1) = p at hp
  have hh : hd (grid0.coords p) = (⟨4 * B.val + G.val, by omega⟩ : Fin 8) := hd_at p _ (by show p.val / 33 = 4 * B.val + G.val; omega)
  have hBe : ∀ h : (4 * B.val + G.val) / 4 < 2, (⟨(4 * B.val + G.val) / 4, h⟩ : Fin 2) = B := fun h => Fin.ext (by show (4 * B.val + G.val) / 4 = B.val; omega)
  have hGe : ∀ h : (4 * B.val + G.val) % 4 < 4, (⟨(4 * B.val + G.val) % 4, h⟩ : Fin 4) = G := fun h => Fin.ext (by show (4 * B.val + G.val) % 4 = G.val; omega)
  refine out_closed _ _ _ _ _ _ r l (⟨4 * (r.val / 256) + g.val, by omega⟩ : Fin 16) d (⟨r.val % 256, by omega⟩ : Fin 256)
    (by show 4 * (r.val / 256) + g.val = _; omega) (by omega) rfl _ _ _ _ (fun k => ?_) (fun k => ?_) ?_ (fun a => ?_)
  · unfold scF scA dotA
    refine congrArg₂ (· * ·) (Finset.sum_congr rfl fun e _ => congrArg₂ (· * ·) ?_ ?_) ?_
    · unfold KK
      rw [hh]
      refine (v4_at m c _ k e).trans (congrArg (A2 m c) ?_)
      rw [hBe, hGe]
    · have he := e.isLt
      refine (x5_at m c p (by omega) (⟨256 * ((4 * (r.val / 256) + g.val) / 4) + r.val % 256, by omega⟩ : Fin 1024) (⟨64 * ((4 * (r.val / 256) + g.val) % 4) + e.val, by omega⟩ : Fin 256)).trans (congrArg (A0 m c) (funext fun a => Fin.ext ?_))
      match a with
      | ⟨0, _⟩ => show p.val / 33 / 4 = B.val; omega
      | ⟨1, _⟩ => show p.val % 33 * 1024 + (256 * ((4 * (r.val / 256) + g.val) / 4) + r.val % 256) = s.val; omega
      | ⟨2, _⟩ => show 256 * (p.val / 33 % 4) + (64 * ((4 * (r.val / 256) + g.val) % 4) + e.val) = 256 * G.val + 64 * g.val + e.val; omega
    · unfold AA
      rw [hh]
      refine (v5_at m c _ k _).trans (congrArg (A3 m c) ?_)
      rw [hBe, hGe]
  · unfold VV
    rw [hh]
    refine (v6_at m c _ d k).trans (congrArg (A4 m c) (funext fun a => Fin.ext ?_))
    match a with
    | ⟨0, _⟩ => show (4 * B.val + G.val) / 4 = B.val; omega
    | ⟨1, _⟩ => show 64 * ((4 * B.val + G.val) % 4) + d.val = 64 * G.val + d.val; omega
    | ⟨2, _⟩ => rfl
  · refine (x7_at m c t d _).trans (congrArg (A5 m c) (funext fun a => Fin.ext ?_))
    match a with
    | ⟨0, _⟩ => show t.val / 33 / 4 = B.val; omega
    | ⟨1, _⟩ => show t.val / 33 % 4 = G.val; omega
    | ⟨2, _⟩ => rfl
  · unfold cnA qsA
    refine congrArg (fun y : EReal => max (y * cκ) cLo) ?_
    refine (x6_at m c p (by omega) (⟨(4 * (r.val / 256) + g.val) % 4, by omega⟩ : Fin 4) (⟨256 * ((4 * (r.val / 256) + g.val) / 4) + r.val % 256, by omega⟩ : Fin 1024)).trans (congrArg (A1 m c) (funext fun a => Fin.ext ?_))
    match a with
    | ⟨0, _⟩ => show p.val / 33 / 4 = B.val; omega
    | ⟨1, _⟩ => show 4 * (p.val / 33 % 4) + (4 * (r.val / 256) + g.val) % 4 = 4 * G.val + g.val; omega
    | ⟨2, _⟩ => show p.val % 33 * 1024 + (256 * ((4 * (r.val / 256) + g.val) / 4) + r.val % 256) = s.val; omega

/-- The reference's score of key `k`. -/
def srA (c : Dev nD) (B : Fin 2) (G g : Fin 4) (s k : Fin 32768) : EReal :=
  dotA m c B G g s k * (qsA m c B G g s * Ideal.ofBits .f32 0x3E000000#32) * A3 m c (ix3 B G k)

/-- What the reference computes at the same place. -/
def refA (c : Dev nD) (B : Fin 2) (G g : Fin 4) (d : Fin 64) (s : Fin 32768) : EReal :=
  ((∑ k : Fin 32768, A4 m c (ix3 B (⟨64 * G.val + d.val, by omega⟩ : Fin 256) k)
      * min (max (Ideal.exp (srA m c B G g s k - ⨆ k, srA m c B G g s k) * Ideal.ofBits .f32 0x43800000#32)
        (Ideal.ofBits .f32 0xC3E00000#32)) (Ideal.ofBits .f32 0x43E00000#32)) * A5 m c (ix3 B G d))
    * Ideal.div (Ideal.ofBits .f32 0x3B800000#32) (∑ k, Ideal.exp (srA m c B G g s k - ⨆ k, srA m c B G g s k))

theorem outT_ref (c : Dev nD) (B : Fin 2) (G g : Fin 4) (d : Fin 64) (i : Fin 32) (r : Fin 1024) (s : Fin 32768) (hsr : s.val = 1024 * i.val + r.val) (l : Fin 256) (hl : l.val = 64 * g.val + d.val)
    (t : Fin cfg0.N) (ht : t.val = 33 * (4 * B.val + G.val) + i.val + 1)
    (h1 : Ideal.ofBits .f32 0x03000000#32 ≤ qsA m c B G g s) (h2 : qsA m c B G g s < Ideal.ofBits .f32 0x7F800000#32) :
    outT m c t (ix3 (0 : Fin 1) r l) = refA m c B G g d s := by
  obtain ⟨e, he, hc88⟩ := kc88
  rw [kq121] at h1
  rw [kinf] at h2
  unfold refA
  rw [outT_at m c B G g d i r s hsr l hl t ht, k256, kn448, k448, k1_256]
  refine attn_eq (scA m c B G g s) _ _ (qsA m c B G g s) cκ e he rfl h1 h2 (cnA m c B G g s) _ ?_ ?_ _ fun k => ?_
  · unfold cnA
    rw [kcLo]
  · unfold shF
    rw [kc8, hc88]
  · unfold srA scA
    rw [k1_8]
    exact mul_right_comm _ _ _

end Cert.KernelIdeal.Val

end
-- ==== Proof.RefRun.lean ====
/- The run of the reference program: every execution ends with the result at the composed term of the arguments and of the
   arrays its one region leaves, the arguments unchanged. A copy of the generated module of the same content, with one
   closing step added in `fin_main_v38`. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v0_0` (window 3's): not opened here. -/
def reg_main_v0_0 (c : Dev nD) : Buf (Elt F) ((c.tc : Thread nD τ).loc main_v0_0) := (Gen.dats m 0 c).arrAt 3 cfg0.N
/-- What the kernel region leaves in its result array `main_v0_1` (window 4's): not opened here. -/
def reg_main_v0_1 (c : Dev nD) : Buf (Elt F) ((c.tc : Thread nD τ).loc main_v0_1) := (Gen.dats m 0 c).arrAt 4 cfg0.N
/-- What the kernel region leaves in its result array `main_v0_2` (window 5's): not opened here. -/
def reg_main_v0_2 (c : Dev nD) : Buf (Elt F) ((c.tc : Thread nD τ).loc main_v0_2) := (Gen.dats m 0 c).arrAt 5 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at the region's result array `main_v0_0`. -/
theorem exit_main_v0_0 (c : Dev nD) : exitV m c (Proc.devRef .tc main_v0_0) = reg_main_v0_0 m c :=
  Pipeline.withArrays_arr spec0 Gen.launch0.win.arr_inj c (Gen.V0 m c) _ 3
/-- The exit contents at the region's result array `main_v0_2`. -/
theorem exit_main_v0_2 (c : Dev nD) : exitV m c (Proc.devRef .tc main_v0_2) = reg_main_v0_2 m c :=
  Pipeline.withArrays_arr spec0 Gen.launch0.win.arr_inj c (Gen.V0 m c) _ 5
/-- The exit contents at the region's result array `main_v0_1`. -/
theorem exit_main_v0_1 (c : Dev nD) : exitV m c (Proc.devRef .tc main_v0_1) = reg_main_v0_1 m c :=
  Pipeline.withArrays_arr spec0 Gen.launch0.win.arr_inj c (Gen.V0 m c) _ 4

set_option maxRecDepth 8192 in
/-- `main_v38`'s composed term of the arguments and the region's results (named: it is long). -/
def res_main_v38 (c : Dev nD) : Buf (Elt F) ((c.tc : Thread nD τ).loc main_v38) :=
  truncf .bf16 (shapeCast _ (mulf (mulf (transpose S2x32768x4x4x64 [0, 4, 1, 3, 2] (Host.dotGeneral dot_S2x4x64x32768_S2x4x4x32768x32768_S2x4x64x4x32768_3_4_2_23_01_01 none (shapeCast _ (reg_main_v0_2 m c) shapeCasts_S2x256x32768_S2x4x64x32768) (minimumf (maximumf (mulf (Host.exp (subf (mulf (mulf (transpose S2x4x4x32768x32768 [0, 1, 4, 3, 2] (Host.dotGeneral dot_S2x4x32768x64_S2x32768x4x4x64_S2x4x32768x32768x4_3_4_2_13_01_02 none (reg_main_v0_1 m c) (shapeCast _ (reg_main_v0_0 m c) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (m ((c.tc : Thread nD τ).loc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (m ((c.tc : Thread nD τ).loc main_arg3))))) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (Host.reduce FloatOps.maximumf (mulf (mulf (transpose S2x4x4x32768x32768 [0, 1, 4, 3, 2] (Host.dotGeneral dot_S2x4x32768x64_S2x32768x4x4x64_S2x4x32768x32768x4_3_4_2_13_01_02 none (reg_main_v0_1 m c) (shapeCast _ (reg_main_v0_0 m c) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (m ((c.tc : Thread nD τ).loc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (m ((c.tc : Thread nD τ).loc main_arg3))))) (constant S_ .f32 0xFF800000#32) reducesTo_S2x4x4x32768x32768_S2x4x4x32768_d4 h_S_))))) (broadcastInDim S2x4x4x32768x32768 ![] bcast_S_S2x4x4x32768x32768 (constant S_ .f32 0x43800000#32))) (broadcastInDim S2x4x4x32768x32768 ![] bcast_S_S2x4x4x32768x32768 (constant S_ .f32 0xC3E00000#32))) (broadcastInDim S2x4x4x32768x32768 ![] bcast_S_S2x4x4x32768x32768 (constant S_ .f32 0x43E00000#32)))) transposes_S2x4x64x4x32768_S2x32768x4x4x64_0_4_1_3_2) (broadcastInDim S2x32768x4x4x64 ![0, 1, 2, 3, 4] bcast_S2x1x4x1x64_S2x32768x4x4x64_0_1_2_3_4 (broadcastInDim S2x1x4x1x64 ![0, 2, 4] bcast_S2x4x64_S2x1x4x1x64_0_2_4 (m ((c.tc : Thread nD τ).loc main_arg5))))) (broadcastInDim S2x32768x4x4x64 ![0, 1, 2, 3, 4] bcast_S2x32768x4x4x1_S2x32768x4x4x64_0_1_2_3_4 (broadcastInDim S2x32768x4x4x1 ![0, 1, 2, 3] bcast_S2x32768x4x4_S2x32768x4x4x1_0_1_2_3 (Host.divf (broadcastInDim S2x32768x4x4 ![] bcast_S_S2x32768x4x4 (constant S_ .f32 0x3B800000#32)) (transpose S2x32768x4x4 [0, 3, 1, 2] (Host.reduceAdd (Host.exp (subf (mulf (mulf (transpose S2x4x4x32768x32768 [0, 1, 4, 3, 2] (Host.dotGeneral dot_S2x4x32768x64_S2x32768x4x4x64_S2x4x32768x32768x4_3_4_2_13_01_02 none (reg_main_v0_1 m c) (shapeCast _ (reg_main_v0_0 m c) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (m ((c.tc : Thread nD τ).loc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (m ((c.tc : Thread nD τ).loc main_arg3))))) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (Host.reduce FloatOps.maximumf (mulf (mulf (transpose S2x4x4x32768x32768 [0, 1, 4, 3, 2] (Host.dotGeneral dot_S2x4x32768x64_S2x32768x4x4x64_S2x4x32768x32768x4_3_4_2_13_01_02 none (reg_main_v0_1 m c) (shapeCast _ (reg_main_v0_0 m c) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (m ((c.tc : Thread nD τ).loc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (m ((c.tc : Thread nD τ).loc main_arg3))))) (constant S_ .f32 0xFF800000#32) reducesTo_S2x4x4x32768x32768_S2x4x4x32768_d4 h_S_))))) (constant S_ .f32 0x00000000#32) reducesTo_S2x4x4x32768x32768_S2x4x4x32768_d4 h_S_) transposes_S2x4x4x32768_S2x32768x4x4_0_3_1_2))))) shapeCasts_S2x32768x4x4x64_S2x32768x1024) bitsLt_bf16_f32

/-- `res_main_v38` by its position among the values @main returns, 0 counting from 0: the name for hand proofs to cite, since
    a re-print renumbers `main_v38`. An abbreviation: it unfolds to the `res_main_v38` that `run` states. -/
abbrev res_out0 (c : Dev nD) : Buf (Elt F) ((c.tc : Thread nD τ).loc main_v38) := res_main_v38 m c

set_option maxRecDepth 8192 in
set_option maxHeartbeats 2000000 in
/-- The later operations from any contents `V0`, read at result `main_v38`. -/
theorem tail_main_v38 (V0 : Valuation τ sig (Elt F)) :
    after (List.flatten [Gen.hostOps1]) V0 (Proc.devRef .tc main_v38) = truncf .bf16 (shapeCast _ (mulf (mulf (transpose S2x32768x4x4x64 [0, 4, 1, 3, 2] (Host.dotGeneral dot_S2x4x64x32768_S2x4x4x32768x32768_S2x4x64x4x32768_3_4_2_23_01_01 none (shapeCast _ (V0 (Proc.devRef .tc main_v0_2)) shapeCasts_S2x256x32768_S2x4x64x32768) (minimumf (maximumf (mulf (Host.exp (subf (mulf (mulf (transpose S2x4x4x32768x32768 [0, 1, 4, 3, 2] (Host.dotGeneral dot_S2x4x32768x64_S2x32768x4x4x64_S2x4x32768x32768x4_3_4_2_13_01_02 none (V0 (Proc.devRef .tc main_v0_1)) (shapeCast _ (V0 (Proc.devRef .tc main_v0_0)) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (V0 (Proc.devRef .tc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (V0 (Proc.devRef .tc main_arg3))))) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (Host.reduce FloatOps.maximumf (mulf (mulf (transpose S2x4x4x32768x32768 [0, 1, 4, 3, 2] (Host.dotGeneral dot_S2x4x32768x64_S2x32768x4x4x64_S2x4x32768x32768x4_3_4_2_13_01_02 none (V0 (Proc.devRef .tc main_v0_1)) (shapeCast _ (V0 (Proc.devRef .tc main_v0_0)) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (V0 (Proc.devRef .tc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (V0 (Proc.devRef .tc main_arg3))))) (constant S_ .f32 0xFF800000#32) reducesTo_S2x4x4x32768x32768_S2x4x4x32768_d4 h_S_))))) (broadcastInDim S2x4x4x32768x32768 ![] bcast_S_S2x4x4x32768x32768 (constant S_ .f32 0x43800000#32))) (broadcastInDim S2x4x4x32768x32768 ![] bcast_S_S2x4x4x32768x32768 (constant S_ .f32 0xC3E00000#32))) (broadcastInDim S2x4x4x32768x32768 ![] bcast_S_S2x4x4x32768x32768 (constant S_ .f32 0x43E00000#32)))) transposes_S2x4x64x4x32768_S2x32768x4x4x64_0_4_1_3_2) (broadcastInDim S2x32768x4x4x64 ![0, 1, 2, 3, 4] bcast_S2x1x4x1x64_S2x32768x4x4x64_0_1_2_3_4 (broadcastInDim S2x1x4x1x64 ![0, 2, 4] bcast_S2x4x64_S2x1x4x1x64_0_2_4 (V0 (Proc.devRef .tc main_arg5))))) (broadcastInDim S2x32768x4x4x64 ![0, 1, 2, 3, 4] bcast_S2x32768x4x4x1_S2x32768x4x4x64_0_1_2_3_4 (broadcastInDim S2x32768x4x4x1 ![0, 1, 2, 3] bcast_S2x32768x4x4_S2x32768x4x4x1_0_1_2_3 (Host.divf (broadcastInDim S2x32768x4x4 ![] bcast_S_S2x32768x4x4 (constant S_ .f32 0x3B800000#32)) (transpose S2x32768x4x4 [0, 3, 1, 2] (Host.reduceAdd (Host.exp (subf (mulf (mulf (transpose S2x4x4x32768x32768 [0, 1, 4, 3, 2] (Host.dotGeneral dot_S2x4x32768x64_S2x32768x4x4x64_S2x4x32768x32768x4_3_4_2_13_01_02 none (V0 (Proc.devRef .tc main_v0_1)) (shapeCast _ (V0 (Proc.devRef .tc main_v0_0)) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (V0 (Proc.devRef .tc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (V0 (Proc.devRef .tc main_arg3))))) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (Host.reduce FloatOps.maximumf (mulf (mulf (transpose S2x4x4x32768x32768 [0, 1, 4, 3, 2] (Host.dotGeneral dot_S2x4x32768x64_S2x32768x4x4x64_S2x4x32768x32768x4_3_4_2_13_01_02 none (V0 (Proc.devRef .tc main_v0_1)) (shapeCast _ (V0 (Proc.devRef .tc main_v0_0)) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (V0 (Proc.devRef .tc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (V0 (Proc.devRef .tc main_arg3))))) (constant S_ .f32 0xFF800000#32) reducesTo_S2x4x4x32768x32768_S2x4x4x32768_d4 h_S_))))) (constant S_ .f32 0x00000000#32) reducesTo_S2x4x4x32768x32768_S2x4x4x32768_d4 h_S_) transposes_S2x4x4x32768_S2x32768x4x4_0_3_1_2))))) shapeCasts_S2x32768x4x4x64_S2x32768x1024) bitsLt_bf16_f32 := by
  simp only [Gen.hostOps1, List.flatten_cons, List.flatten_nil, List.append_nil, List.cons_append, List.nil_append]
  after_results_simp <;> rfl
/-- Result `main_v38` after the later operations from the region's exit contents. -/
theorem fin_main_v38 (c : Dev nD) :
    Pipeline.afterTail₀ cfgs (Gen.dats m) 0 (Gen.V0 m) [Gen.hostOps1] c main_v38 = res_main_v38 m c :=
  by unfold res_main_v38; exact (tail_main_v38 (exitV m c)).trans (by rw [exit_main_arg1, exit_main_arg3, exit_main_arg5, exit_main_v0_0, exit_main_v0_2, exit_main_v0_1]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v38) = res_main_v38 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v38 (Pipeline.mem_restRefs_of main_v38 (by decide) (by decide))).trans (fin_main_v38 m c),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 1).trans (((Gen.dats m 0 c).arrAt_in 1 rfl _).trans ((Gen.A_eq m c 1).trans (Gen.V_main_arg2 m c))),
      ((h c).2 main_arg3 (Pipeline.mem_restRefs_of main_arg3 (by decide) (by decide))).trans (Gen.W_main_arg3 m (Gen.dats m) c),
      ((h c).1 2).trans (((Gen.dats m 0 c).arrAt_in 2 rfl _).trans ((Gen.A_eq m c 2).trans (Gen.V_main_arg4 m c))),
      ((h c).2 main_arg5 (Pipeline.mem_restRefs_of main_arg5 (by decide) (by decide))).trans (Gen.W_main_arg5 m (Gen.dats m) c)⟩) (Gen.run_main m ρ)

end Cert.ReferenceIdeal.Value

end
-- ==== Proof.RefRead.lean ====
/- The operations of the reference program after its region, one at a time: `val_<buffer>` is the value an operation writes,
   as a function of the arguments (`x<i>`) and of what the region leaves (`r0`, `r1`, `r2`) it depends on, and
   `val_<buffer>_apply` reads it at an index. A copy of the generated module of the same content, over `RefRun`. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %1 = stablehlo.reshape %0#0 : (tensor<2x32768x1024xf32>) -> tensor<2x32768x4x4x64xf32>
def val_main_v1 (r0 : (⟨S2x32768x1024, .f32⟩ : BufTy).Contents (Elt F)) : (⟨S2x32768x4x4x64, .f32⟩ : BufTy).Contents (Elt F) :=
  shapeCast _ (r0) shapeCasts_S2x32768x1024_S2x32768x4x4x64
set_option backward.proofsInPublic true in
abbrev idx_main_v1 (i : S2x32768x4x4x64.Idx) : S2x32768x1024.Idx := fun a => match a with
  | ⟨0, _⟩ => ⟨(((((i 0).val * 32768 + (i 1).val) * 4 + (i 2).val) * 4 + (i 3).val) * 64 + (i 4).val) / 33554432, by have h0 : (i 0).val < 2 := (i 0).isLt; have h1 : (i 1).val < 32768 := (i 1).isLt; have h2 : (i 2).val < 4 := (i 2).isLt; have h3 : (i 3).val < 4 := (i 3).isLt; have h4 : (i 4).val < 64 := (i 4).isLt; show (((((i 0).val * 32768 + (i 1).val) * 4 + (i 2).val) * 4 + (i 3).val) * 64 + (i 4).val) / 33554432 < 2; omega⟩
  | ⟨1, _⟩ => ⟨(((((i 0).val * 32768 + (i 1).val) * 4 + (i 2).val) * 4 + (i 3).val) * 64 + (i 4).val) / 1024 % 32768, by have h0 : (i 0).val < 2 := (i 0).isLt; have h1 : (i 1).val < 32768 := (i 1).isLt; have h2 : (i 2).val < 4 := (i 2).isLt; have h3 : (i 3).val < 4 := (i 3).isLt; have h4 : (i 4).val < 64 := (i 4).isLt; show (((((i 0).val * 32768 + (i 1).val) * 4 + (i 2).val) * 4 + (i 3).val) * 64 + (i 4).val) / 1024 % 32768 < 32768; omega⟩
  | ⟨2, _⟩ => ⟨(((((i 0).val * 32768 + (i 1).val) * 4 + (i 2).val) * 4 + (i 3).val) * 64 + (i 4).val) % 1024, by have h0 : (i 0).val < 2 := (i 0).isLt; have h1 : (i 1).val < 32768 := (i 1).isLt; have h2 : (i 2).val < 4 := (i 2).isLt; have h3 : (i 3).val < 4 := (i 3).isLt; have h4 : (i 4).val < 64 := (i 4).isLt; show (((((i 0).val * 32768 + (i 1).val) * 4 + (i 2).val) * 4 + (i 3).val) * 64 + (i 4).val) % 1024 < 1024; omega⟩
theorem val_main_v1_apply (r0 : (⟨S2x32768x1024, .f32⟩ : BufTy).Contents (Elt F)) (i : S2x32768x4x4x64.Idx) :
    val_main_v1 (F := F) r0 i = r0 (idx_main_v1 i) := by
  unfold val_main_v1
  exact shapeCast_apply r0 shapeCasts_S2x32768x1024_S2x32768x4x4x64 i (idx_main_v1 i)
    (by rewrite [Shape.rowMajor_val_three, Shape.rowMajor_val_five]; have h0 : (i 0).val < 2 := (i 0).isLt; have h1 : (i 1).val < 32768 := (i 1).isLt; have h2 : (i 2).val < 4 := (i 2).isLt; have h3 : (i 3).val < 4 := (i 3).isLt; have h4 : (i 4).val < 64 := (i 4).isLt; show ((((((i 0).val * 32768 + (i 1).val) * 4 + (i 2).val) * 4 + (i 3).val) * 64 + (i 4).val) / 33554432 * 32768 + (((((i 0).val * 32768 + (i 1).val) * 4 + (i 2).val) * 4 + (i 3).val) * 64 + (i 4).val) / 1024 % 32768) * 1024 + (((((i 0).val * 32768 + (i 1).val) * 4 + (i 2).val) * 4 + (i 3).val) * 64 + (i 4).val) % 1024 = ((((i 0).val * 32768 + (i 1).val) * 4 + (i 2).val) * 4 + (i 3).val) * 64 + (i 4).val; omega)

-- %2 = stablehlo.reshape %0#2 : (tensor<2x256x32768xf32>) -> tensor<2x4x64x32768xf32>
def val_main_v2 (r2 : (⟨S2x256x32768, .f32⟩ : BufTy).Contents (Elt F)) : (⟨S2x4x64x32768, .f32⟩ : BufTy).Contents (Elt F) :=
  shapeCast _ (r2) shapeCasts_S2x256x32768_S2x4x64x32768
set_option backward.proofsInPublic true in
abbrev idx_main_v2 (i : S2x4x64x32768.Idx) : S2x256x32768.Idx := fun a => match a with
  | ⟨0, _⟩ => ⟨((((i 0).val * 4 + (i 1).val) * 64 + (i 2).val) * 32768 + (i 3).val) / 8388608, by have h0 : (i 0).val < 2 := (i 0).isLt; have h1 : (i 1).val < 4 := (i 1).isLt; have h2 : (i 2).val < 64 := (i 2).isLt; have h3 : (i 3).val < 32768 := (i 3).isLt; show ((((i 0).val * 4 + (i 1).val) * 64 + (i 2).val) * 32768 + (i 3).val) / 8388608 < 2; omega⟩
  | ⟨1, _⟩ => ⟨((((i 0).val * 4 + (i 1).val) * 64 + (i 2).val) * 32768 + (i 3).val) / 32768 % 256, by have h0 : (i 0).val < 2 := (i 0).isLt; have h1 : (i 1).val < 4 := (i 1).isLt; have h2 : (i 2).val < 64 := (i 2).isLt; have h3 : (i 3).val < 32768 := (i 3).isLt; show ((((i 0).val * 4 + (i 1).val) * 64 + (i 2).val) * 32768 + (i 3).val) / 32768 % 256 < 256; omega⟩
  | ⟨2, _⟩ => ⟨((((i 0).val * 4 + (i 1).val) * 64 + (i 2).val) * 32768 + (i 3).val) % 32768, by have h0 : (i 0).val < 2 := (i 0).isLt; have h1 : (i 1).val < 4 := (i 1).isLt; have h2 : (i 2).val < 64 := (i 2).isLt; have h3 : (i 3).val < 32768 := (i 3).isLt; show ((((i 0).val * 4 + (i 1).val) * 64 + (i 2).val) * 32768 + (i 3).val) % 32768 < 32768; omega⟩
theorem val_main_v2_apply (r2 : (⟨S2x256x32768, .f32⟩ : BufTy).Contents (Elt F)) (i : S2x4x64x32768.Idx) :
    val_main_v2 (F := F) r2 i = r2 (idx_main_v2 i) := by
  unfold val_main_v2
  exact shapeCast_apply r2 shapeCasts_S2x256x32768_S2x4x64x32768 i (idx_main_v2 i)
    (by rewrite [Shape.rowMajor_val_three, Shape.rowMajor_val_four]; have h0 : (i 0).val < 2 := (i 0).isLt; have h1 : (i 1).val < 4 := (i 1).isLt; have h2 : (i 2).val < 64 := (i 2).isLt; have h3 : (i 3).val < 32768 := (i 3).isLt; show (((((i 0).val * 4 + (i 1).val) * 64 + (i 2).val) * 32768 + (i 3).val) / 8388608 * 256 + ((((i 0).val * 4 + (i 1).val) * 64 + (i 2).val) * 32768 + (i 3).val) / 32768 % 256) * 32768 + ((((i 0).val * 4 + (i 1).val) * 64 + (i 2).val) * 32768 + (i 3).val) % 32768 = (((i 0).val * 4 + (i 1).val) * 64 + (i 2).val) * 32768 + (i 3).val; omega)

-- %3 = stablehlo.reshape %arg1 : (tensor<2x16x32768xf32>) -> tensor<2x4x4x32768xf32>
def val_main_v3 (x1 : (⟨S2x16x32768, .f32⟩ : BufTy).Contents (Elt F)) : (⟨S2x4x4x32768, .f32⟩ : BufTy).Contents (Elt F) :=
  shapeCast _ (x1) shapeCasts_S2x16x32768_S2x4x4x32768
set_option backward.proofsInPublic true in
abbrev idx_main_v3 (i : S2x4x4x32768.Idx) : S2x16x32768.Idx := fun a => match a with
  | ⟨0, _⟩ => ⟨((((i 0).val * 4 + (i 1).val) * 4 + (i 2).val) * 32768 + (i 3).val) / 524288, by have h0 : (i 0).val < 2 := (i 0).isLt; have h1 : (i 1).val < 4 := (i 1).isLt; have h2 : (i 2).val < 4 := (i 2).isLt; have h3 : (i 3).val < 32768 := (i 3).isLt; show ((((i 0).val * 4 + (i 1).val) * 4 + (i 2).val) * 32768 + (i 3).val) / 524288 < 2; omega⟩
  | ⟨1, _⟩ => ⟨((((i 0).val * 4 + (i 1).val) * 4 + (i 2).val) * 32768 + (i 3).val) / 32768 % 16, by have h0 : (i 0).val < 2 := (i 0).isLt; have h1 : (i 1).val < 4 := (i 1).isLt; have h2 : (i 2).val < 4 := (i 2).isLt; have h3 : (i 3).val < 32768 := (i 3).isLt; show ((((i 0).val * 4 + (i 1).val) * 4 + (i 2).val) * 32768 + (i 3).val) / 32768 % 16 < 16; omega⟩
  | ⟨2, _⟩ => ⟨((((i 0).val * 4 + (i 1).val) * 4 + (i 2).val) * 32768 + (i 3).val) % 32768, by have h0 : (i 0).val < 2 := (i 0).isLt; have h1 : (i 1).val < 4 := (i 1).isLt; have h2 : (i 2).val < 4 := (i 2).isLt; have h3 : (i 3).val < 32768 := (i 3).isLt; show ((((i 0).val * 4 + (i 1).val) * 4 + (i 2).val) * 32768 + (i 3).val) % 32768 < 32768; omega⟩
theorem val_main_v3_apply (x1 : (⟨S2x16x32768, .f32⟩ : BufTy).Contents (Elt F)) (i : S2x4x4x32768.Idx) :
    val_main_v3 (F := F) x1 i = x1 (idx_main_v3 i) := by
  unfold val_main_v3
  exact shapeCast_apply x1 shapeCasts_S2x16x32768_S2x4x4x32768 i (idx_main_v3 i)
    (by rewrite [Shape.rowMajor_val_three, Shape.rowMajor_val_four]; have h0 : (i 0).val < 2 := (i 0).isLt; have h1 : (i 1).val < 4 := (i 1).isLt; have h2 : (i 2).val < 4 := (i 2).isLt; have h3 : (i 3).val < 32768 := (i 3).isLt; show (((((i 0).val * 4 + (i 1).val) * 4 + (i 2).val) * 32768 + (i 3).val) / 524288 * 16 + ((((i 0).val * 4 + (i 1).val) * 4 + (i 2).val) * 32768 + (i 3).val) / 32768 % 16) * 32768 + ((((i 0).val * 4 + (i 1).val) * 4 + (i 2).val) * 32768 + (i 3).val) % 32768 = (((i 0).val * 4 + (i 1).val) * 4 + (i 2).val) * 32768 + (i 3).val; omega)

-- %4 = stablehlo.dot_general %0#1, %1, batching_dims = [0, 1] x [0, 2], contracting_dims = [3] x [4], precision = [DEFAULT, DEFAULT] : (tensor<2x4x32768x64xf32>, tensor<2x32768x4x4x64xf32>) -> tensor<2x4x32768x32768x4xf32>
def val_main_v4 (r0 : (⟨S2x32768x1024, .f32⟩ : BufTy).Contents (Elt F)) (r1 : (⟨S2x4x32768x64, .f32⟩ : BufTy).Contents (Elt F)) : (⟨S2x4x32768x32768x4, .f32⟩ : BufTy).Contents (Elt F) :=
  Host.dotGeneral dot_S2x4x32768x64_S2x32768x4x4x64_S2x4x32768x32768x4_3_4_2_13_01_02 none (r1) (val_main_v1 (F := F) r0)
theorem lhs_main_v4_0 (i : S2x4x32768x32768x4.Idx) (q : dot_S2x4x32768x64_S2x32768x4x4x64_S2x4x32768x32768x4_3_4_2_13_01_02.contr.Idx) :
    (dot_S2x4x32768x64_S2x32768x4x4x64_S2x4x32768x32768x4_3_4_2_13_01_02.lhsIdx i q 0).val = (i 0).val := by
  unfold DotDims.lhsIdx
  rw [dif_pos (show (0 : Fin S2x4x32768x64.rank) ∈ dot_S2x4x32768x64_S2x32768x4x4x64_S2x4x32768x32768x4_3_4_2_13_01_02.lhsBatch by decide)]
  rfl
theorem lhs_main_v4_1 (i : S2x4x32768x32768x4.Idx) (q : dot_S2x4x32768x64_S2x32768x4x4x64_S2x4x32768x32768x4_3_4_2_13_01_02.contr.Idx) :
    (dot_S2x4x32768x64_S2x32768x4x4x64_S2x4x32768x32768x4_3_4_2_13_01_02.lhsIdx i q 1).val = (i 1).val := by
  unfold DotDims.lhsIdx
  rw [dif_pos (show (1 : Fin S2x4x32768x64.rank) ∈ dot_S2x4x32768x64_S2x32768x4x4x64_S2x4x32768x32768x4_3_4_2_13_01_02.lhsBatch by decide)]
  rfl
theorem lhs_main_v4_2 (i : S2x4x32768x32768x4.Idx) (q : dot_S2x4x32768x64_S2x32768x4x4x64_S2x4x32768x32768x4_3_4_2_13_01_02.contr.Idx) :
    (dot_S2x4x32768x64_S2x32768x4x4x64_S2x4x32768x32768x4_3_4_2_13_01_02.lhsIdx i q 2).val = (i 2).val := by
  unfold DotDims.lhsIdx
  rw [dif_neg (show ¬(2 : Fin S2x4x32768x64.rank) ∈ dot_S2x4x32768x64_S2x32768x4x4x64_S2x4x32768x32768x4_3_4_2_13_01_02.lhsBatch by decide), dif_pos (show (2 : Fin S2x4x32768x64.rank) ∈ dot_S2x4x32768x64_S2x32768x4x4x64_S2x4x32768x32768x4_3_4_2_13_01_02.lhsNonContracting by decide)]
  rfl
theorem lhs_main_v4_3 (i : S2x4x32768x32768x4.Idx) (q : dot_S2x4x32768x64_S2x32768x4x4x64_S2x4x32768x32768x4_3_4_2_13_01_02.contr.Idx) :
    (dot_S2x4x32768x64_S2x32768x4x4x64_S2x4x32768x32768x4_3_4_2_13_01_02.lhsIdx i q 3).val = (q ⟨0, by decide⟩).val :=
  dot_S2x4x32768x64_S2x32768x4x4x64_S2x4x32768x32768x4_3_4_2_13_01_02.lhsIdx_val_of_single rfl i q
theorem rhs_main_v4_0 (i : S2x4x32768x32768x4.Idx) (q : dot_S2x4x32768x64_S2x32768x4x4x64_S2x4x32768x32768x4_3_4_2_13_01_02.contr.Idx) :
    (dot_S2x4x32768x64_S2x32768x4x4x64_S2x4x32768x32768x4_3_4_2_13_01_02.rhsIdx i q 0).val = (i 0).val := by
  unfold DotDims.rhsIdx
  rw [dif_pos (show (0 : Fin S2x32768x4x4x64.rank) ∈ dot_S2x4x32768x64_S2x32768x4x4x64_S2x4x32768x32768x4_3_4_2_13_01_02.rhsBatch by decide)]
  rfl
theorem rhs_main_v4_1 (i : S2x4x32768x32768x4.Idx) (q : dot_S2x4x32768x64_S2x32768x4x4x64_S2x4x32768x32768x4_3_4_2_13_01_02.contr.Idx) :
    (dot_S2x4x32768x64_S2x32768x4x4x64_S2x4x32768x32768x4_3_4_2_13_01_02.rhsIdx i q 1).val = (i 3).val := by
  unfold DotDims.rhsIdx
  rw [dif_neg (show ¬(1 : Fin S2x32768x4x4x64.rank) ∈ dot_S2x4x32768x64_S2x32768x4x4x64_S2x4x32768x32768x4_3_4_2_13_01_02.rhsBatch by decide), dif_pos (show (1 : Fin S2x32768x4x4x64.rank) ∈ dot_S2x4x32768x64_S2x32768x4x4x64_S2x4x32768x32768x4_3_4_2_13_01_02.rhsNonContracting by decide)]
  rfl
theorem rhs_main_v4_2 (i : S2x4x32768x32768x4.Idx) (q : dot_S2x4x32768x64_S2x32768x4x4x64_S2x4x32768x32768x4_3_4_2_13_01_02.contr.Idx) :
    (dot_S2x4x32768x64_S2x32768x4x4x64_S2x4x32768x32768x4_3_4_2_13_01_02.rhsIdx i q 2).val = (i 1).val := by
  unfold DotDims.rhsIdx
  rw [dif_pos (show (2 : Fin S2x32768x4x4x64.rank) ∈ dot_S2x4x32768x64_S2x32768x4x4x64_S2x4x32768x32768x4_3_4_2_13_01_02.rhsBatch by decide)]
  rfl
theorem rhs_main_v4_3 (i : S2x4x32768x32768x4.Idx) (q : dot_S2x4x32768x64_S2x32768x4x4x64_S2x4x32768x32768x4_3_4_2_13_01_02.contr.Idx) :
    (dot_S2x4x32768x64_S2x32768x4x4x64_S2x4x32768x32768x4_3_4_2_13_01_02.rhsIdx i q 3).val = (i 4).val := by
  unfold DotDims.rhsIdx
  rw [dif_neg (show ¬(3 : Fin S2x32768x4x4x64.rank) ∈ dot_S2x4x32768x64_S2x32768x4x4x64_S2x4x32768x32768x4_3_4_2_13_01_02.rhsBatch by decide), dif_pos (show (3 : Fin S2x32768x4x4x64.rank) ∈ dot_S2x4x32768x64_S2x32768x4x4x64_S2x4x32768x32768x4_3_4_2_13_01_02.rhsNonContracting by decide)]
  rfl
theorem rhs_main_v4_4 (i : S2x4x32768x32768x4.Idx) (q : dot_S2x4x32768x64_S2x32768x4x4x64_S2x4x32768x32768x4_3_4_2_13_01_02.contr.Idx) :
    (dot_S2x4x32768x64_S2x32768x4x4x64_S2x4x32768x32768x4_3_4_2_13_01_02.rhsIdx i q 4).val = (q ⟨0, by decide⟩).val :=
  dot_S2x4x32768x64_S2x32768x4x4x64_S2x4x32768x32768x4_3_4_2_13_01_02.rhsIdx_val_of_single rfl i q
abbrev lidx_main_v4 (i : S2x4x32768x32768x4.Idx) (k : Fin 64) : S2x4x32768x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
abbrev ridx_main_v4 (i : S2x4x32768x32768x4.Idx) (k : Fin 64) : S2x32768x4x4x64.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 4).val, (i 4).isLt⟩
  | ⟨4, _⟩ => ⟨k.val, k.isLt⟩
/-- Stated at `F := Ideal`, where the host's `dot_general` is this sum; at a bit-exact instance it is an opaque function of its operands. -/
theorem val_main_v4_apply (r0 : (⟨S2x32768x1024, .f32⟩ : BufTy).Contents (Elt Ideal)) (r1 : (⟨S2x4x32768x64, .f32⟩ : BufTy).Contents (Elt Ideal)) (i : S2x4x32768x32768x4.Idx) :
    val_main_v4 (F := Ideal) r0 r1 i = ∑ k : Fin 64, r1 (lidx_main_v4 i k) * (val_main_v1 (F := Ideal) r0) (ridx_main_v4 i k) := by
  unfold val_main_v4
  generalize val_main_v1 (F := Ideal) r0 = y0
  simp only [Host.dotGeneral]
  rw [Ideal.dotGeneral_apply, ← Equiv.sum_comp (ValueIdx.contrEquiv1 dot_S2x4x32768x64_S2x32768x4x4x64_S2x4x32768x32768x4_3_4_2_13_01_02 64 rfl rfl).symm]
  refine Finset.sum_congr rfl fun k _ => ?_
  have hk := ValueIdx.contrEquiv1_symm_val dot_S2x4x32768x64_S2x32768x4x4x64_S2x4x32768x32768x4_3_4_2_13_01_02 64 rfl rfl k
  have el : dot_S2x4x32768x64_S2x32768x4x4x64_S2x4x32768x32768x4_3_4_2_13_01_02.lhsIdx i ((ValueIdx.contrEquiv1 dot_S2x4x32768x64_S2x32768x4x4x64_S2x4x32768x32768x4_3_4_2_13_01_02 64 rfl rfl).symm k) = lidx_main_v4 i k := funext fun a => Fin.ext (by
    match a with
    | ⟨0, _⟩ => exact lhs_main_v4_0 _ _
    | ⟨1, _⟩ => exact lhs_main_v4_1 _ _
    | ⟨2, _⟩ => exact lhs_main_v4_2 _ _
    | ⟨3, _⟩ => exact (lhs_main_v4_3 _ _).trans hk)
  have er : dot_S2x4x32768x64_S2x32768x4x4x64_S2x4x32768x32768x4_3_4_2_13_01_02.rhsIdx i ((ValueIdx.contrEquiv1 dot_S2x4x32768x64_S2x32768x4x4x64_S2x4x32768x32768x4_3_4_2_13_01_02 64 rfl rfl).symm k) = ridx_main_v4 i k := funext fun a => Fin.ext (by
    match a with
    | ⟨0, _⟩ => exact rhs_main_v4_0 _ _
    | ⟨1, _⟩ => exact rhs_main_v4_1 _ _
    | ⟨2, _⟩ => exact rhs_main_v4_2 _ _
    | ⟨3, _⟩ => exact rhs_main_v4_3 _ _
    | ⟨4, _⟩ => exact (rhs_main_v4_4 _ _).trans hk)
  rw [el, er]

-- %5 = stablehlo.transpose %4, dims = [0, 1, 4, 3, 2] : (tensor<2x4x32768x32768x4xf32>) -> tensor<2x4x4x32768x32768xf32>
def val_main_v5 (r0 : (⟨S2x32768x1024, .f32⟩ : BufTy).Contents (Elt F)) (r1 : (⟨S2x4x32768x64, .f32⟩ : BufTy).Contents (Elt F)) : (⟨S2x4x4x32768x32768, .f32⟩ : BufTy).Contents (Elt F) :=
  transpose S2x4x4x32768x32768 [0, 1, 4, 3, 2] (val_main_v4 (F := F) r0 r1) transposes_S2x4x32768x32768x4_S2x4x4x32768x32768_0_1_4_3_2
abbrev idx_main_v5 (i : S2x4x4x32768x32768.Idx) : S2x4x32768x32768x4.Idx := fun a => match a with
  | ⟨0, _⟩ => ⟨(i 0).val, (i 0).isLt⟩
  | ⟨1, _⟩ => ⟨(i 1).val, (i 1).isLt⟩
  | ⟨2, _⟩ => ⟨(i 4).val, (i 4).isLt⟩
  | ⟨3, _⟩ => ⟨(i 3).val, (i 3).isLt⟩
  | ⟨4, _⟩ => ⟨(i 2).val, (i 2).isLt⟩
theorem val_main_v5_apply (r0 : (⟨S2x32768x1024, .f32⟩ : BufTy).Contents (Elt F)) (r1 : (⟨S2x4x32768x64, .f32⟩ : BufTy).Contents (Elt F)) (i : S2x4x4x32768x32768.Idx) :
    val_main_v5 (F := F) r0 r1 i = val_main_v4 (F := F) r0 r1 (idx_main_v5 i) := by
  unfold val_main_v5
  generalize val_main_v4 (F := F) r0 r1 = y
  exact transpose_apply [0, 1, 4, 3, 2] y transposes_S2x4x32768x32768x4_S2x4x4x32768x32768_0_1_4_3_2 i (idx_main_v5 i) (fun b => match b with
    | ⟨0, _⟩ => rfl
    | ⟨1, _⟩ => rfl
    | ⟨2, _⟩ => rfl
    | ⟨3, _⟩ => rfl
    | ⟨4, _⟩ => rfl)

-- %cst = stablehlo.constant dense<1.250000e-01> : tensor<f32>
def val_main_cst : (⟨S_, .f32⟩ : BufTy).Contents (Elt F) :=
  constant S_ .f32 0x3E000000#32
theorem val_main_cst_apply (i : S_.Idx) :
    val_main_cst (F := F) i = FloatOps.ofBits .f32 0x3E000000#32 := rfl

-- %6 = stablehlo.broadcast_in_dim %cst, dims = [] : (tensor<f32>) -> tensor<2x4x4x32768xf32>
def val_main_v6 : (⟨S2x4x4x32768, .f32⟩ : BufTy).Contents (Elt F) :=
  broadcastInDim S2x4x4x32768 ![] bcast_S_S2x4x4x32768 (val_main_cst (F := F))
abbrev idx_main_v6 (i : S2x4x4x32768.Idx) : S_.Idx := fun a => a.elim0
theorem val_main_v6_apply (i : S2x4x4x32768.Idx) :
    val_main_v6 (F := F) i = val_main_cst (F := F) (idx_main_v6 i) := by
  unfold val_main_v6
  generalize val_main_cst (F := F) = y
  exact broadcastInDim_apply _ bcast_S_S2x4x4x32768 y i (idx_main_v6 i) (fun a => a.elim0)

-- %7 = stablehlo.multiply %3, %6 : tensor<2x4x4x32768xf32>
def val_main_v7 (x1 : (⟨S2x16x32768, .f32⟩ : BufTy).Contents (Elt F)) : (⟨S2x4x4x32768, .f32⟩ : BufTy).Contents (Elt F) :=
  mulf (val_main_v3 (F := F) x1) (val_main_v6 (F := F))
theorem val_main_v7_apply (x1 : (⟨S2x16x32768, .f32⟩ : BufTy).Contents (Elt F)) (i : S2x4x4x32768.Idx) :
    val_main_v7 (F := F) x1 i = FloatOps.mulf (val_main_v3 (F := F) x1 i) (val_main_v6 (F := F) i) := rfl

-- %8 = stablehlo.broadcast_in_dim %7, dims = [0, 1, 2, 3] : (tensor<2x4x4x32768xf32>) -> tensor<2x4x4x32768x1xf32>
def val_main_v8 (x1 : (⟨S2x16x32768, .f32⟩ : BufTy).Contents (Elt F)) : (⟨S2x4x4x32768x1, .f32⟩ : BufTy).Contents (Elt F) :=
  broadcastInDim S2x4x4x32768x1 ![0, 1, 2, 3] bcast_S2x4x4x32768_S2x4x4x32768x1_0_1_2_3 (val_main_v7 (F := F) x1)
abbrev idx_main_v8 (i : S2x4x4x32768x1.Idx) : S2x4x4x32768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v8_apply (x1 : (⟨S2x16x32768, .f32⟩ : BufTy).Contents (Elt F)) (i : S2x4x4x32768x1.Idx) :
    val_main_v8 (F := F) x1 i = val_main_v7 (F := F) x1 (idx_main_v8 i) := by
  unfold val_main_v8
  generalize val_main_v7 (F := F) x1 = y
  exact broadcastInDim_apply _ bcast_S2x4x4x32768_S2x4x4x32768x1_0_1_2_3 y i (idx_main_v8 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (4 : Nat) = 1 then 0 else (i 2).val; rw [if_neg (by decide)]
    | ⟨3, _⟩ => by show (i 3).val = if (32768 : Nat) = 1 then 0 else (i 3).val; rw [if_neg (by decide)])

-- %9 = stablehlo.broadcast_in_dim %8, dims = [0, 1, 2, 3, 4] : (tensor<2x4x4x32768x1xf32>) -> tensor<2x4x4x32768x32768xf32>
def val_main_v9 (x1 : (⟨S2x16x32768, .f32⟩ : BufTy).Contents (Elt F)) : (⟨S2x4x4x32768x32768, .f32⟩ : BufTy).Contents (Elt F) :=
  broadcastInDim S2x4x4x32768x32768 ![0, 1, 2, 3, 4] bcast_S2x4x4x32768x1_S2x4x4x32768x32768_0_1_2_3_4 (val_main_v8 (F := F) x1)
abbrev idx_main_v9 (i : S2x4x4x32768x32768.Idx) : S2x4x4x32768x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v9_apply (x1 : (⟨S2x16x32768, .f32⟩ : BufTy).Contents (Elt F)) (i : S2x4x4x32768x32768.Idx) :
    val_main_v9 (F := F) x1 i = val_main_v8 (F := F) x1 (idx_main_v9 i) := by
  unfold val_main_v9
  generalize val_main_v8 (F := F) x1 = y
  exact broadcastInDim_apply _ bcast_S2x4x4x32768x1_S2x4x4x32768x32768_0_1_2_3_4 y i (idx_main_v9 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (4 : Nat) = 1 then 0 else (i 2).val; rw [if_neg (by decide)]
    | ⟨3, _⟩ => by show (i 3).val = if (32768 : Nat) = 1 then 0 else (i 3).val; rw [if_neg (by decide)]
    | ⟨4, _⟩ => by show 0 = if (1 : Nat) = 1 then 0 else (i 4).val; rw [if_pos rfl])

-- %10 = stablehlo.multiply %5, %9 : tensor<2x4x4x32768x32768xf32>
def val_main_v10 (x1 : (⟨S2x16x32768, .f32⟩ : BufTy).Contents (Elt F)) (r0 : (⟨S2x32768x1024, .f32⟩ : BufTy).Contents (Elt F)) (r1 : (⟨S2x4x32768x64, .f32⟩ : BufTy).Contents (Elt F)) : (⟨S2x4x4x32768x32768, .f32⟩ : BufTy).Contents (Elt F) :=
  mulf (val_main_v5 (F := F) r0 r1) (val_main_v9 (F := F) x1)
theorem val_main_v10_apply (x1 : (⟨S2x16x32768, .f32⟩ : BufTy).Contents (Elt F)) (r0 : (⟨S2x32768x1024, .f32⟩ : BufTy).Contents (Elt F)) (r1 : (⟨S2x4x32768x64, .f32⟩ : BufTy).Contents (Elt F)) (i : S2x4x4x32768x32768.Idx) :
    val_main_v10 (F := F) x1 r0 r1 i = FloatOps.mulf (val_main_v5 (F := F) r0 r1 i) (val_main_v9 (F := F) x1 i) := rfl

-- %11 = stablehlo.broadcast_in_dim %arg3, dims = [0, 1, 4] : (tensor<2x4x32768xf32>) -> tensor<2x4x1x1x32768xf32>
def val_main_v11 (x3 : (⟨S2x4x32768, .f32⟩ : BufTy).Contents (Elt F)) : (⟨S2x4x1x1x32768, .f32⟩ : BufTy).Contents (Elt F) :=
  broadcastInDim S2x4x1x1x32768 ![0, 1, 4] bcast_S2x4x32768_S2x4x1x1x32768_0_1_4 (x3)
abbrev idx_main_v11 (i : S2x4x1x1x32768.Idx) : S2x4x32768.Idx := fun a => match a with
  | ⟨0, _⟩ => ⟨(i 0).val, (i 0).isLt⟩
  | ⟨1, _⟩ => ⟨(i 1).val, (i 1).isLt⟩
  | ⟨2, _⟩ => ⟨(i 4).val, (i 4).isLt⟩
theorem val_main_v11_apply (x3 : (⟨S2x4x32768, .f32⟩ : BufTy).Contents (Elt F)) (i : S2x4x1x1x32768.Idx) :
    val_main_v11 (F := F) x3 i = x3 (idx_main_v11 i) := by
  unfold val_main_v11
  exact broadcastInDim_apply _ bcast_S2x4x32768_S2x4x1x1x32768_0_1_4 x3 i (idx_main_v11 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 4).val = if (32768 : Nat) = 1 then 0 else (i 4).val; rw [if_neg (by decide)])

-- %12 = stablehlo.broadcast_in_dim %11, dims = [0, 1, 2, 3, 4] : (tensor<2x4x1x1x32768xf32>) -> tensor<2x4x4x32768x32768xf32>
def val_main_v12 (x3 : (⟨S2x4x32768, .f32⟩ : BufTy).Contents (Elt F)) : (⟨S2x4x4x32768x32768, .f32⟩ : BufTy).Contents (Elt F) :=
  broadcastInDim S2x4x4x32768x32768 ![0, 1, 2, 3, 4] bcast_S2x4x1x1x32768_S2x4x4x32768x32768_0_1_2_3_4 (val_main_v11 (F := F) x3)
abbrev idx_main_v12 (i : S2x4x4x32768x32768.Idx) : S2x4x1x1x32768.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
  | ⟨4, _⟩ => ⟨(i 4).val, (i 4).isLt⟩
theorem val_main_v12_apply (x3 : (⟨S2x4x32768, .f32⟩ : BufTy).Contents (Elt F)) (i : S2x4x4x32768x32768.Idx) :
    val_main_v12 (F := F) x3 i = val_main_v11 (F := F) x3 (idx_main_v12 i) := by
  unfold val_main_v12
  generalize val_main_v11 (F := F) x3 = y
  exact broadcastInDim_apply _ bcast_S2x4x1x1x32768_S2x4x4x32768x32768_0_1_2_3_4 y i (idx_main_v12 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (32768 : Nat) = 1 then 0 else (i 4).val; rw [if_neg (by decide)])

-- %13 = stablehlo.multiply %10, %12 : tensor<2x4x4x32768x32768xf32>
def val_main_v13 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768x32768, .f32⟩ : BufTy).Contents (Elt F) :=
  mulf (val_main_v10 (F := F) x1 r0 r1) (val_main_v12 (F := F) x3)
theorem val_main_v13_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x4x4x32768x32768.Idx) :
    val_main_v13 (F := F) x1 x3 r0 r1 i = FloatOps.mulf (val_main_v10 (F := F) x1 r0 r1 i) (val_main_v12 (F := F) x3 i) := rfl

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- %14 = stablehlo.reduce(%13 init: %cst_0) applies stablehlo.maximum across dimensions = [4] : (tensor<2x4x4x32768x32768xf32>, tensor<f32>) -> tensor<2x4x4x32768xf32> {
def val_main_v14 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768, .f32⟩ : BufTy).Contents (Elt F) :=
  Host.reduce FloatOps.maximumf (val_main_v13 (F := F) x1 x3 r0 r1) (val_main_cst_0 (F := F)) reducesTo_S2x4x4x32768x32768_S2x4x4x32768_d4 h_S_

-- %15 = stablehlo.broadcast_in_dim %14, dims = [0, 1, 2, 3] : (tensor<2x4x4x32768xf32>) -> tensor<2x4x4x32768x1xf32>
def val_main_v15 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768x1, .f32⟩ : BufTy).Contents (Elt F) :=
  broadcastInDim S2x4x4x32768x1 ![0, 1, 2, 3] bcast_S2x4x4x32768_S2x4x4x32768x1_0_1_2_3 (val_main_v14 (F := F) x1 x3 r0 r1)
abbrev idx_main_v15 (i : S2x4x4x32768x1.Idx) : S2x4x4x32768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v15_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x4x4x32768x1.Idx) :
    val_main_v15 (F := F) x1 x3 r0 r1 i = val_main_v14 (F := F) x1 x3 r0 r1 (idx_main_v15 i) := by
  unfold val_main_v15
  generalize val_main_v14 (F := F) x1 x3 r0 r1 = y
  exact broadcastInDim_apply _ bcast_S2x4x4x32768_S2x4x4x32768x1_0_1_2_3 y i (idx_main_v15 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (4 : Nat) = 1 then 0 else (i 2).val; rw [if_neg (by decide)]
    | ⟨3, _⟩ => by show (i 3).val = if (32768 : Nat) = 1 then 0 else (i 3).val; rw [if_neg (by decide)])

-- %16 = stablehlo.broadcast_in_dim %15, dims = [0, 1, 2, 3, 4] : (tensor<2x4x4x32768x1xf32>) -> tensor<2x4x4x32768x32768xf32>
def val_main_v16 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768x32768, .f32⟩ : BufTy).Contents (Elt F) :=
  broadcastInDim S2x4x4x32768x32768 ![0, 1, 2, 3, 4] bcast_S2x4x4x32768x1_S2x4x4x32768x32768_0_1_2_3_4 (val_main_v15 (F := F) x1 x3 r0 r1)
abbrev idx_main_v16 (i : S2x4x4x32768x32768.Idx) : S2x4x4x32768x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v16_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x4x4x32768x32768.Idx) :
    val_main_v16 (F := F) x1 x3 r0 r1 i = val_main_v15 (F := F) x1 x3 r0 r1 (idx_main_v16 i) := by
  unfold val_main_v16
  generalize val_main_v15 (F := F) x1 x3 r0 r1 = y
  exact broadcastInDim_apply _ bcast_S2x4x4x32768x1_S2x4x4x32768x32768_0_1_2_3_4 y i (idx_main_v16 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (4 : Nat) = 1 then 0 else (i 2).val; rw [if_neg (by decide)]
    | ⟨3, _⟩ => by show (i 3).val = if (32768 : Nat) = 1 then 0 else (i 3).val; rw [if_neg (by decide)]
    | ⟨4, _⟩ => by show 0 = if (1 : Nat) = 1 then 0 else (i 4).val; rw [if_pos rfl])

-- %17 = stablehlo.subtract %13, %16 : tensor<2x4x4x32768x32768xf32>
def val_main_v17 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768x32768, .f32⟩ : BufTy).Contents (Elt F) :=
  subf (val_main_v13 (F := F) x1 x3 r0 r1) (val_main_v16 (F := F) x1 x3 r0 r1)
theorem val_main_v17_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x4x4x32768x32768.Idx) :
    val_main_v17 (F := F) x1 x3 r0 r1 i = FloatOps.subf (val_main_v13 (F := F) x1 x3 r0 r1 i) (val_main_v16 (F := F) x1 x3 r0 r1 i) := rfl

-- %18 = stablehlo.exponential %17 : tensor<2x4x4x32768x32768xf32>
def val_main_v18 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768x32768, .f32⟩ : BufTy).Contents (Elt F) :=
  Host.exp (val_main_v17 (F := F) x1 x3 r0 r1)
theorem val_main_v18_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x4x4x32768x32768.Idx) :
    val_main_v18 (F := F) x1 x3 r0 r1 i = FloatOps.hostUnary .exp (val_main_v17 (F := F) x1 x3 r0 r1 i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %19 = stablehlo.reduce(%18 init: %cst_1) applies stablehlo.add across dimensions = [4] : (tensor<2x4x4x32768x32768xf32>, tensor<f32>) -> tensor<2x4x4x32768xf32> {
def val_main_v19 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768, .f32⟩ : BufTy).Contents (Elt F) :=
  Host.reduceAdd (val_main_v18 (F := F) x1 x3 r0 r1) (val_main_cst_1 (F := F)) reducesTo_S2x4x4x32768x32768_S2x4x4x32768_d4 h_S_
abbrev idx_main_v19 (i : S2x4x4x32768.Idx) (k : Fin 32768) : S2x4x4x32768x32768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
/-- Stated at `F := Ideal`, where the host's float sum is this sum; at a bit-exact instance it is an opaque function of its operand. -/
theorem val_main_v19_apply (x1 : (⟨S2x16x32768, .f32⟩ : BufTy).Contents (Elt Ideal)) (x3 : (⟨S2x4x32768, .f32⟩ : BufTy).Contents (Elt Ideal)) (r0 : (⟨S2x32768x1024, .f32⟩ : BufTy).Contents (Elt Ideal)) (r1 : (⟨S2x4x32768x64, .f32⟩ : BufTy).Contents (Elt Ideal)) (i : S2x4x4x32768.Idx) :
    val_main_v19 (F := Ideal) x1 x3 r0 r1 i = (val_main_cst_1 (F := Ideal)) (Shape.Idx.first h_S_) + ∑ k : Fin 32768, (val_main_v18 (F := Ideal) x1 x3 r0 r1) (idx_main_v19 i k) := by
  unfold val_main_v19
  generalize val_main_v18 (F := Ideal) x1 x3 r0 r1 = y0
  simp only [Host.reduceAdd, Ideal.hostReduceAdd_def]
  rw [Ideal.hostReduceAdd_single reducesTo_S2x4x4x32768x32768_S2x4x4x32768_d4 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl))

-- %cst_2 = stablehlo.constant dense<2.560000e+02> : tensor<f32>
def val_main_cst_2 : (⟨S_, .f32⟩ : BufTy).Contents (Elt F) :=
  constant S_ .f32 0x43800000#32
theorem val_main_cst_2_apply (i : S_.Idx) :
    val_main_cst_2 (F := F) i = FloatOps.ofBits .f32 0x43800000#32 := rfl

-- %20 = stablehlo.broadcast_in_dim %cst_2, dims = [] : (tensor<f32>) -> tensor<2x4x4x32768x32768xf32>
def val_main_v20 : (⟨S2x4x4x32768x32768, .f32⟩ : BufTy).Contents (Elt F) :=
  broadcastInDim S2x4x4x32768x32768 ![] bcast_S_S2x4x4x32768x32768 (val_main_cst_2 (F := F))
abbrev idx_main_v20 (i : S2x4x4x32768x32768.Idx) : S_.Idx := fun a => a.elim0
theorem val_main_v20_apply (i : S2x4x4x32768x32768.Idx) :
    val_main_v20 (F := F) i = val_main_cst_2 (F := F) (idx_main_v20 i) := by
  unfold val_main_v20
  generalize val_main_cst_2 (F := F) = y
  exact broadcastInDim_apply _ bcast_S_S2x4x4x32768x32768 y i (idx_main_v20 i) (fun a => a.elim0)

-- %21 = stablehlo.multiply %18, %20 : tensor<2x4x4x32768x32768xf32>
def val_main_v21 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768x32768, .f32⟩ : BufTy).Contents (Elt F) :=
  mulf (val_main_v18 (F := F) x1 x3 r0 r1) (val_main_v20 (F := F))
theorem val_main_v21_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x4x4x32768x32768.Idx) :
    val_main_v21 (F := F) x1 x3 r0 r1 i = FloatOps.mulf (val_main_v18 (F := F) x1 x3 r0 r1 i) (val_main_v20 (F := F) i) := rfl

-- %cst_3 = stablehlo.constant dense<-4.480000e+02> : tensor<f32>
def val_main_cst_3 : (⟨S_, .f32⟩ : BufTy).Contents (Elt F) :=
  constant S_ .f32 0xC3E00000#32
theorem val_main_cst_3_apply (i : S_.Idx) :
    val_main_cst_3 (F := F) i = FloatOps.ofBits .f32 0xC3E00000#32 := rfl

-- %22 = stablehlo.broadcast_in_dim %cst_3, dims = [] : (tensor<f32>) -> tensor<2x4x4x32768x32768xf32>
def val_main_v22 : (⟨S2x4x4x32768x32768, .f32⟩ : BufTy).Contents (Elt F) :=
  broadcastInDim S2x4x4x32768x32768 ![] bcast_S_S2x4x4x32768x32768 (val_main_cst_3 (F := F))
abbrev idx_main_v22 (i : S2x4x4x32768x32768.Idx) : S_.Idx := fun a => a.elim0
theorem val_main_v22_apply (i : S2x4x4x32768x32768.Idx) :
    val_main_v22 (F := F) i = val_main_cst_3 (F := F) (idx_main_v22 i) := by
  unfold val_main_v22
  generalize val_main_cst_3 (F := F) = y
  exact broadcastInDim_apply _ bcast_S_S2x4x4x32768x32768 y i (idx_main_v22 i) (fun a => a.elim0)

-- %23 = stablehlo.maximum %21, %22 : tensor<2x4x4x32768x32768xf32>
def val_main_v23 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768x32768, .f32⟩ : BufTy).Contents (Elt F) :=
  maximumf (val_main_v21 (F := F) x1 x3 r0 r1) (val_main_v22 (F := F))
theorem val_main_v23_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x4x4x32768x32768.Idx) :
    val_main_v23 (F := F) x1 x3 r0 r1 i = FloatOps.maximumf (val_main_v21 (F := F) x1 x3 r0 r1 i) (val_main_v22 (F := F) i) := rfl

-- %cst_4 = stablehlo.constant dense<4.480000e+02> : tensor<f32>
def val_main_cst_4 : (⟨S_, .f32⟩ : BufTy).Contents (Elt F) :=
  constant S_ .f32 0x43E00000#32
theorem val_main_cst_4_apply (i : S_.Idx) :
    val_main_cst_4 (F := F) i = FloatOps.ofBits .f32 0x43E00000#32 := rfl

-- %24 = stablehlo.broadcast_in_dim %cst_4, dims = [] : (tensor<f32>) -> tensor<2x4x4x32768x32768xf32>
def val_main_v24 : (⟨S2x4x4x32768x32768, .f32⟩ : BufTy).Contents (Elt F) :=
  broadcastInDim S2x4x4x32768x32768 ![] bcast_S_S2x4x4x32768x32768 (val_main_cst_4 (F := F))
abbrev idx_main_v24 (i : S2x4x4x32768x32768.Idx) : S_.Idx := fun a => a.elim0
theorem val_main_v24_apply (i : S2x4x4x32768x32768.Idx) :
    val_main_v24 (F := F) i = val_main_cst_4 (F := F) (idx_main_v24 i) := by
  unfold val_main_v24
  generalize val_main_cst_4 (F := F) = y
  exact broadcastInDim_apply _ bcast_S_S2x4x4x32768x32768 y i (idx_main_v24 i) (fun a => a.elim0)

-- %25 = stablehlo.minimum %23, %24 : tensor<2x4x4x32768x32768xf32>
def val_main_v25 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x4x4x32768x32768, .f32⟩ : BufTy).Contents (Elt F) :=
  minimumf (val_main_v23 (F := F) x1 x3 r0 r1) (val_main_v24 (F := F))
theorem val_main_v25_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x4x4x32768x32768.Idx) :
    val_main_v25 (F := F) x1 x3 r0 r1 i = FloatOps.minimumf (val_main_v23 (F := F) x1 x3 r0 r1 i) (val_main_v24 (F := F) i) := rfl

-- %26 = stablehlo.dot_general %2, %25, batching_dims = [0, 1] x [0, 1], contracting_dims = [3] x [4], precision = [DEFAULT, DEFAULT] : (tensor<2x4x64x32768xf32>, tensor<2x4x4x32768x32768xf32>) -> tensor<2x4x64x4x32768xf32>
def val_main_v26 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) : (⟨S2x4x64x4x32768, .f32⟩ : BufTy).Contents (Elt F) :=
  Host.dotGeneral dot_S2x4x64x32768_S2x4x4x32768x32768_S2x4x64x4x32768_3_4_2_23_01_01 none (val_main_v2 (F := F) r2) (val_main_v25 (F := F) x1 x3 r0 r1)
theorem lhs_main_v26_0 (i : S2x4x64x4x32768.Idx) (q : dot_S2x4x64x32768_S2x4x4x32768x32768_S2x4x64x4x32768_3_4_2_23_01_01.contr.Idx) :
    (dot_S2x4x64x32768_S2x4x4x32768x32768_S2x4x64x4x32768_3_4_2_23_01_01.lhsIdx i q 0).val = (i 0).val := by
  unfold DotDims.lhsIdx
  rw [dif_pos (show (0 : Fin S2x4x64x32768.rank) ∈ dot_S2x4x64x32768_S2x4x4x32768x32768_S2x4x64x4x32768_3_4_2_23_01_01.lhsBatch by decide)]
  rfl
theorem lhs_main_v26_1 (i : S2x4x64x4x32768.Idx) (q : dot_S2x4x64x32768_S2x4x4x32768x32768_S2x4x64x4x32768_3_4_2_23_01_01.contr.Idx) :
    (dot_S2x4x64x32768_S2x4x4x32768x32768_S2x4x64x4x32768_3_4_2_23_01_01.lhsIdx i q 1).val = (i 1).val := by
  unfold DotDims.lhsIdx
  rw [dif_pos (show (1 : Fin S2x4x64x32768.rank) ∈ dot_S2x4x64x32768_S2x4x4x32768x32768_S2x4x64x4x32768_3_4_2_23_01_01.lhsBatch by decide)]
  rfl
theorem lhs_main_v26_2 (i : S2x4x64x4x32768.Idx) (q : dot_S2x4x64x32768_S2x4x4x32768x32768_S2x4x64x4x32768_3_4_2_23_01_01.contr.Idx) :
    (dot_S2x4x64x32768_S2x4x4x32768x32768_S2x4x64x4x32768_3_4_2_23_01_01.lhsIdx i q 2).val = (i 2).val := by
  unfold DotDims.lhsIdx
  rw [dif_neg (show ¬(2 : Fin S2x4x64x32768.rank) ∈ dot_S2x4x64x32768_S2x4x4x32768x32768_S2x4x64x4x32768_3_4_2_23_01_01.lhsBatch by decide), dif_pos (show (2 : Fin S2x4x64x32768.rank) ∈ dot_S2x4x64x32768_S2x4x4x32768x32768_S2x4x64x4x32768_3_4_2_23_01_01.lhsNonContracting by decide)]
  rfl
theorem lhs_main_v26_3 (i : S2x4x64x4x32768.Idx) (q : dot_S2x4x64x32768_S2x4x4x32768x32768_S2x4x64x4x32768_3_4_2_23_01_01.contr.Idx) :
    (dot_S2x4x64x32768_S2x4x4x32768x32768_S2x4x64x4x32768_3_4_2_23_01_01.lhsIdx i q 3).val = (q ⟨0, by decide⟩).val :=
  dot_S2x4x64x32768_S2x4x4x32768x32768_S2x4x64x4x32768_3_4_2_23_01_01.lhsIdx_val_of_single rfl i q
theorem rhs_main_v26_0 (i : S2x4x64x4x32768.Idx) (q : dot_S2x4x64x32768_S2x4x4x32768x32768_S2x4x64x4x32768_3_4_2_23_01_01.contr.Idx) :
    (dot_S2x4x64x32768_S2x4x4x32768x32768_S2x4x64x4x32768_3_4_2_23_01_01.rhsIdx i q 0).val = (i 0).val := by
  unfold DotDims.rhsIdx
  rw [dif_pos (show (0 : Fin S2x4x4x32768x32768.rank) ∈ dot_S2x4x64x32768_S2x4x4x32768x32768_S2x4x64x4x32768_3_4_2_23_01_01.rhsBatch by decide)]
  rfl
theorem rhs_main_v26_1 (i : S2x4x64x4x32768.Idx) (q : dot_S2x4x64x32768_S2x4x4x32768x32768_S2x4x64x4x32768_3_4_2_23_01_01.contr.Idx) :
    (dot_S2x4x64x32768_S2x4x4x32768x32768_S2x4x64x4x32768_3_4_2_23_01_01.rhsIdx i q 1).val = (i 1).val := by
  unfold DotDims.rhsIdx
  rw [dif_pos (show (1 : Fin S2x4x4x32768x32768.rank) ∈ dot_S2x4x64x32768_S2x4x4x32768x32768_S2x4x64x4x32768_3_4_2_23_01_01.rhsBatch by decide)]
  rfl
theorem rhs_main_v26_2 (i : S2x4x64x4x32768.Idx) (q : dot_S2x4x64x32768_S2x4x4x32768x32768_S2x4x64x4x32768_3_4_2_23_01_01.contr.Idx) :
    (dot_S2x4x64x32768_S2x4x4x32768x32768_S2x4x64x4x32768_3_4_2_23_01_01.rhsIdx i q 2).val = (i 3).val := by
  unfold DotDims.rhsIdx
  rw [dif_neg (show ¬(2 : Fin S2x4x4x32768x32768.rank) ∈ dot_S2x4x64x32768_S2x4x4x32768x32768_S2x4x64x4x32768_3_4_2_23_01_01.rhsBatch by decide), dif_pos (show (2 : Fin S2x4x4x32768x32768.rank) ∈ dot_S2x4x64x32768_S2x4x4x32768x32768_S2x4x64x4x32768_3_4_2_23_01_01.rhsNonContracting by decide)]
  rfl
theorem rhs_main_v26_3 (i : S2x4x64x4x32768.Idx) (q : dot_S2x4x64x32768_S2x4x4x32768x32768_S2x4x64x4x32768_3_4_2_23_01_01.contr.Idx) :
    (dot_S2x4x64x32768_S2x4x4x32768x32768_S2x4x64x4x32768_3_4_2_23_01_01.rhsIdx i q 3).val = (i 4).val := by
  unfold DotDims.rhsIdx
  rw [dif_neg (show ¬(3 : Fin S2x4x4x32768x32768.rank) ∈ dot_S2x4x64x32768_S2x4x4x32768x32768_S2x4x64x4x32768_3_4_2_23_01_01.rhsBatch by decide), dif_pos (show (3 : Fin S2x4x4x32768x32768.rank) ∈ dot_S2x4x64x32768_S2x4x4x32768x32768_S2x4x64x4x32768_3_4_2_23_01_01.rhsNonContracting by decide)]
  rfl
theorem rhs_main_v26_4 (i : S2x4x64x4x32768.Idx) (q : dot_S2x4x64x32768_S2x4x4x32768x32768_S2x4x64x4x32768_3_4_2_23_01_01.contr.Idx) :
    (dot_S2x4x64x32768_S2x4x4x32768x32768_S2x4x64x4x32768_3_4_2_23_01_01.rhsIdx i q 4).val = (q ⟨0, by decide⟩).val :=
  dot_S2x4x64x32768_S2x4x4x32768x32768_S2x4x64x4x32768_3_4_2_23_01_01.rhsIdx_val_of_single rfl i q
abbrev lidx_main_v26 (i : S2x4x64x4x32768.Idx) (k : Fin 32768) : S2x4x64x32768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
abbrev ridx_main_v26 (i : S2x4x64x4x32768.Idx) (k : Fin 32768) : S2x4x4x32768x32768.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
  | ⟨4, _⟩ => ⟨k.val, k.isLt⟩
/-- Stated at `F := Ideal`, where the host's `dot_general` is this sum; at a bit-exact instance it is an opaque function of its operands. -/
theorem val_main_v26_apply (x1 : (⟨S2x16x32768, .f32⟩ : BufTy).Contents (Elt Ideal)) (x3 : (⟨S2x4x32768, .f32⟩ : BufTy).Contents (Elt Ideal)) (r0 : (⟨S2x32768x1024, .f32⟩ : BufTy).Contents (Elt Ideal)) (r1 : (⟨S2x4x32768x64, .f32⟩ : BufTy).Contents (Elt Ideal)) (r2 : (⟨S2x256x32768, .f32⟩ : BufTy).Contents (Elt Ideal)) (i : S2x4x64x4x32768.Idx) :
    val_main_v26 (F := Ideal) x1 x3 r0 r1 r2 i = ∑ k : Fin 32768, (val_main_v2 (F := Ideal) r2) (lidx_main_v26 i k) * (val_main_v25 (F := Ideal) x1 x3 r0 r1) (ridx_main_v26 i k) := by
  unfold val_main_v26
  generalize val_main_v2 (F := Ideal) r2 = y0
  generalize val_main_v25 (F := Ideal) x1 x3 r0 r1 = y1
  simp only [Host.dotGeneral]
  rw [Ideal.dotGeneral_apply, ← Equiv.sum_comp (ValueIdx.contrEquiv1 dot_S2x4x64x32768_S2x4x4x32768x32768_S2x4x64x4x32768_3_4_2_23_01_01 32768 rfl rfl).symm]
  refine Finset.sum_congr rfl fun k _ => ?_
  have hk := ValueIdx.contrEquiv1_symm_val dot_S2x4x64x32768_S2x4x4x32768x32768_S2x4x64x4x32768_3_4_2_23_01_01 32768 rfl rfl k
  have el : dot_S2x4x64x32768_S2x4x4x32768x32768_S2x4x64x4x32768_3_4_2_23_01_01.lhsIdx i ((ValueIdx.contrEquiv1 dot_S2x4x64x32768_S2x4x4x32768x32768_S2x4x64x4x32768_3_4_2_23_01_01 32768 rfl rfl).symm k) = lidx_main_v26 i k := funext fun a => Fin.ext (by
    match a with
    | ⟨0, _⟩ => exact lhs_main_v26_0 _ _
    | ⟨1, _⟩ => exact lhs_main_v26_1 _ _
    | ⟨2, _⟩ => exact lhs_main_v26_2 _ _
    | ⟨3, _⟩ => exact (lhs_main_v26_3 _ _).trans hk)
  have er : dot_S2x4x64x32768_S2x4x4x32768x32768_S2x4x64x4x32768_3_4_2_23_01_01.rhsIdx i ((ValueIdx.contrEquiv1 dot_S2x4x64x32768_S2x4x4x32768x32768_S2x4x64x4x32768_3_4_2_23_01_01 32768 rfl rfl).symm k) = ridx_main_v26 i k := funext fun a => Fin.ext (by
    match a with
    | ⟨0, _⟩ => exact rhs_main_v26_0 _ _
    | ⟨1, _⟩ => exact rhs_main_v26_1 _ _
    | ⟨2, _⟩ => exact rhs_main_v26_2 _ _
    | ⟨3, _⟩ => exact rhs_main_v26_3 _ _
    | ⟨4, _⟩ => exact (rhs_main_v26_4 _ _).trans hk)
  rw [el, er]

-- %27 = stablehlo.transpose %26, dims = [0, 4, 1, 3, 2] : (tensor<2x4x64x4x32768xf32>) -> tensor<2x32768x4x4x64xf32>
def val_main_v27 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) : (⟨S2x32768x4x4x64, .f32⟩ : BufTy).Contents (Elt F) :=
  transpose S2x32768x4x4x64 [0, 4, 1, 3, 2] (val_main_v26 (F := F) x1 x3 r0 r1 r2) transposes_S2x4x64x4x32768_S2x32768x4x4x64_0_4_1_3_2
abbrev idx_main_v27 (i : S2x32768x4x4x64.Idx) : S2x4x64x4x32768.Idx := fun a => match a with
  | ⟨0, _⟩ => ⟨(i 0).val, (i 0).isLt⟩
  | ⟨1, _⟩ => ⟨(i 2).val, (i 2).isLt⟩
  | ⟨2, _⟩ => ⟨(i 4).val, (i 4).isLt⟩
  | ⟨3, _⟩ => ⟨(i 3).val, (i 3).isLt⟩
  | ⟨4, _⟩ => ⟨(i 1).val, (i 1).isLt⟩
theorem val_main_v27_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) (i : S2x32768x4x4x64.Idx) :
    val_main_v27 (F := F) x1 x3 r0 r1 r2 i = val_main_v26 (F := F) x1 x3 r0 r1 r2 (idx_main_v27 i) := by
  unfold val_main_v27
  generalize val_main_v26 (F := F) x1 x3 r0 r1 r2 = y
  exact transpose_apply [0, 4, 1, 3, 2] y transposes_S2x4x64x4x32768_S2x32768x4x4x64_0_4_1_3_2 i (idx_main_v27 i) (fun b => match b with
    | ⟨0, _⟩ => rfl
    | ⟨1, _⟩ => rfl
    | ⟨2, _⟩ => rfl
    | ⟨3, _⟩ => rfl
    | ⟨4, _⟩ => rfl)

-- %28 = stablehlo.broadcast_in_dim %arg5, dims = [0, 2, 4] : (tensor<2x4x64xf32>) -> tensor<2x1x4x1x64xf32>
def val_main_v28 (x5 : (⟨S2x4x64, .f32⟩ : BufTy).Contents (Elt F)) : (⟨S2x1x4x1x64, .f32⟩ : BufTy).Contents (Elt F) :=
  broadcastInDim S2x1x4x1x64 ![0, 2, 4] bcast_S2x4x64_S2x1x4x1x64_0_2_4 (x5)
abbrev idx_main_v28 (i : S2x1x4x1x64.Idx) : S2x4x64.Idx := fun a => match a with
  | ⟨0, _⟩ => ⟨(i 0).val, (i 0).isLt⟩
  | ⟨1, _⟩ => ⟨(i 2).val, (i 2).isLt⟩
  | ⟨2, _⟩ => ⟨(i 4).val, (i 4).isLt⟩
theorem val_main_v28_apply (x5 : (⟨S2x4x64, .f32⟩ : BufTy).Contents (Elt F)) (i : S2x1x4x1x64.Idx) :
    val_main_v28 (F := F) x5 i = x5 (idx_main_v28 i) := by
  unfold val_main_v28
  exact broadcastInDim_apply _ bcast_S2x4x64_S2x1x4x1x64_0_2_4 x5 i (idx_main_v28 i) (fun a => match a with
    | ⟨0, _⟩ => by show (i 0).val = if (2 : Nat) = 1 then 0 else (i 0).val; rw [if_neg (by decide)]
    | ⟨1, _⟩ => by show (i 2).val = if (4 : Nat) = 1 then 0 else (i 2).val; rw [if_neg (by decide)]
    | ⟨2, _⟩ => by show (i 4).val = if (64 : Nat) = 1 then 0 else (i 4).val; rw [if_neg (by decide)])

-- %29 = stablehlo.broadcast_in_dim %28, dims = [0, 1, 2, 3, 4] : (tensor<2x1x4x1x64xf32>) -> tensor<2x32768x4x4x64xf32>
def val_main_v29 (x5 : (⟨S2x4x64, .f32⟩ : BufTy).Contents (Elt F)) : (⟨S2x32768x4x4x64, .f32⟩ : BufTy).Contents (Elt F) :=
  broadcastInDim S2x32768x4x4x64 ![0, 1, 2, 3, 4] bcast_S2x1x4x1x64_S2x32768x4x4x64_0_1_2_3_4 (val_main_v28 (F := F) x5)
abbrev idx_main_v29 (i : S2x32768x4x4x64.Idx) : S2x1x4x1x64.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨0, Nat.one_pos⟩
  | ⟨4, _⟩ => ⟨(i 4).val, (i 4).isLt⟩
theorem val_main_v29_apply (x5 : (⟨S2x4x64, .f32⟩ : BufTy).Contents (Elt F)) (i : S2x32768x4x4x64.Idx) :
    val_main_v29 (F := F) x5 i = val_main_v28 (F := F) x5 (idx_main_v29 i) := by
  unfold val_main_v29
  generalize val_main_v28 (F := F) x5 = y
  exact broadcastInDim_apply _ bcast_S2x1x4x1x64_S2x32768x4x4x64_0_1_2_3_4 y i (idx_main_v29 i) (fun a => match a with
    | ⟨0, _⟩ => by show (i 0).val = if (2 : Nat) = 1 then 0 else (i 0).val; rw [if_neg (by decide)]
    | ⟨1, _⟩ => by show 0 = if (1 : Nat) = 1 then 0 else (i 1).val; rw [if_pos rfl]
    | ⟨2, _⟩ => by show (i 2).val = if (4 : Nat) = 1 then 0 else (i 2).val; rw [if_neg (by decide)]
    | ⟨3, _⟩ => by show 0 = if (1 : Nat) = 1 then 0 else (i 3).val; rw [if_pos rfl]
    | ⟨4, _⟩ => by show (i 4).val = if (64 : Nat) = 1 then 0 else (i 4).val; rw [if_neg (by decide)])

-- %30 = stablehlo.multiply %27, %29 : tensor<2x32768x4x4x64xf32>
def val_main_v30 (x1 : (⟨S2x16x32768, .f32⟩ : BufTy).Contents (Elt F)) (x3 : (⟨S2x4x32768, .f32⟩ : BufTy).Contents (Elt F)) (x5 : (⟨S2x4x64, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) : (⟨S2x32768x4x4x64, .f32⟩ : BufTy).Contents (Elt F) :=
  mulf (val_main_v27 (F := F) x1 x3 r0 r1 r2) (val_main_v29 (F := F) x5)
theorem val_main_v30_apply (x1 : (⟨S2x16x32768, .f32⟩ : BufTy).Contents (Elt F)) (x3 : (⟨S2x4x32768, .f32⟩ : BufTy).Contents (Elt F)) (x5 : (⟨S2x4x64, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) (i : S2x32768x4x4x64.Idx) :
    val_main_v30 (F := F) x1 x3 x5 r0 r1 r2 i = FloatOps.mulf (val_main_v27 (F := F) x1 x3 r0 r1 r2 i) (val_main_v29 (F := F) x5 i) := rfl

-- %31 = stablehlo.transpose %19, dims = [0, 3, 1, 2] : (tensor<2x4x4x32768xf32>) -> tensor<2x32768x4x4xf32>
def val_main_v31 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x32768x4x4, .f32⟩ : BufTy).Contents (Elt F) :=
  transpose S2x32768x4x4 [0, 3, 1, 2] (val_main_v19 (F := F) x1 x3 r0 r1) transposes_S2x4x4x32768_S2x32768x4x4_0_3_1_2
abbrev idx_main_v31 (i : S2x32768x4x4.Idx) : S2x4x4x32768.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
theorem val_main_v31_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x32768x4x4.Idx) :
    val_main_v31 (F := F) x1 x3 r0 r1 i = val_main_v19 (F := F) x1 x3 r0 r1 (idx_main_v31 i) := by
  unfold val_main_v31
  generalize val_main_v19 (F := F) x1 x3 r0 r1 = y
  exact transpose_apply [0, 3, 1, 2] y transposes_S2x4x4x32768_S2x32768x4x4_0_3_1_2 i (idx_main_v31 i) (fun b => match b with
    | ⟨0, _⟩ => rfl
    | ⟨1, _⟩ => rfl
    | ⟨2, _⟩ => rfl
    | ⟨3, _⟩ => rfl)

-- %cst_5 = stablehlo.constant dense<3.906250e-03> : tensor<f32>
def val_main_cst_5 : (⟨S_, .f32⟩ : BufTy).Contents (Elt F) :=
  constant S_ .f32 0x3B800000#32
theorem val_main_cst_5_apply (i : S_.Idx) :
    val_main_cst_5 (F := F) i = FloatOps.ofBits .f32 0x3B800000#32 := rfl

-- %32 = stablehlo.broadcast_in_dim %cst_5, dims = [] : (tensor<f32>) -> tensor<2x32768x4x4xf32>
def val_main_v32 : (⟨S2x32768x4x4, .f32⟩ : BufTy).Contents (Elt F) :=
  broadcastInDim S2x32768x4x4 ![] bcast_S_S2x32768x4x4 (val_main_cst_5 (F := F))
abbrev idx_main_v32 (i : S2x32768x4x4.Idx) : S_.Idx := fun a => a.elim0
theorem val_main_v32_apply (i : S2x32768x4x4.Idx) :
    val_main_v32 (F := F) i = val_main_cst_5 (F := F) (idx_main_v32 i) := by
  unfold val_main_v32
  generalize val_main_cst_5 (F := F) = y
  exact broadcastInDim_apply _ bcast_S_S2x32768x4x4 y i (idx_main_v32 i) (fun a => a.elim0)

-- %33 = stablehlo.divide %32, %31 : tensor<2x32768x4x4xf32>
def val_main_v33 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x32768x4x4, .f32⟩ : BufTy).Contents (Elt F) :=
  Host.divf (val_main_v32 (F := F)) (val_main_v31 (F := F) x1 x3 r0 r1)
theorem val_main_v33_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x32768x4x4.Idx) :
    val_main_v33 (F := F) x1 x3 r0 r1 i = FloatOps.hostDivf (val_main_v32 (F := F) i) (val_main_v31 (F := F) x1 x3 r0 r1 i) := rfl

-- %34 = stablehlo.broadcast_in_dim %33, dims = [0, 1, 2, 3] : (tensor<2x32768x4x4xf32>) -> tensor<2x32768x4x4x1xf32>
def val_main_v34 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x32768x4x4x1, .f32⟩ : BufTy).Contents (Elt F) :=
  broadcastInDim S2x32768x4x4x1 ![0, 1, 2, 3] bcast_S2x32768x4x4_S2x32768x4x4x1_0_1_2_3 (val_main_v33 (F := F) x1 x3 r0 r1)
abbrev idx_main_v34 (i : S2x32768x4x4x1.Idx) : S2x32768x4x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v34_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x32768x4x4x1.Idx) :
    val_main_v34 (F := F) x1 x3 r0 r1 i = val_main_v33 (F := F) x1 x3 r0 r1 (idx_main_v34 i) := by
  unfold val_main_v34
  generalize val_main_v33 (F := F) x1 x3 r0 r1 = y
  exact broadcastInDim_apply _ bcast_S2x32768x4x4_S2x32768x4x4x1_0_1_2_3 y i (idx_main_v34 i) (fun a => match a with
    | ⟨0, _⟩ => by show (i 0).val = if (2 : Nat) = 1 then 0 else (i 0).val; rw [if_neg (by decide)]
    | ⟨1, _⟩ => by show (i 1).val = if (32768 : Nat) = 1 then 0 else (i 1).val; rw [if_neg (by decide)]
    | ⟨2, _⟩ => by show (i 2).val = if (4 : Nat) = 1 then 0 else (i 2).val; rw [if_neg (by decide)]
    | ⟨3, _⟩ => by show (i 3).val = if (4 : Nat) = 1 then 0 else (i 3).val; rw [if_neg (by decide)])

-- %35 = stablehlo.broadcast_in_dim %34, dims = [0, 1, 2, 3, 4] : (tensor<2x32768x4x4x1xf32>) -> tensor<2x32768x4x4x64xf32>
def val_main_v35 (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) : (⟨S2x32768x4x4x64, .f32⟩ : BufTy).Contents (Elt F) :=
  broadcastInDim S2x32768x4x4x64 ![0, 1, 2, 3, 4] bcast_S2x32768x4x4x1_S2x32768x4x4x64_0_1_2_3_4 (val_main_v34 (F := F) x1 x3 r0 r1)
abbrev idx_main_v35 (i : S2x32768x4x4x64.Idx) : S2x32768x4x4x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v35_apply (x1 : (⟨S2x16x32768, .f32⟩ : BufTy).Contents (Elt F)) (x3 : (⟨S2x4x32768, .f32⟩ : BufTy).Contents (Elt F)) (r0 : (⟨S2x32768x1024, .f32⟩ : BufTy).Contents (Elt F)) (r1 : (⟨S2x4x32768x64, .f32⟩ : BufTy).Contents (Elt F)) (i : S2x32768x4x4x64.Idx) :
    val_main_v35 (F := F) x1 x3 r0 r1 i = val_main_v34 (F := F) x1 x3 r0 r1 (idx_main_v35 i) := by
  unfold val_main_v35
  generalize val_main_v34 (F := F) x1 x3 r0 r1 = y
  exact broadcastInDim_apply _ bcast_S2x32768x4x4x1_S2x32768x4x4x64_0_1_2_3_4 y i (idx_main_v35 i) (fun a => match a with
    | ⟨0, _⟩ => by show (i 0).val = if (2 : Nat) = 1 then 0 else (i 0).val; rw [if_neg (by decide)]
    | ⟨1, _⟩ => by show (i 1).val = if (32768 : Nat) = 1 then 0 else (i 1).val; rw [if_neg (by decide)]
    | ⟨2, _⟩ => by show (i 2).val = if (4 : Nat) = 1 then 0 else (i 2).val; rw [if_neg (by decide)]
    | ⟨3, _⟩ => by show (i 3).val = if (4 : Nat) = 1 then 0 else (i 3).val; rw [if_neg (by decide)]
    | ⟨4, _⟩ => by show 0 = if (1 : Nat) = 1 then 0 else (i 4).val; rw [if_pos rfl])

-- %36 = stablehlo.multiply %30, %35 : tensor<2x32768x4x4x64xf32>
def val_main_v36 (x1 : (⟨S2x16x32768, .f32⟩ : BufTy).Contents (Elt F)) (x3 : (⟨S2x4x32768, .f32⟩ : BufTy).Contents (Elt F)) (x5 : (⟨S2x4x64, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) : (⟨S2x32768x4x4x64, .f32⟩ : BufTy).Contents (Elt F) :=
  mulf (val_main_v30 (F := F) x1 x3 x5 r0 r1 r2) (val_main_v35 (F := F) x1 x3 r0 r1)
theorem val_main_v36_apply (x1 : (⟨S2x16x32768, .f32⟩ : BufTy).Contents (Elt F)) (x3 : (⟨S2x4x32768, .f32⟩ : BufTy).Contents (Elt F)) (x5 : (⟨S2x4x64, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) (i : S2x32768x4x4x64.Idx) :
    val_main_v36 (F := F) x1 x3 x5 r0 r1 r2 i = FloatOps.mulf (val_main_v30 (F := F) x1 x3 x5 r0 r1 r2 i) (val_main_v35 (F := F) x1 x3 r0 r1 i) := rfl

-- %37 = stablehlo.reshape %36 : (tensor<2x32768x4x4x64xf32>) -> tensor<2x32768x1024xf32>
def val_main_v37 (x1 : (⟨S2x16x32768, .f32⟩ : BufTy).Contents (Elt F)) (x3 : (⟨S2x4x32768, .f32⟩ : BufTy).Contents (Elt F)) (x5 : (⟨S2x4x64, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) : (⟨S2x32768x1024, .f32⟩ : BufTy).Contents (Elt F) :=
  shapeCast _ (val_main_v36 (F := F) x1 x3 x5 r0 r1 r2) shapeCasts_S2x32768x4x4x64_S2x32768x1024
set_option backward.proofsInPublic true in
abbrev idx_main_v37 (i : S2x32768x1024.Idx) : S2x32768x4x4x64.Idx := fun a => match a with
  | ⟨0, _⟩ => ⟨(((i 0).val * 32768 + (i 1).val) * 1024 + (i 2).val) / 33554432, by have h0 : (i 0).val < 2 := (i 0).isLt; have h1 : (i 1).val < 32768 := (i 1).isLt; have h2 : (i 2).val < 1024 := (i 2).isLt; show (((i 0).val * 32768 + (i 1).val) * 1024 + (i 2).val) / 33554432 < 2; omega⟩
  | ⟨1, _⟩ => ⟨(((i 0).val * 32768 + (i 1).val) * 1024 + (i 2).val) / 1024 % 32768, by have h0 : (i 0).val < 2 := (i 0).isLt; have h1 : (i 1).val < 32768 := (i 1).isLt; have h2 : (i 2).val < 1024 := (i 2).isLt; show (((i 0).val * 32768 + (i 1).val) * 1024 + (i 2).val) / 1024 % 32768 < 32768; omega⟩
  | ⟨2, _⟩ => ⟨(((i 0).val * 32768 + (i 1).val) * 1024 + (i 2).val) / 256 % 4, by have h0 : (i 0).val < 2 := (i 0).isLt; have h1 : (i 1).val < 32768 := (i 1).isLt; have h2 : (i 2).val < 1024 := (i 2).isLt; show (((i 0).val * 32768 + (i 1).val) * 1024 + (i 2).val) / 256 % 4 < 4; omega⟩
  | ⟨3, _⟩ => ⟨(((i 0).val * 32768 + (i 1).val) * 1024 + (i 2).val) / 64 % 4, by have h0 : (i 0).val < 2 := (i 0).isLt; have h1 : (i 1).val < 32768 := (i 1).isLt; have h2 : (i 2).val < 1024 := (i 2).isLt; show (((i 0).val * 32768 + (i 1).val) * 1024 + (i 2).val) / 64 % 4 < 4; omega⟩
  | ⟨4, _⟩ => ⟨(((i 0).val * 32768 + (i 1).val) * 1024 + (i 2).val) % 64, by have h0 : (i 0).val < 2 := (i 0).isLt; have h1 : (i 1).val < 32768 := (i 1).isLt; have h2 : (i 2).val < 1024 := (i 2).isLt; show (((i 0).val * 32768 + (i 1).val) * 1024 + (i 2).val) % 64 < 64; omega⟩
theorem val_main_v37_apply (x1 : (⟨S2x16x32768, .f32⟩ : BufTy).Contents (Elt F)) (x3 : (⟨S2x4x32768, .f32⟩ : BufTy).Contents (Elt F)) (x5 : (⟨S2x4x64, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) (i : S2x32768x1024.Idx) :
    val_main_v37 (F := F) x1 x3 x5 r0 r1 r2 i = val_main_v36 (F := F) x1 x3 x5 r0 r1 r2 (idx_main_v37 i) := by
  unfold val_main_v37
  generalize val_main_v36 (F := F) x1 x3 x5 r0 r1 r2 = y
  exact shapeCast_apply y shapeCasts_S2x32768x4x4x64_S2x32768x1024 i (idx_main_v37 i)
    (by rewrite [Shape.rowMajor_val_five, Shape.rowMajor_val_three]; have h0 : (i 0).val < 2 := (i 0).isLt; have h1 : (i 1).val < 32768 := (i 1).isLt; have h2 : (i 2).val < 1024 := (i 2).isLt; show ((((((i 0).val * 32768 + (i 1).val) * 1024 + (i 2).val) / 33554432 * 32768 + (((i 0).val * 32768 + (i 1).val) * 1024 + (i 2).val) / 1024 % 32768) * 4 + (((i 0).val * 32768 + (i 1).val) * 1024 + (i 2).val) / 256 % 4) * 4 + (((i 0).val * 32768 + (i 1).val) * 1024 + (i 2).val) / 64 % 4) * 64 + (((i 0).val * 32768 + (i 1).val) * 1024 + (i 2).val) % 64 = ((i 0).val * 32768 + (i 1).val) * 1024 + (i 2).val; omega)

-- %38 = stablehlo.convert %37 : (tensor<2x32768x1024xf32>) -> tensor<2x32768x1024xbf16>
def val_main_v38 (x1 : (⟨S2x16x32768, .f32⟩ : BufTy).Contents (Elt F)) (x3 : (⟨S2x4x32768, .f32⟩ : BufTy).Contents (Elt F)) (x5 : (⟨S2x4x64, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) : (⟨S2x32768x1024, .bf16⟩ : BufTy).Contents (Elt F) :=
  truncf .bf16 (val_main_v37 (F := F) x1 x3 x5 r0 r1 r2) bitsLt_bf16_f32
theorem val_main_v38_apply (x1 : (⟨S2x16x32768, .f32⟩ : BufTy).Contents (Elt F)) (x3 : (⟨S2x4x32768, .f32⟩ : BufTy).Contents (Elt F)) (x5 : (⟨S2x4x64, .f32⟩ : BufTy).Contents (Elt F)) (r0 : (⟨S2x32768x1024, .f32⟩ : BufTy).Contents (Elt F)) (r1 : (⟨S2x4x32768x64, .f32⟩ : BufTy).Contents (Elt F)) (r2 : (⟨S2x256x32768, .f32⟩ : BufTy).Contents (Elt F)) (i : S2x32768x1024.Idx) :
    val_main_v38 (F := F) x1 x3 x5 r0 r1 r2 i = FloatOps.truncf .bf16 bitsLt_bf16_f32 (val_main_v37 (F := F) x1 x3 x5 r0 r1 r2 i) := rfl

/-- The term the Run module states for `main_v38` over any contents `V0` is the stage. -/
theorem val_main_v38_eq (V0 : Valuation τ sig (Elt F)) :
    truncf .bf16 (shapeCast _ (mulf (mulf (transpose S2x32768x4x4x64 [0, 4, 1, 3, 2] (Host.dotGeneral dot_S2x4x64x32768_S2x4x4x32768x32768_S2x4x64x4x32768_3_4_2_23_01_01 none (shapeCast _ (V0 (Proc.devRef .tc main_v0_2)) shapeCasts_S2x256x32768_S2x4x64x32768) (minimumf (maximumf (mulf (Host.exp (subf (mulf (mulf (transpose S2x4x4x32768x32768 [0, 1, 4, 3, 2] (Host.dotGeneral dot_S2x4x32768x64_S2x32768x4x4x64_S2x4x32768x32768x4_3_4_2_13_01_02 none (V0 (Proc.devRef .tc main_v0_1)) (shapeCast _ (V0 (Proc.devRef .tc main_v0_0)) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (V0 (Proc.devRef .tc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (V0 (Proc.devRef .tc main_arg3))))) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (Host.reduce FloatOps.maximumf (mulf (mulf (transpose S2x4x4x32768x32768 [0, 1, 4, 3, 2] (Host.dotGeneral dot_S2x4x32768x64_S2x32768x4x4x64_S2x4x32768x32768x4_3_4_2_13_01_02 none (V0 (Proc.devRef .tc main_v0_1)) (shapeCast _ (V0 (Proc.devRef .tc main_v0_0)) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (V0 (Proc.devRef .tc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (V0 (Proc.devRef .tc main_arg3))))) (constant S_ .f32 0xFF800000#32) reducesTo_S2x4x4x32768x32768_S2x4x4x32768_d4 h_S_))))) (broadcastInDim S2x4x4x32768x32768 ![] bcast_S_S2x4x4x32768x32768 (constant S_ .f32 0x43800000#32))) (broadcastInDim S2x4x4x32768x32768 ![] bcast_S_S2x4x4x32768x32768 (constant S_ .f32 0xC3E00000#32))) (broadcastInDim S2x4x4x32768x32768 ![] bcast_S_S2x4x4x32768x32768 (constant S_ .f32 0x43E00000#32)))) transposes_S2x4x64x4x32768_S2x32768x4x4x64_0_4_1_3_2) (broadcastInDim S2x32768x4x4x64 ![0, 1, 2, 3, 4] bcast_S2x1x4x1x64_S2x32768x4x4x64_0_1_2_3_4 (broadcastInDim S2x1x4x1x64 ![0, 2, 4] bcast_S2x4x64_S2x1x4x1x64_0_2_4 (V0 (Proc.devRef .tc main_arg5))))) (broadcastInDim S2x32768x4x4x64 ![0, 1, 2, 3, 4] bcast_S2x32768x4x4x1_S2x32768x4x4x64_0_1_2_3_4 (broadcastInDim S2x32768x4x4x1 ![0, 1, 2, 3] bcast_S2x32768x4x4_S2x32768x4x4x1_0_1_2_3 (Host.divf (broadcastInDim S2x32768x4x4 ![] bcast_S_S2x32768x4x4 (constant S_ .f32 0x3B800000#32)) (transpose S2x32768x4x4 [0, 3, 1, 2] (Host.reduceAdd (Host.exp (subf (mulf (mulf (transpose S2x4x4x32768x32768 [0, 1, 4, 3, 2] (Host.dotGeneral dot_S2x4x32768x64_S2x32768x4x4x64_S2x4x32768x32768x4_3_4_2_13_01_02 none (V0 (Proc.devRef .tc main_v0_1)) (shapeCast _ (V0 (Proc.devRef .tc main_v0_0)) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (V0 (Proc.devRef .tc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (V0 (Proc.devRef .tc main_arg3))))) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (Host.reduce FloatOps.maximumf (mulf (mulf (transpose S2x4x4x32768x32768 [0, 1, 4, 3, 2] (Host.dotGeneral dot_S2x4x32768x64_S2x32768x4x4x64_S2x4x32768x32768x4_3_4_2_13_01_02 none (V0 (Proc.devRef .tc main_v0_1)) (shapeCast _ (V0 (Proc.devRef .tc main_v0_0)) shapeCasts_S2x32768x1024_S2x32768x4x4x64)) transposes_S2x4x32768x32768x4_S2x4x4x32768x32768_0_1_4_3_2) (broadcastInDim S2x4x4x32768x32768 ![0, 1, 2, 3, 4] bcast_S2x4x4x32768x1_S2x4x4x32768x32768_0_1_2_3_4 (broadcastInDim S2x4x4x32768x1 ![0, 1, 2, 3] bcast_S2x4x4x32768_S2x4x4x32768x1_0_1_2_3 (mulf (shapeCast _ (V0 (Proc.devRef .tc main_arg1)) shapeCasts_S2x16x32768_S2x4x4x32768) (broadcastInDim S2x4x4x32768 ![] bcast_S_S2x4x4x32768 (constant S_ .f32 0x3E000000#32)))))) (broadcastInDim S2x4x4x32768x32768 ![0, 1, 2, 3, 4] bcast_S2x4x1x1x32768_S2x4x4x32768x32768_0_1_2_3_4 (broadcastInDim S2x4x1x1x32768 ![0, 1, 4] bcast_S2x4x32768_S2x4x1x1x32768_0_1_4 (V0 (Proc.devRef .tc main_arg3))))) (constant S_ .f32 0xFF800000#32) reducesTo_S2x4x4x32768x32768_S2x4x4x32768_d4 h_S_))))) (constant S_ .f32 0x00000000#32) reducesTo_S2x4x4x32768x32768_S2x4x4x32768_d4 h_S_) transposes_S2x4x4x32768_S2x32768x4x4_0_3_1_2))))) shapeCasts_S2x32768x4x4x64_S2x32768x1024) bitsLt_bf16_f32
      = val_main_v38 (F := F) (V0 (Proc.devRef .tc main_arg1)) (V0 (Proc.devRef .tc main_arg3)) (V0 (Proc.devRef .tc main_arg5)) (V0 (Proc.devRef .tc main_v0_0)) (V0 (Proc.devRef .tc main_v0_1)) (V0 (Proc.devRef .tc main_v0_2)) := rfl

end Cert.ReferenceIdeal.Read

end
-- ==== Proof.RefVal.lean ====
/- The reference's result read at an index: for each output element one softmax row over the keys. -/
module

public import proofs.«01_k».proof.Proof.RefRead
public import Idealize.ShloMosaic.Lib.ValueIdxCore

@[expose] public section

noncomputable section

namespace Cert.ReferenceIdeal.Read

open Cert.ReferenceIdeal Cert.ReferenceIdeal.Gen Cert.ReferenceIdeal.Value
open Idealize.ShloMosaic Idealize.ShloMosaic.TcCoe Idealize.ShloMosaic.ValueIdx Idealize.SL.Sem

/-- Lane `256G + 64g + d` of a query row. -/
abbrev lq (G g : Fin 4) (d : Fin 64) : Fin 1024 := ⟨256 * G.val + 64 * g.val + d.val, by omega⟩
/-- Query head `4G + g`. -/
abbrev hq (G g : Fin 4) : Fin 16 := ⟨4 * G.val + g.val, by omega⟩
/-- Value row `64G + d`. -/
abbrev rv (G : Fin 4) (d : Fin 64) : Fin 256 := ⟨64 * G.val + d.val, by omega⟩

variable (x1 : (⟨S2x16x32768, .f32⟩ : BufTy).Contents (Elt Ideal)) (x3 : (⟨S2x4x32768, .f32⟩ : BufTy).Contents (Elt Ideal)) (x5 : (⟨S2x4x64, .f32⟩ : BufTy).Contents (Elt Ideal)) (r0 : (⟨S2x32768x1024, .f32⟩ : BufTy).Contents (Elt Ideal)) (r1 : (⟨S2x4x32768x64, .f32⟩ : BufTy).Contents (Elt Ideal)) (r2 : (⟨S2x256x32768, .f32⟩ : BufTy).Contents (Elt Ideal))

/-- The dot product of key row `k` with the query. -/
def rdot (B : Fin 2) (G g : Fin 4) (s k : Fin 32768) : EReal :=
  ∑ d : Fin 64, (r1 (ix4 B G k d) : EReal) * r0 (ix3 B s (lq G g d))

/-- The reference's score of key `k`. -/
def rs (B : Fin 2) (G g : Fin 4) (s k : Fin 32768) : EReal :=
  rdot r0 r1 B G g s k * ((x1 (ix3 B (hq G g) s) : EReal) * Ideal.ofBits .f32 0x3E000000#32) * (x3 (ix3 B G k) : EReal)

theorem v5_at (B : Fin 2) (G g : Fin 4) (s k : Fin 32768) :
    val_main_v5 (F := Ideal) r0 r1 (ix5 B G g s k) = rdot r0 r1 B G g s k := by
  rw [val_main_v5_apply, val_main_v4_apply]
  refine Finset.sum_congr rfl fun d _ => ?_
  refine congrArg₂ (· * ·) (congrArg r1 (funext fun a => ?_)) ?_
  · match a with | ⟨0, _⟩ => rfl | ⟨1, _⟩ => rfl | ⟨2, _⟩ => rfl | ⟨3, _⟩ => rfl
  rw [val_main_v1_apply]
  refine congrArg r0 (funext fun a => Fin.ext ?_)
  have hB := B.isLt; have hG := G.isLt; have hg := g.isLt; have hs := s.isLt; have hd := d.isLt
  match a with
  | ⟨0, _⟩ => show ((((B.val * 32768 + s.val) * 4 + G.val) * 4 + g.val) * 64 + d.val) / 33554432 = B.val; omega
  | ⟨1, _⟩ => show ((((B.val * 32768 + s.val) * 4 + G.val) * 4 + g.val) * 64 + d.val) / 1024 % 32768 = s.val; omega
  | ⟨2, _⟩ => show ((((B.val * 32768 + s.val) * 4 + G.val) * 4 + g.val) * 64 + d.val) % 1024 = 256 * G.val + 64 * g.val + d.val; omega

theorem v9_at (B : Fin 2) (G g : Fin 4) (s k : Fin 32768) :
    val_main_v9 (F := Ideal) x1 (ix5 B G g s k) = (x1 (ix3 B (hq G g) s) : EReal) * Ideal.ofBits .f32 0x3E000000#32 := by
  rw [val_main_v9_apply, val_main_v8_apply, val_main_v7_apply, val_main_v3_apply, val_main_v6_apply, val_main_cst_apply]
  refine congrArg₂ (· * ·) (congrArg x1 (funext fun a => Fin.ext ?_)) rfl
  have hB := B.isLt; have hG := G.isLt; have hg := g.isLt; have hs := s.isLt
  match a with
  | ⟨0, _⟩ => show (((B.val * 4 + G.val) * 4 + g.val) * 32768 + s.val) / 524288 = B.val; omega
  | ⟨1, _⟩ => show (((B.val * 4 + G.val) * 4 + g.val) * 32768 + s.val) / 32768 % 16 = 4 * G.val + g.val; omega
  | ⟨2, _⟩ => show (((B.val * 4 + G.val) * 4 + g.val) * 32768 + s.val) % 32768 = s.val; omega

theorem v12_at (B : Fin 2) (G g : Fin 4) (s k : Fin 32768) :
    val_main_v12 (F := Ideal) x3 (ix5 B G g s k) = x3 (ix3 B G k) := by
  rw [val_main_v12_apply, val_main_v11_apply]
  refine congrArg x3 (funext fun a => ?_)
  match a with | ⟨0, _⟩ => rfl | ⟨1, _⟩ => rfl | ⟨2, _⟩ => rfl

theorem v13_at (B : Fin 2) (G g : Fin 4) (s k : Fin 32768) :
    val_main_v13 (F := Ideal) x1 x3 r0 r1 (ix5 B G g s k) = rs x1 x3 r0 r1 B G g s k := by
  rw [val_main_v13_apply, val_main_v10_apply, v5_at, v9_at, v12_at]; rfl

/-- A fold of `max` from the least value is the supremum. -/
theorem fold_max_eq {n : Nat} (f : Fin n → EReal) (g : EReal → EReal → EReal) [Std.Commutative g] [Std.Associative g] (hg : g = max)
    (b : EReal) (hb : b = ⊥) :
    (Finset.univ : Finset (Fin n)).fold g b f = ⨆ k, f k := by
  subst hg hb
  refine le_antisymm ?_ ?_
  · exact (Finset.fold_max_le _).2 ⟨bot_le, fun x _ => le_iSup f x⟩
  · exact iSup_le fun k => (Finset.le_fold_max _).2 (Or.inr ⟨k, Finset.mem_univ k, le_rfl⟩)

/-- The greatest score of a row. -/
theorem v14_at (B : Fin 2) (G g : Fin 4) (s : Fin 32768) :
    val_main_v14 (F := Ideal) x1 x3 r0 r1 (ix4 B G g s) = ⨆ k, rs x1 x3 r0 r1 B G g s k := by
  unfold val_main_v14
  have hv := v13_at x1 x3 r0 r1 B G g s
  generalize val_main_v13 (F := Ideal) x1 x3 r0 r1 = y at hv ⊢
  rw [Host.reduce_eq_fold_single _ _ _ reducesTo_S2x4x4x32768x32768_S2x4x4x32768_d4 (by decide)]
  refine (fold_max_eq _ _ rfl _ (by
    rw [val_main_cst_0_apply]
    show Ideal.ofBits .f32 0xFF800000#32 = ⊥
    simp [Ideal.ofBits, Ideal.ieee])).trans (iSup_congr fun k => ?_)
  refine Eq.trans (congrArg y (funext fun a => Fin.ext ?_)) (hv k)
  match a with | ⟨0, _⟩ => rfl | ⟨1, _⟩ => rfl | ⟨2, _⟩ => rfl | ⟨3, _⟩ => rfl | ⟨4, _⟩ => rfl

theorem v18_at (B : Fin 2) (G g : Fin 4) (s k : Fin 32768) :
    val_main_v18 (F := Ideal) x1 x3 r0 r1 (ix5 B G g s k)
      = Ideal.exp (rs x1 x3 r0 r1 B G g s k - ⨆ k, rs x1 x3 r0 r1 B G g s k) := by
  rw [val_main_v18_apply, val_main_v17_apply, v13_at, val_main_v16_apply, val_main_v15_apply]
  refine Eq.trans ?_ (congrArg (fun z => Ideal.exp (rs x1 x3 r0 r1 B G g s k - z)) (v14_at x1 x3 r0 r1 B G g s))
  refine congrArg (fun z => Ideal.exp (rs x1 x3 r0 r1 B G g s k - z)) (congrArg (val_main_v14 (F := Ideal) x1 x3 r0 r1) (funext fun a => ?_))
  match a with | ⟨0, _⟩ => rfl | ⟨1, _⟩ => rfl | ⟨2, _⟩ => rfl | ⟨3, _⟩ => rfl

theorem v19_at (B : Fin 2) (G g : Fin 4) (s : Fin 32768) :
    val_main_v19 (F := Ideal) x1 x3 r0 r1 (ix4 B G g s)
      = ∑ k, Ideal.exp (rs x1 x3 r0 r1 B G g s k - ⨆ k, rs x1 x3 r0 r1 B G g s k) := by
  rw [val_main_v19_apply, val_main_cst_1_apply]
  refine (congrArg₂ (· + ·) (Ideal.ofBits_zero_f32) (Finset.sum_congr rfl fun k _ => ?_)).trans (zero_add _)
  refine Eq.trans (congrArg (val_main_v18 (F := Ideal) x1 x3 r0 r1) (funext fun a => ?_)) (v18_at x1 x3 r0 r1 B G g s k)
  match a with | ⟨0, _⟩ => rfl | ⟨1, _⟩ => rfl | ⟨2, _⟩ => rfl | ⟨3, _⟩ => rfl | ⟨4, _⟩ => rfl

theorem v25_at (B : Fin 2) (G g : Fin 4) (s k : Fin 32768) :
    val_main_v25 (F := Ideal) x1 x3 r0 r1 (ix5 B G g s k)
      = min (max (Ideal.exp (rs x1 x3 r0 r1 B G g s k - ⨆ k, rs x1 x3 r0 r1 B G g s k) * Ideal.ofBits .f32 0x43800000#32)
          (Ideal.ofBits .f32 0xC3E00000#32)) (Ideal.ofBits .f32 0x43E00000#32) := by
  rw [val_main_v25_apply, val_main_v23_apply, val_main_v21_apply, v18_at, val_main_v24_apply, val_main_v22_apply,
    val_main_v20_apply, val_main_cst_2_apply, val_main_cst_3_apply, val_main_cst_4_apply]
  rfl

theorem v26_at (B : Fin 2) (G g : Fin 4) (d : Fin 64) (s : Fin 32768) :
    val_main_v26 (F := Ideal) x1 x3 r0 r1 r2 (ix5 B G d g s)
      = ∑ k : Fin 32768, (r2 (ix3 B (rv G d) k) : EReal)
          * min (max (Ideal.exp (rs x1 x3 r0 r1 B G g s k - ⨆ k, rs x1 x3 r0 r1 B G g s k) * Ideal.ofBits .f32 0x43800000#32)
          (Ideal.ofBits .f32 0xC3E00000#32)) (Ideal.ofBits .f32 0x43E00000#32) := by
  rw [val_main_v26_apply]
  refine Finset.sum_congr rfl fun k _ => ?_
  refine congrArg₂ (· * ·) ?_ ?_
  · rw [val_main_v2_apply]
    refine congrArg r2 (funext fun a => Fin.ext ?_)
    have hB := B.isLt; have hG := G.isLt; have hs := k.isLt; have hd := d.isLt
    match a with
    | ⟨0, _⟩ => show (((B.val * 4 + G.val) * 64 + d.val) * 32768 + k.val) / 8388608 = B.val; omega
    | ⟨1, _⟩ => show (((B.val * 4 + G.val) * 64 + d.val) * 32768 + k.val) / 32768 % 256 = 64 * G.val + d.val; omega
    | ⟨2, _⟩ => show (((B.val * 4 + G.val) * 64 + d.val) * 32768 + k.val) % 32768 = k.val; omega
  · refine Eq.trans (congrArg (val_main_v25 (F := Ideal) x1 x3 r0 r1) (funext fun a => ?_)) (v25_at x1 x3 r0 r1 B G g s k)
    match a with | ⟨0, _⟩ => rfl | ⟨1, _⟩ => rfl | ⟨2, _⟩ => rfl | ⟨3, _⟩ => rfl | ⟨4, _⟩ => rfl

/-- The reference's result at batch entry `B`, row `s`, lane `256G + 64g + d`. -/
theorem v38_at (B : Fin 2) (G g : Fin 4) (d : Fin 64) (s : Fin 32768) :
    val_main_v38 (F := Ideal) x1 x3 x5 r0 r1 r2 (ix3 B s (lq G g d))
      = ((∑ k : Fin 32768, (r2 (ix3 B (rv G d) k) : EReal)
          * min (max (Ideal.exp (rs x1 x3 r0 r1 B G g s k - ⨆ k, rs x1 x3 r0 r1 B G g s k) * Ideal.ofBits .f32 0x43800000#32)
            (Ideal.ofBits .f32 0xC3E00000#32)) (Ideal.ofBits .f32 0x43E00000#32)) * (x5 (ix3 B G d) : EReal))
        * Ideal.div (Ideal.ofBits .f32 0x3B800000#32)
          (∑ k, Ideal.exp (rs x1 x3 r0 r1 B G g s k - ⨆ k, rs x1 x3 r0 r1 B G g s k)) := by
  have hi : idx_main_v37 (ix3 B s (lq G g d)) = ix5 B s G g d := by
    funext a
    refine Fin.ext ?_
    have hB := B.isLt; have hG := G.isLt; have hg := g.isLt; have hs := s.isLt; have hd := d.isLt
    match a with
    | ⟨0, _⟩ => show ((B.val * 32768 + s.val) * 1024 + (256 * G.val + 64 * g.val + d.val)) / 33554432 = B.val; omega
    | ⟨1, _⟩ => show ((B.val * 32768 + s.val) * 1024 + (256 * G.val + 64 * g.val + d.val)) / 1024 % 32768 = s.val; omega
    | ⟨2, _⟩ => show ((B.val * 32768 + s.val) * 1024 + (256 * G.val + 64 * g.val + d.val)) / 256 % 4 = G.val; omega
    | ⟨3, _⟩ => show ((B.val * 32768 + s.val) * 1024 + (256 * G.val + 64 * g.val + d.val)) / 64 % 4 = g.val; omega
    | ⟨4, _⟩ => show ((B.val * 32768 + s.val) * 1024 + (256 * G.val + 64 * g.val + d.val)) % 64 = d.val; omega
  rw [val_main_v38_apply, val_main_v37_apply, hi, val_main_v36_apply, val_main_v30_apply, val_main_v27_apply,
    val_main_v29_apply, val_main_v28_apply, val_main_v35_apply, val_main_v34_apply, val_main_v33_apply]
  refine congrArg₂ (· * ·) (congrArg₂ (· * ·) ?_ ?_) (congrArg₂ Ideal.div ?_ ?_)
  · refine Eq.trans (congrArg (val_main_v26 (F := Ideal) x1 x3 r0 r1 r2) (funext fun a => ?_)) (v26_at x1 x3 r0 r1 r2 B G g d s)
    match a with | ⟨0, _⟩ => rfl | ⟨1, _⟩ => rfl | ⟨2, _⟩ => rfl | ⟨3, _⟩ => rfl | ⟨4, _⟩ => rfl
  · refine congrArg x5 (funext fun a => ?_)
    match a with | ⟨0, _⟩ => rfl | ⟨1, _⟩ => rfl | ⟨2, _⟩ => rfl
  · rw [val_main_v32_apply, val_main_cst_5_apply]; rfl
  · rw [val_main_v31_apply]
    refine Eq.trans (congrArg (val_main_v19 (F := Ideal) x1 x3 r0 r1) (funext fun a => ?_)) (v19_at x1 x3 r0 r1 B G g s)
    match a with | ⟨0, _⟩ => rfl | ⟨1, _⟩ => rfl | ⟨2, _⟩ => rfl | ⟨3, _⟩ => rfl

end Cert.ReferenceIdeal.Read

end
-- ==== Proof.RefArr.lean ====
/- The widened arrays the reference's region leaves are the codes read as numbers. -/
module

public import proofs.«01_k».proof.Proof.RefRun
public import Idealize.ShloMosaic.PureOps.Ideal.Laws
public import Idealize.ShloMosaic.Lib.Pipeline.Value
public import Idealize.ShloMosaic.Lib.Pipeline.ValueKit.Geometry
public import Idealize.ShloMosaic.Lib.Pipeline.ValueKit.Acc

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ)

theorem arr_0 (c : Dev nD) : (reg_main_v0_0 m c : S2x32768x1024.Idx → EReal) = (m ((c.tc : Thread nD τ).loc main_arg0) : S2x32768x1024.Idx → EReal) := by
  unfold reg_main_v0_0
  refine (Gen.dats m 0 c).arrAt_eq_of_covers 3 (m ((c.tc : Thread nD τ).loc main_arg0) : S2x32768x1024.Idx → EReal) (by decide +kernel) fun t hf y => ?_
  blk_simp
  rw [after0_3]
  frame_out
  show (iblk m c 0 t y : EReal) = _
  blk_simp [iblk]
  try rfl

theorem arr_1 (c : Dev nD) : (reg_main_v0_1 m c : S2x4x32768x64.Idx → EReal) = (m ((c.tc : Thread nD τ).loc main_arg2) : S2x4x32768x64.Idx → EReal) := by
  unfold reg_main_v0_1
  refine (Gen.dats m 0 c).arrAt_eq_of_covers 4 (m ((c.tc : Thread nD τ).loc main_arg2) : S2x4x32768x64.Idx → EReal) (by decide +kernel) fun t hf y => ?_
  blk_simp
  rw [after0_4]
  frame_out
  show (iblk m c 1 t y : EReal) = _
  blk_simp [iblk]
  try rfl

theorem arr_2 (c : Dev nD) : (reg_main_v0_2 m c : S2x256x32768.Idx → EReal) = (m ((c.tc : Thread nD τ).loc main_arg4) : S2x256x32768.Idx → EReal) := by
  unfold reg_main_v0_2
  refine (Gen.dats m 0 c).arrAt_eq_of_covers 5 (m ((c.tc : Thread nD τ).loc main_arg4) : S2x256x32768.Idx → EReal) (by decide +kernel) fun t hf y => ?_
  blk_simp
  rw [after0_5]
  frame_out
  show (iblk m c 2 t y : EReal) = _
  blk_simp [iblk]
  try rfl

end Cert.ReferenceIdeal.Value

end
-- ==== Proof.Agree.lean ====
/- The kernel and the reference over the reals end with the same result. -/
module

public import proofs.«01_k».proof.Defs
public import proofs.«01_k».proof.Proof.ValFrame
public import proofs.«01_k».proof.Proof.ValRes
public import proofs.«01_k».proof.Proof.RefVal
public import proofs.«01_k».proof.Proof.RefArr

@[expose] public section

set_option maxRecDepth 16384

noncomputable section

namespace Cert.Proof

open Idealize.ShloMosaic Idealize.ShloMosaic.TcCoe Idealize.SL.Sem

/-- The precondition's one shape fact. -/
instance preFacts : Cert.Pre_scales_normal.Facts where
  bcast_S_S2x16x32768 := by decide

section
open Cert.KernelIdeal Cert.KernelIdeal.Val

/-- The precondition at a query's scale. -/
theorem pre_at (m : (ℓ : Loc Cert.KernelIdeal.nD Cert.KernelIdeal.τ Cert.KernelIdeal.sig) → Buf (Elt Ideal) ℓ)
    (h : Cert.Pre_KernelIdeal_scales_normal m) (c : Dev Cert.KernelIdeal.nD) (y : Cert.KernelIdeal.S2x16x32768.Idx) :
    Ideal.ofBits .f32 0x03000000#32 ≤ A1 m c y ∧ A1 m c y < Ideal.ofBits .f32 0x7F800000#32 := by
  have e := congrFun (h c) y
  change (Ideal.cmp .oge (A1 m c y) (Ideal.ofBits .f32 0x03000000#32)) &&& (Ideal.cmp .olt (A1 m c y) (Ideal.ofBits .f32 0x7F800000#32)) = 1#1 at e
  generalize A1 m c y = x at e ⊢
  unfold Ideal.cmp at e
  constructor
  · by_contra hn
    simp [hn] at e
  · by_contra hn
    simp [hn] at e

/-- The result array at batch `B`, row `s`, lane `256 G + 64 g + d`. -/
theorem outG_ref (m : (ℓ : Loc Cert.KernelIdeal.nD Cert.KernelIdeal.τ Cert.KernelIdeal.sig) → Buf (Elt Ideal) ℓ)
    (h : Cert.Pre_KernelIdeal_scales_normal m) (c : Dev Cert.KernelIdeal.nD) (B : Fin 2) (G g : Fin 4) (d : Fin 64) (s : Fin 32768) :
    outG m c (ix3 B s (⟨256 * G.val + 64 * g.val + d.val, by omega⟩ : Fin 1024)) = refA m c B G g d s := by
  have hB := B.isLt; have hG := G.isLt; have hg := g.isLt; have hd := d.isLt; have hs := s.isLt
  have hp := pre_at m h c (ix3 B (⟨4 * G.val + g.val, by omega⟩ : Fin 16) s)
  refine outT_ref m c B G g d (⟨s.val / 1024, by omega⟩ : Fin 32) (⟨s.val % 1024, Nat.mod_lt _ (by decide)⟩ : Fin 1024) s
    (by show s.val = 1024 * (s.val / 1024) + s.val % 1024; omega)
    (⟨(256 * G.val + 64 * g.val + d.val) % 256, Nat.mod_lt _ (by decide)⟩ : Fin 256)
    (by show (256 * G.val + 64 * g.val + d.val) % 256 = 64 * g.val + d.val; omega) _ ?_ hp.1 hp.2
  show (33 * (4 * B.val + (256 * G.val + 64 * g.val + d.val) / 256) + s.val / 1024 + 1) % 264 = 33 * (4 * B.val + G.val) + s.val / 1024 + 1
  omega
end

section
open Cert.ReferenceIdeal Cert.ReferenceIdeal.Value Cert.ReferenceIdeal.Read

/-- The reference's result as its last operation's value of the arguments. -/
theorem res_eq (m' : (ℓ : Loc Cert.ReferenceIdeal.nD Cert.ReferenceIdeal.τ Cert.ReferenceIdeal.sig) → Buf (Elt Ideal) ℓ) (c : Dev Cert.ReferenceIdeal.nD) :
    res_main_v38 m' c = val_main_v38 (F := Ideal) (m' ((c.tc : Thread nD τ).loc main_arg1)) (m' ((c.tc : Thread nD τ).loc main_arg3)) (m' ((c.tc : Thread nD τ).loc main_arg5))
      (reg_main_v0_0 m' c) (reg_main_v0_1 m' c) (reg_main_v0_2 m' c) := by
  have e := val_main_v38_eq (F := Ideal) (exitV m' c)
  rw [exit_main_arg1, exit_main_arg3, exit_main_arg5, exit_main_v0_0, exit_main_v0_1, exit_main_v0_2] at e
  exact e
end

/-- The two results agree at every index. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_scales_normal m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.res_main_v38 m' c : FVec Ideal Cert.KernelIdeal.S2x32768x1024 .bf16) = Cert.KernelIdeal.Val.outG m c := by
  rw [res_eq m' c]
  funext y
  obtain ⟨B, s, l, rfl⟩ : ∃ (B : Fin 2) (s : Fin 32768) (l : Fin 1024), y = ix3 B s l := ⟨y 0, y 1, y 2, funext fun a => by
    match a with | ⟨0, _⟩ => rfl | ⟨1, _⟩ => rfl | ⟨2, _⟩ => rfl⟩
  obtain ⟨G, g, d, rfl⟩ : ∃ (G g : Fin 4) (d : Fin 64), l = (⟨256 * G.val + 64 * g.val + d.val, by omega⟩ : Fin 1024) :=
    ⟨⟨l.val / 256, by omega⟩, ⟨l.val / 64 % 4, by omega⟩, ⟨l.val % 64, by omega⟩, Fin.ext (by
      show l.val = 256 * (l.val / 256) + 64 * (l.val / 64 % 4) + l.val % 64
      omega)⟩
  rw [outG_ref m h c B G g d s]
  refine (Cert.ReferenceIdeal.Read.v38_at _ _ _ _ _ _ B G g d s).trans ?_
  have r0 := (Cert.ReferenceIdeal.Value.arr_0 m' c).trans e0
  have r1 := (Cert.ReferenceIdeal.Value.arr_1 m' c).trans e2
  have r2 := (Cert.ReferenceIdeal.Value.arr_2 m' c).trans e4
  rw [r0, r1, r2, e1, e3, e5]
  rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.Agree
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, preFacts,
  fun m ρ _ => Cert.Kernel.Hand.frame m ρ,
  fun m ρ _ => (θ_run _ _ _).mono (fun _ h => ⟨fun c => (h.1 c).2, h.2⟩) (Cert.KernelIdeal.Val.run m ρ),
  fun m ρ _ => (θ_run _ _ _).mono (fun _ h => ⟨fun c => (h.1 c).2, h.2⟩) (Cert.KernelIdeal.Val.run m ρ),
  fun m ρ _ => Cert.ReferenceIdeal.Gen.frame m ρ,
  fun m ρ _ => Cert.ReferenceIdeal.Gen.frame m ρ,
  IdealRules.named_const.statement Cert.KernelIdeal.κ _ .f32 _ _ rfl,
  fun m ρ m' ρ' hp he => ⟨fun c => Cert.KernelIdeal.Val.outG m c,
    (θ_run _ _ _).mono (fun _ h => h.1) (Cert.KernelIdeal.Val.run m ρ),
    (θ_run _ _ _).mono (fun _ h c => ⟨(h c).1.trans (agree m m' hp c (he c).1 (he c).2.1 (he c).2.2.1 (he c).2.2.2.1 (he c).2.2.2.2.1 (he c).2.2.2.2.2), (h c).2⟩)
      (Cert.ReferenceIdeal.Value.run m' ρ')⟩⟩

end Cert.Proof

end
